-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "far" .f32 0x7F61B1E6#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v37)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v33)) (v5 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v37) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v33) = v4 c
          ∧ r.2.mem ((c.tc : Thread Cert.KernelIdeal.nD Cert.KernelIdeal.τ).loc Cert.KernelIdeal.main_v34) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_v65) = v4 c
          ∧ r.2.mem ((c.tc : Thread Cert.ReferenceIdeal.nD Cert.ReferenceIdeal.τ).loc Cert.ReferenceIdeal.main_v66) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x2048x3 : Shape := ⟨3, ![8, 2048, 3]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel

variable [Facts]

def fn {F : FTy → Type} [FloatOps F] (main_arg0 : FVec F S8x2048x3 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  main_v3
-- ==== Kernel.lean ====
abbrev S8x2048x3 : Shape := ⟨3, ![8, 2048, 3]⟩
abbrev S8x3x2048 : Shape := ⟨3, ![8, 3, 2048]⟩
abbrev S8x2048x16 : Shape := ⟨3, ![8, 2048, 16]⟩
abbrev S1x256x3 : Shape := ⟨3, ![1, 256, 3]⟩
abbrev S1x3x2048 : Shape := ⟨3, ![1, 3, 2048]⟩
abbrev S1x256x16 : Shape := ⟨3, ![1, 256, 16]⟩
abbrev S256x3 : Shape := ⟨2, ![256, 3]⟩
abbrev S3x2048 : Shape := ⟨2, ![3, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1x2048 : Shape := ⟨2, ![1, 2048]⟩
abbrev S256x16 : Shape := ⟨2, ![256, 16]⟩
abbrev S262144 : Shape := ⟨1, ![262144]⟩
abbrev S16384 : Shape := ⟨1, ![16384]⟩
abbrev S16384x16 : Shape := ⟨2, ![16384, 16]⟩
abbrev S16384x3 : Shape := ⟨2, ![16384, 3]⟩
abbrev S_ : Shape := ⟨0, ![]⟩
abbrev S262144x1 : Shape := ⟨2, ![262144, 1]⟩
abbrev S262144x3 : Shape := ⟨2, ![262144, 3]⟩
abbrev S8x2048x16x3 : Shape := ⟨4, ![8, 2048, 16, 3]⟩
abbrev S8x2048x3x3 : Shape := ⟨4, ![8, 2048, 3, 3]⟩
abbrev S16384x3x3 : Shape := ⟨3, ![16384, 3, 3]⟩
abbrev S16384x9 : Shape := ⟨2, ![16384, 9]⟩
abbrev S9x16384 : Shape := ⟨2, ![9, 16384]⟩
abbrev S9x128x128 : Shape := ⟨3, ![9, 128, 128]⟩
abbrev S3x128x128 : Shape := ⟨3, ![3, 128, 128]⟩
abbrev S9x8x128 : Shape := ⟨3, ![9, 8, 128]⟩
abbrev S3x8x128 : Shape := ⟨3, ![3, 8, 128]⟩
abbrev S1x8x128 : Shape := ⟨3, ![1, 8, 128]⟩
abbrev S8x128 : Shape := ⟨2, ![8, 128]⟩
abbrev S3x16384 : Shape := ⟨2, ![3, 16384]⟩
abbrev S3x3x16384 : Shape := ⟨3, ![3, 3, 16384]⟩

abbrev nBuf : Space → Nat
  | .hbm => 44
  | .vmem => 18
  | .smem => 0
  | _ => 0

abbrev bufTy : (tb : Table) → Fin (tcTables nBuf tb) → BufTy
  | .hbm, ⟨0, _⟩ => ⟨S8x2048x3, .f32⟩
  | .hbm, ⟨1, _⟩ => ⟨S8x3x2048, .f32⟩
  | .hbm, ⟨2, _⟩ => ⟨S8x2048x16, .i32⟩
  | .hbm, ⟨3, _⟩ => ⟨S262144, .i32⟩
  | .hbm, ⟨4, _⟩ => ⟨S16384, .i32⟩
  | .hbm, ⟨5, _⟩ => ⟨S16384x16, .i32⟩
  | .hbm, ⟨6, _⟩ => ⟨S262144, .i32⟩
  | .hbm, ⟨7, _⟩ => ⟨S16384x3, .f32⟩
  | .hbm, ⟨8, _⟩ => ⟨S_, .i32⟩
  | .hbm, ⟨9, _⟩ => ⟨S262144, .i32⟩
  | .hbm, ⟨10, _⟩ => ⟨S262144, .i1⟩
  | .hbm, ⟨11, _⟩ => ⟨S_, .i32⟩
  | .hbm, ⟨12, _⟩ => ⟨S262144, .i32⟩
  | .hbm, ⟨13, _⟩ => ⟨S262144, .i32⟩
  | .hbm, ⟨14, _⟩ => ⟨S262144, .i32⟩
  | .hbm, ⟨15, _⟩ => ⟨S262144x1, .i32⟩
  | .hbm, ⟨16, _⟩ => ⟨S262144x3, .f32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x3, .f32⟩
  | .hbm, ⟨26, _⟩ => ⟨S262144x3, .f32⟩
  | .hbm, ⟨27, _⟩ => ⟨S8x2048x16x3, .f32⟩
  | .hbm, ⟨28, _⟩ => ⟨S8x2048x3x3, .f32⟩
  | .hbm, ⟨29, _⟩ => ⟨S16384x3x3, .f32⟩
  | .hbm, ⟨30, _⟩ => ⟨S16384x9, .f32⟩
  | .hbm, ⟨31, _⟩ => ⟨S9x16384, .f32⟩
  | .hbm, ⟨32, _⟩ => ⟨S9x128x128, .f32⟩
  | .hbm, ⟨33, _⟩ => ⟨S3x128x128, .f32⟩
  | .hbm, ⟨34, _⟩ => ⟨S9x128x128, .f32⟩
  | .hbm, ⟨35, _⟩ => ⟨S3x16384, .f32⟩
  | .hbm, ⟨36, _⟩ => ⟨S16384x3, .f32⟩
  | .hbm, ⟨37, _⟩ => ⟨S3x3x16384, .f32⟩
  | .hbm, ⟨38, _⟩ => ⟨S16384x3x3, .f32⟩
  | .hbm, ⟨39, _⟩ => ⟨S8x2048x3, .f32⟩
  | .hbm, ⟨40, _⟩ => ⟨S8x2048x3x3, .f32⟩
  | .hbm, ⟨41, _⟩ => ⟨S8x3x2048, .f32⟩
  | .hbm, ⟨42, _⟩ => ⟨S8x2048x16, .i32⟩
  | .hbm, ⟨43, _⟩ => ⟨S262144, .i32⟩
  | .local _ .vmem, ⟨0, _⟩ => ⟨S1x256x3, .f32⟩
  | .local _ .vmem, ⟨1, _⟩ => ⟨S1x256x3, .f32⟩
  | .local _ .vmem, ⟨2, _⟩ => ⟨S1x3x2048, .f32⟩
  | .local _ .vmem, ⟨3, _⟩ => ⟨S1x3x2048, .f32⟩
  | .local _ .vmem, ⟨4, _⟩ => ⟨S1x256x16, .i32⟩
  | .local _ .vmem, ⟨5, _⟩ => ⟨S1x256x16, .i32⟩
  | .local _ .vmem, ⟨6, _⟩ => ⟨S9x8x128, .f32⟩
  | .local _ .vmem, ⟨7, _⟩ => ⟨S9x8x128, .f32⟩
  | .local _ .vmem, ⟨8, _⟩ => ⟨S3x8x128, .f32⟩
  | .local _ .vmem, ⟨9, _⟩ => ⟨S3x8x128, .f32⟩
  | .local _ .vmem, ⟨10, _⟩ => ⟨S9x8x128, .f32⟩
  | .local _ .vmem, ⟨11, _⟩ => ⟨S9x8x128, .f32⟩
  | .local _ .vmem, ⟨12, _⟩ => ⟨S1x256x3, .f32⟩
  | .local _ .vmem, ⟨13, _⟩ => ⟨S1x256x3, .f32⟩
  | .local _ .vmem, ⟨14, _⟩ => ⟨S1x3x2048, .f32⟩
  | .local _ .vmem, ⟨15, _⟩ => ⟨S1x3x2048, .f32⟩
  | .local _ .vmem, ⟨16, _⟩ => ⟨S1x256x16, .i32⟩
  | .local _ .vmem, ⟨17, _⟩ => ⟨S1x256x16, .i32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c_1 : Ref sig .tc := ⟨.hbm, 17, rfl⟩
abbrev main_v14 : Ref sig .tc := ⟨.hbm, 18, rfl⟩
abbrev main_v15 : Ref sig .tc := ⟨.hbm, 19, rfl⟩
abbrev main_c_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28_0 : Ref sig .tc := ⟨.hbm, 33, rfl⟩
abbrev main_v28_1 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![16], ![false]⟩

@[reducible] def k1_t1_loop : Scf.Loop 32 :=
  let c0_i32 : BitVec 32 := 0#32
  let c8_i32 : BitVec 32 := 8#32
  let v42 : BitVec 32 := Scalar.addi c0_i32 c8_i32
  let c1_i32 : BitVec 32 := 1#32
  ⟨c0_i32, v42, c1_i32⟩
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S9x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S9x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x3x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x256x16 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== KernelIdeal.lean ====
variable {F : FTy → Type} [FloatOps F] [Named F]
def κ : String → Option EReal := fun
  | "far" => some ⊤
  | _ => none
-- ==== ReferenceIdeal.lean ====
abbrev S8x2048x3 : Shape := ⟨3, ![8, 2048, 3]⟩
abbrev S3x3 : Shape := ⟨2, ![3, 3]⟩
abbrev S16384x3 : Shape := ⟨2, ![16384, 3]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S8x2048x16 : Shape := ⟨3, ![8, 2048, 16]⟩
abbrev S8 : Shape := ⟨1, ![8]⟩
abbrev S8x1x1 : Shape := ⟨3, ![8, 1, 1]⟩
abbrev S262144 : Shape := ⟨1, ![262144]⟩
abbrev S16384 : Shape := ⟨1, ![16384]⟩
abbrev S16384x16 : Shape := ⟨2, ![16384, 16]⟩
abbrev S262144x1 : Shape := ⟨2, ![262144, 1]⟩
abbrev S262144x3 : Shape := ⟨2, ![262144, 3]⟩
abbrev S8x2048x16x3 : Shape := ⟨4, ![8, 2048, 16, 3]⟩
abbrev S8x2048x3x3 : Shape := ⟨4, ![8, 2048, 3, 3]⟩
abbrev S16384x3x3 : Shape := ⟨3, ![16384, 3, 3]⟩
abbrev S16384x1x1 : Shape := ⟨3, ![16384, 1, 1]⟩
abbrev S1x3x3 : Shape := ⟨3, ![1, 3, 3]⟩
abbrev S16384x1 : Shape := ⟨2, ![16384, 1]⟩
abbrev S16384x1x3 : Shape := ⟨3, ![16384, 1, 3]⟩

abbrev nBuf : Space → Nat
  | .hbm => 338
  | .vmem => 0
  | .smem => 0
  | _ => 0

abbrev hbmTy0_0 (i : Nat) : BufTy := match i % 128 with
  | 0 => ⟨S8x2048x3, .f32⟩
  | 1 => ⟨S3x3, .f32⟩
  | 2 => ⟨S3x3, .f32⟩
  | 3 => ⟨S3x3, .f32⟩
  | 4 => ⟨S3x3, .f32⟩
  | 5 => ⟨S3x3, .f32⟩
  | 6 => ⟨S3x3, .f32⟩
  | 7 => ⟨S3x3, .f32⟩
  | 8 => ⟨S3x3, .f32⟩
  | 9 => ⟨S3x3, .f32⟩
  | 10 => ⟨S3x3, .f32⟩
  | 11 => ⟨S16384x3, .f32⟩
  | 12 => ⟨S8x2048x3, .f32⟩
  | 13 => ⟨S_, .f32⟩
  | 14 => ⟨S8x2048, .f32⟩
  | 15 => ⟨S8x2048x1, .f32⟩
  | 16 => ⟨S8x1x2048, .f32⟩
  | 17 => ⟨S8x2048x2048, .f32⟩
  | 18 => ⟨S8x2048x2048, .f32⟩
  | 19 => ⟨S8x2048x2048, .f32⟩
  | 20 => ⟨S8x2048x2048, .f32⟩
  | 21 => ⟨S_, .f32⟩
  | 22 => ⟨S8x2048x2048, .f32⟩
  | 23 => ⟨S8x2048x2048, .f32⟩
  | 24 => ⟨S8x2048x2048, .f32⟩
  | 25 => ⟨S_, .f32⟩
  | 26 => ⟨S8x2048x2048, .f32⟩
  | 27 => ⟨S8x2048x2048, .f32⟩
  | 28 => ⟨S8x2048x2048, .f32⟩
  | 29 => ⟨S8x2048x16, .f32⟩
  | 30 => ⟨S8x2048x16, .i32⟩
  | 31 => ⟨S8, .i32⟩
  | 32 => ⟨S_, .i32⟩
  | 33 => ⟨S8, .i32⟩
  | 34 => ⟨S8, .i32⟩
  | 35 => ⟨S8x1x1, .i32⟩
  | 36 => ⟨S8x2048x16, .i32⟩
  | 37 => ⟨S8x2048x16, .i32⟩
  | 38 => ⟨S262144, .i32⟩
  | 39 => ⟨S16384, .i32⟩
  | 40 => ⟨S16384x16, .i32⟩
  | 41 => ⟨S262144, .i32⟩
  | 42 => ⟨S_, .i32⟩
  | 43 => ⟨S262144, .i32⟩
  | 44 => ⟨S262144, .i1⟩
  | 45 => ⟨S_, .i32⟩
  | 46 => ⟨S262144, .i32⟩
  | 47 => ⟨S262144, .i32⟩
  | 48 => ⟨S262144, .i32⟩
  | 49 => ⟨S262144x1, .i32⟩
  | 50 => ⟨S262144x3, .f32⟩
  | 51 => ⟨S_, .i32⟩
  | 52 => ⟨S262144, .i32⟩
  | 53 => ⟨S262144, .i1⟩
  | 54 => ⟨S_, .i32⟩
  | 55 => ⟨S262144, .i32⟩
  | 56 => ⟨S262144, .i32⟩
  | 57 => ⟨S262144, .i32⟩
  | 58 => ⟨S262144x1, .i32⟩
  | 59 => ⟨S262144x3, .f32⟩
  | 60 => ⟨S262144x3, .f32⟩
  | 61 => ⟨S8x2048x16x3, .f32⟩
  | 62 => ⟨S8x2048x3x3, .f32⟩
  | 63 => ⟨S16384x3x3, .f32⟩
  | 64 => ⟨S16384x3x3, .f32⟩
  | 65 => ⟨S_, .f32⟩
  | 66 => ⟨S16384, .f32⟩
  | 67 => ⟨S16384, .f32⟩
  | 68 => ⟨S_, .f32⟩
  | 69 => ⟨S16384, .f32⟩
  | 70 => ⟨S16384, .f32⟩
  | 71 => ⟨S16384x3x3, .f32⟩
  | 72 => ⟨S_, .i32⟩
  | 73 => ⟨S_, .i32⟩
  | 74 => ⟨S16384, .f32⟩
  | 75 => ⟨S3x3, .f32⟩
  | 76 => ⟨S3x3, .f32⟩
  | 77 => ⟨S3x3, .f32⟩
  | 78 => ⟨S3x3, .f32⟩
  | 79 => ⟨S3x3, .f32⟩
  | 80 => ⟨S3x3, .f32⟩
  | 81 => ⟨S3x3, .f32⟩
  | 82 => ⟨S3x3, .f32⟩
  | 83 => ⟨S3x3, .f32⟩
  | 84 => ⟨S_, .i32⟩
  | 85 => ⟨S_, .i32⟩
  | 86 => ⟨S16384x3x3, .f32⟩
  | 87 => ⟨S16384x3x3, .f32⟩
  | 88 => ⟨S_, .i32⟩
  | 89 => ⟨S_, .i1⟩
  | 90 => ⟨S_, .i32⟩
  | 91 => ⟨S_, .i32⟩
  | 92 => ⟨S16384x1x1, .f32⟩
  | 93 => ⟨S16384, .f32⟩
  | 94 => ⟨S16384x1x1, .f32⟩
  | 95 => ⟨S16384, .f32⟩
  | 96 => ⟨S16384x1x1, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S_, .f32⟩
  | 104 => ⟨S16384, .f32⟩
  | 105 => ⟨S16384, .f32⟩
  | 106 => ⟨S16384, .f32⟩
  | 107 => ⟨S16384, .i1⟩
  | 108 => ⟨S16384x1x1, .f32⟩
  | 109 => ⟨S16384, .f32⟩
  | 110 => ⟨S16384x1x1, .f32⟩
  | 111 => ⟨S16384, .f32⟩
  | 112 => ⟨S16384x1x1, .f32⟩
  | 113 => ⟨S16384, .f32⟩
  | 114 => ⟨S_, .f32⟩
  | 115 => ⟨S16384, .f32⟩
  | 116 => ⟨S_, .f32⟩
  | 117 => ⟨S16384, .f32⟩
  | 118 => ⟨S_, .f32⟩
  | 119 => ⟨S16384, .f32⟩
  | 120 => ⟨S16384, .i1⟩
  | 121 => ⟨S16384, .i1⟩
  | 122 => ⟨S16384, .f32⟩
  | 123 => ⟨S_, .f32⟩
  | 124 => ⟨S16384, .f32⟩
  | 125 => ⟨S16384, .f32⟩
  | 126 => ⟨S16384, .f32⟩
  | 127 => ⟨S_, .f32⟩
  | _ => ⟨S8x2048x3, .f32⟩

abbrev hbmTy0_1 (i : Nat) : BufTy := match i % 128 with
  | 0 => ⟨S16384, .f32⟩
  | 1 => ⟨S16384, .i1⟩
  | 2 => ⟨S16384, .f32⟩
  | 3 => ⟨S16384, .f32⟩
  | 4 => ⟨S16384, .f32⟩
  | 5 => ⟨S16384, .f32⟩
  | 6 => ⟨S_, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S_, .f32⟩
  | 14 => ⟨S16384, .f32⟩
  | 15 => ⟨S16384, .f32⟩
  | 16 => ⟨S16384, .f32⟩
  | 17 => ⟨S_, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384x1x1, .f32⟩
  | 24 => ⟨S1x3x3, .f32⟩
  | 25 => ⟨S16384x3x3, .f32⟩
  | 26 => ⟨S16384x3x3, .f32⟩
  | 27 => ⟨S16384x3x3, .f32⟩
  | 28 => ⟨S16384x1x1, .f32⟩
  | 29 => ⟨S1x3x3, .f32⟩
  | 30 => ⟨S16384x3x3, .f32⟩
  | 31 => ⟨S16384x3x3, .f32⟩
  | 32 => ⟨S16384x3x3, .f32⟩
  | 33 => ⟨S16384x3x3, .f32⟩
  | 34 => ⟨S1x3x3, .f32⟩
  | 35 => ⟨S16384x3x3, .f32⟩
  | 36 => ⟨S16384x3x3, .f32⟩
  | 37 => ⟨S16384x3x3, .f32⟩
  | 38 => ⟨S16384x3x3, .f32⟩
  | 39 => ⟨S16384x3x3, .f32⟩
  | 40 => ⟨S16384x1x1, .f32⟩
  | 41 => ⟨S16384, .f32⟩
  | 42 => ⟨S16384x1x1, .f32⟩
  | 43 => ⟨S16384, .f32⟩
  | 44 => ⟨S16384x1x1, .f32⟩
  | 45 => ⟨S16384, .f32⟩
  | 46 => ⟨S_, .f32⟩
  | 47 => ⟨S16384, .f32⟩
  | 48 => ⟨S_, .f32⟩
  | 49 => ⟨S16384, .f32⟩
  | 50 => ⟨S_, .f32⟩
  | 51 => ⟨S16384, .f32⟩
  | 52 => ⟨S16384, .i1⟩
  | 53 => ⟨S16384, .i1⟩
  | 54 => ⟨S16384, .f32⟩
  | 55 => ⟨S_, .f32⟩
  | 56 => ⟨S16384, .f32⟩
  | 57 => ⟨S16384, .f32⟩
  | 58 => ⟨S16384, .f32⟩
  | 59 => ⟨S_, .f32⟩
  | 60 => ⟨S16384, .f32⟩
  | 61 => ⟨S16384, .i1⟩
  | 62 => ⟨S16384, .f32⟩
  | 63 => ⟨S16384, .f32⟩
  | 64 => ⟨S16384, .f32⟩
  | 65 => ⟨S16384, .f32⟩
  | 66 => ⟨S_, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S_, .f32⟩
  | 74 => ⟨S16384, .f32⟩
  | 75 => ⟨S16384, .f32⟩
  | 76 => ⟨S16384, .f32⟩
  | 77 => ⟨S_, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384x1x1, .f32⟩
  | 84 => ⟨S1x3x3, .f32⟩
  | 85 => ⟨S16384x3x3, .f32⟩
  | 86 => ⟨S16384x3x3, .f32⟩
  | 87 => ⟨S16384x3x3, .f32⟩
  | 88 => ⟨S16384x1x1, .f32⟩
  | 89 => ⟨S1x3x3, .f32⟩
  | 90 => ⟨S16384x3x3, .f32⟩
  | 91 => ⟨S16384x3x3, .f32⟩
  | 92 => ⟨S16384x3x3, .f32⟩
  | 93 => ⟨S16384x3x3, .f32⟩
  | 94 => ⟨S1x3x3, .f32⟩
  | 95 => ⟨S16384x3x3, .f32⟩
  | 96 => ⟨S16384x3x3, .f32⟩
  | 97 => ⟨S16384x3x3, .f32⟩
  | 98 => ⟨S16384x3x3, .f32⟩
  | 99 => ⟨S16384x3x3, .f32⟩
  | 100 => ⟨S16384x1x1, .f32⟩
  | 101 => ⟨S16384, .f32⟩
  | 102 => ⟨S16384x1x1, .f32⟩
  | 103 => ⟨S16384, .f32⟩
  | 104 => ⟨S16384x1x1, .f32⟩
  | 105 => ⟨S16384, .f32⟩
  | 106 => ⟨S_, .f32⟩
  | 107 => ⟨S16384, .f32⟩
  | 108 => ⟨S_, .f32⟩
  | 109 => ⟨S16384, .f32⟩
  | 110 => ⟨S_, .f32⟩
  | 111 => ⟨S16384, .f32⟩
  | 112 => ⟨S16384, .i1⟩
  | 113 => ⟨S16384, .i1⟩
  | 114 => ⟨S16384, .f32⟩
  | 115 => ⟨S_, .f32⟩
  | 116 => ⟨S16384, .f32⟩
  | 117 => ⟨S16384, .f32⟩
  | 118 => ⟨S16384, .f32⟩
  | 119 => ⟨S_, .f32⟩
  | 120 => ⟨S16384, .f32⟩
  | 121 => ⟨S16384, .i1⟩
  | 122 => ⟨S16384, .f32⟩
  | 123 => ⟨S16384, .f32⟩
  | 124 => ⟨S16384, .f32⟩
  | 125 => ⟨S16384, .f32⟩
  | 126 => ⟨S_, .f32⟩
  | 127 => ⟨S16384, .f32⟩
  | _ => ⟨S8x2048x3, .f32⟩

abbrev hbmTy0_2 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S_, .f32⟩
  | 6 => ⟨S16384, .f32⟩
  | 7 => ⟨S16384, .f32⟩
  | 8 => ⟨S16384, .f32⟩
  | 9 => ⟨S_, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384x1x1, .f32⟩
  | 16 => ⟨S1x3x3, .f32⟩
  | 17 => ⟨S16384x3x3, .f32⟩
  | 18 => ⟨S16384x3x3, .f32⟩
  | 19 => ⟨S16384x3x3, .f32⟩
  | 20 => ⟨S16384x1x1, .f32⟩
  | 21 => ⟨S1x3x3, .f32⟩
  | 22 => ⟨S16384x3x3, .f32⟩
  | 23 => ⟨S16384x3x3, .f32⟩
  | 24 => ⟨S16384x3x3, .f32⟩
  | 25 => ⟨S16384x3x3, .f32⟩
  | 26 => ⟨S1x3x3, .f32⟩
  | 27 => ⟨S16384x3x3, .f32⟩
  | 28 => ⟨S16384x3x3, .f32⟩
  | 29 => ⟨S16384x3x3, .f32⟩
  | 30 => ⟨S16384x3x3, .f32⟩
  | 31 => ⟨S16384x3x3, .f32⟩
  | 32 => ⟨S_, .i32⟩
  | 33 => ⟨S_, .i32⟩
  | 34 => ⟨S16384x1x1, .f32⟩
  | 35 => ⟨S16384, .f32⟩
  | 36 => ⟨S16384x1x1, .f32⟩
  | 37 => ⟨S16384, .f32⟩
  | 38 => ⟨S16384x1x1, .f32⟩
  | 39 => ⟨S16384, .f32⟩
  | 40 => ⟨S16384x1, .f32⟩
  | 41 => ⟨S16384x1, .f32⟩
  | 42 => ⟨S16384x1, .f32⟩
  | 43 => ⟨S16384x3, .f32⟩
  | 44 => ⟨S16384x1x3, .f32⟩
  | 45 => ⟨S16384x3x3, .f32⟩
  | 46 => ⟨S16384x3x3, .f32⟩
  | 47 => ⟨S16384x3x3, .f32⟩
  | 48 => ⟨S16384x1x3, .f32⟩
  | 49 => ⟨S16384x3, .f32⟩
  | 50 => ⟨S8x2048x3, .f32⟩
  | 51 => ⟨S8x2048x3x3, .f32⟩
  | 52 => ⟨S8x2048x3, .f32⟩
  | 53 => ⟨S_, .f32⟩
  | 54 => ⟨S8x2048, .f32⟩
  | 55 => ⟨S8x2048x1, .f32⟩
  | 56 => ⟨S8x1x2048, .f32⟩
  | 57 => ⟨S8x2048x2048, .f32⟩
  | 58 => ⟨S8x2048x2048, .f32⟩
  | 59 => ⟨S8x2048x2048, .f32⟩
  | 60 => ⟨S8x2048x2048, .f32⟩
  | 61 => ⟨S_, .f32⟩
  | 62 => ⟨S8x2048x2048, .f32⟩
  | 63 => ⟨S8x2048x2048, .f32⟩
  | 64 => ⟨S8x2048x2048, .f32⟩
  | 65 => ⟨S_, .f32⟩
  | 66 => ⟨S8x2048x2048, .f32⟩
  | 67 => ⟨S8x2048x2048, .f32⟩
  | 68 => ⟨S8x2048x2048, .f32⟩
  | 69 => ⟨S8x2048x16, .f32⟩
  | 70 => ⟨S8x2048x16, .i32⟩
  | 71 => ⟨S8, .i32⟩
  | 72 => ⟨S_, .i32⟩
  | 73 => ⟨S8, .i32⟩
  | 74 => ⟨S8, .i32⟩
  | 75 => ⟨S8x1x1, .i32⟩
  | 76 => ⟨S8x2048x16, .i32⟩
  | 77 => ⟨S8x2048x16, .i32⟩
  | 78 => ⟨S262144, .i32⟩
  | 79 => ⟨S16384, .i32⟩
  | 80 => ⟨S16384x16, .i32⟩
  | 81 => ⟨S262144, .i32⟩
  | _ => ⟨S8x2048x3, .f32⟩

abbrev hbmTy (i : Nat) : BufTy := match i / 128 with
  | 0 => hbmTy0_0 i
  | 1 => hbmTy0_1 i
  | 2 => hbmTy0_2 i
  | _ => ⟨S8x2048x3, .f32⟩

abbrev bufTy : (tb : Table) → Fin (tcTables nBuf tb) → BufTy
  | .hbm, ⟨i, _⟩ => hbmTy i
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_cst_2 : Ref sig .tc := ⟨.hbm, 4, rfl⟩
abbrev main_cst_3 : Ref sig .tc := ⟨.hbm, 5, rfl⟩
abbrev main_cst_4 : Ref sig .tc := ⟨.hbm, 6, rfl⟩
abbrev main_cst_5 : Ref sig .tc := ⟨.hbm, 7, rfl⟩
abbrev main_cst_6 : Ref sig .tc := ⟨.hbm, 8, rfl⟩
abbrev main_cst_7 : Ref sig .tc := ⟨.hbm, 9, rfl⟩
abbrev main_cst_8 : Ref sig .tc := ⟨.hbm, 10, rfl⟩
abbrev main_v0 : Ref sig .tc := ⟨.hbm, 11, rfl⟩
abbrev main_v1 : Ref sig .tc := ⟨.hbm, 12, rfl⟩
abbrev main_cst_9 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_10 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_values : Ref sig .tc := ⟨.hbm, 29, rfl⟩
abbrev main_indices : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_12 : Ref sig .tc := ⟨.hbm, 42, rfl⟩
abbrev main_v25 : Ref sig .tc := ⟨.hbm, 43, rfl⟩
abbrev main_v26 : Ref sig .tc := ⟨.hbm, 44, rfl⟩
abbrev main_c_13 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_14 : Ref sig .tc := ⟨.hbm, 51, rfl⟩
abbrev main_v32 : Ref sig .tc := ⟨.hbm, 52, rfl⟩
abbrev main_v33 : Ref sig .tc := ⟨.hbm, 53, rfl⟩
abbrev main_c_15 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_16 : Ref sig .tc := ⟨.hbm, 65, rfl⟩
abbrev main_v44 : Ref sig .tc := ⟨.hbm, 66, rfl⟩
abbrev main_v45 : Ref sig .tc := ⟨.hbm, 67, rfl⟩
abbrev main_cst_17 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_18 : Ref sig .tc := ⟨.hbm, 72, rfl⟩
abbrev main_c_19 : Ref sig .tc := ⟨.hbm, 73, rfl⟩
abbrev main_v49_0 : Ref sig .tc := ⟨.hbm, 74, rfl⟩
abbrev main_v49_1 : Ref sig .tc := ⟨.hbm, 75, rfl⟩
abbrev main_v49_2 : Ref sig .tc := ⟨.hbm, 76, rfl⟩
abbrev main_v49_3 : Ref sig .tc := ⟨.hbm, 77, rfl⟩
abbrev main_v49_4 : Ref sig .tc := ⟨.hbm, 78, rfl⟩
abbrev main_v49_5 : Ref sig .tc := ⟨.hbm, 79, rfl⟩
abbrev main_v49_6 : Ref sig .tc := ⟨.hbm, 80, rfl⟩
abbrev main_v49_7 : Ref sig .tc := ⟨.hbm, 81, rfl⟩
abbrev main_v49_8 : Ref sig .tc := ⟨.hbm, 82, rfl⟩
abbrev main_v49_9 : Ref sig .tc := ⟨.hbm, 83, rfl⟩
abbrev main_v49_10 : Ref sig .tc := ⟨.hbm, 84, rfl⟩
abbrev main_v49_11 : Ref sig .tc := ⟨.hbm, 85, rfl⟩
abbrev main_v49_12 : Ref sig .tc := ⟨.hbm, 86, rfl⟩
abbrev main_v49_13 : Ref sig .tc := ⟨.hbm, 87, rfl⟩
abbrev main_while0c_c_39 : Ref sig .tc := ⟨.hbm, 88, rfl⟩
abbrev main_while0c_v91 : Ref sig .tc := ⟨.hbm, 89, rfl⟩
abbrev main_while0b_c_39 : Ref sig .tc := ⟨.hbm, 90, rfl⟩
abbrev main_while0b_v91 : Ref sig .tc := ⟨.hbm, 91, rfl⟩
abbrev main_while0b_v92 : Ref sig .tc := ⟨.hbm, 92, rfl⟩
abbrev main_while0b_v93 : Ref sig .tc := ⟨.hbm, 93, rfl⟩
abbrev main_while0b_v94 : Ref sig .tc := ⟨.hbm, 94, rfl⟩
abbrev main_while0b_v95 : Ref sig .tc := ⟨.hbm, 95, rfl⟩
abbrev main_while0b_v96 : Ref sig .tc := ⟨.hbm, 96, rfl⟩
abbrev main_while0b_v97 : Ref sig .tc := ⟨.hbm, 97, rfl⟩
abbrev main_while0b_v98 : Ref sig .tc := ⟨.hbm, 98, rfl⟩
abbrev main_while0b_v99 : Ref sig .tc := ⟨.hbm, 99, rfl⟩
abbrev main_while0b_v100 : Ref sig .tc := ⟨.hbm, 100, rfl⟩
abbrev main_while0b_v101 : Ref sig .tc := ⟨.hbm, 101, rfl⟩
abbrev main_while0b_v102 : Ref sig .tc := ⟨.hbm, 102, rfl⟩
abbrev main_while0b_cst_40 : Ref sig .tc := ⟨.hbm, 103, rfl⟩
abbrev main_while0b_v103 : Ref sig .tc := ⟨.hbm, 104, rfl⟩
abbrev main_while0b_v104 : Ref sig .tc := ⟨.hbm, 105, rfl⟩
abbrev main_while0b_v105 : Ref sig .tc := ⟨.hbm, 106, rfl⟩
abbrev main_while0b_v106 : Ref sig .tc := ⟨.hbm, 107, rfl⟩
abbrev main_while0b_v107 : Ref sig .tc := ⟨.hbm, 108, rfl⟩
abbrev main_while0b_v108 : Ref sig .tc := ⟨.hbm, 109, rfl⟩
abbrev main_while0b_v109 : Ref sig .tc := ⟨.hbm, 110, rfl⟩
abbrev main_while0b_v110 : Ref sig .tc := ⟨.hbm, 111, rfl⟩
abbrev main_while0b_v111 : Ref sig .tc := ⟨.hbm, 112, rfl⟩
abbrev main_while0b_v112 : Ref sig .tc := ⟨.hbm, 113, rfl⟩
abbrev main_while0b_cst_41 : Ref sig .tc := ⟨.hbm, 114, rfl⟩
abbrev main_while0b_v113 : Ref sig .tc := ⟨.hbm, 115, rfl⟩
abbrev main_while0b_cst_42 : Ref sig .tc := ⟨.hbm, 116, rfl⟩
abbrev main_while0b_v114 : Ref sig .tc := ⟨.hbm, 117, rfl⟩
abbrev main_while0b_cst_43 : Ref sig .tc := ⟨.hbm, 118, rfl⟩
abbrev main_while0b_v115 : Ref sig .tc := ⟨.hbm, 119, rfl⟩
abbrev main_while0b_v116 : Ref sig .tc := ⟨.hbm, 120, rfl⟩
abbrev main_while0b_v117 : Ref sig .tc := ⟨.hbm, 121, rfl⟩
abbrev main_while0b_v118 : Ref sig .tc := ⟨.hbm, 122, rfl⟩
abbrev main_while0b_cst_44 : Ref sig .tc := ⟨.hbm, 123, rfl⟩
abbrev main_while0b_v119 : Ref sig .tc := ⟨.hbm, 124, rfl⟩
abbrev main_while0b_v120 : Ref sig .tc := ⟨.hbm, 125, rfl⟩
abbrev main_while0b_v121 : Ref sig .tc := ⟨.hbm, 126, rfl⟩
abbrev main_while0b_cst_45 : Ref sig .tc := ⟨.hbm, 127, rfl⟩
abbrev main_while0b_v122 : Ref sig .tc := ⟨.hbm, 128, rfl⟩
abbrev main_while0b_v123 : Ref sig .tc := ⟨.hbm, 129, rfl⟩
abbrev main_while0b_v124 : Ref sig .tc := ⟨.hbm, 130, rfl⟩
abbrev main_while0b_v125 : Ref sig .tc := ⟨.hbm, 131, rfl⟩
abbrev main_while0b_v126 : Ref sig .tc := ⟨.hbm, 132, rfl⟩
abbrev main_while0b_v127 : Ref sig .tc := ⟨.hbm, 133, rfl⟩
abbrev main_while0b_cst_46 : Ref sig .tc := ⟨.hbm, 134, rfl⟩
abbrev main_while0b_v128 : Ref sig .tc := ⟨.hbm, 135, rfl⟩
abbrev main_while0b_v129 : Ref sig .tc := ⟨.hbm, 136, rfl⟩
abbrev main_while0b_v130 : Ref sig .tc := ⟨.hbm, 137, rfl⟩
abbrev main_while0b_v131 : Ref sig .tc := ⟨.hbm, 138, rfl⟩
abbrev main_while0b_v132 : Ref sig .tc := ⟨.hbm, 139, rfl⟩
abbrev main_while0b_v133 : Ref sig .tc := ⟨.hbm, 140, rfl⟩
abbrev main_while0b_cst_47 : Ref sig .tc := ⟨.hbm, 141, rfl⟩
abbrev main_while0b_v134 : Ref sig .tc := ⟨.hbm, 142, rfl⟩
abbrev main_while0b_v135 : Ref sig .tc := ⟨.hbm, 143, rfl⟩
abbrev main_while0b_v136 : Ref sig .tc := ⟨.hbm, 144, rfl⟩
abbrev main_while0b_cst_48 : Ref sig .tc := ⟨.hbm, 145, rfl⟩
abbrev main_while0b_v137 : Ref sig .tc := ⟨.hbm, 146, rfl⟩
abbrev main_while0b_v138 : Ref sig .tc := ⟨.hbm, 147, rfl⟩
abbrev main_while0b_v139 : Ref sig .tc := ⟨.hbm, 148, rfl⟩
abbrev main_while0b_v140 : Ref sig .tc := ⟨.hbm, 149, rfl⟩
abbrev main_while0b_v141 : Ref sig .tc := ⟨.hbm, 150, rfl⟩
abbrev main_while0b_v142 : Ref sig .tc := ⟨.hbm, 151, rfl⟩
abbrev main_while0b_v143 : Ref sig .tc := ⟨.hbm, 152, rfl⟩
abbrev main_while0b_v144 : Ref sig .tc := ⟨.hbm, 153, rfl⟩
abbrev main_while0b_v145 : Ref sig .tc := ⟨.hbm, 154, rfl⟩
abbrev main_while0b_v146 : Ref sig .tc := ⟨.hbm, 155, rfl⟩
abbrev main_while0b_v147 : Ref sig .tc := ⟨.hbm, 156, rfl⟩
abbrev main_while0b_v148 : Ref sig .tc := ⟨.hbm, 157, rfl⟩
abbrev main_while0b_v149 : Ref sig .tc := ⟨.hbm, 158, rfl⟩
abbrev main_while0b_v150 : Ref sig .tc := ⟨.hbm, 159, rfl⟩
abbrev main_while0b_v151 : Ref sig .tc := ⟨.hbm, 160, rfl⟩
abbrev main_while0b_v152 : Ref sig .tc := ⟨.hbm, 161, rfl⟩
abbrev main_while0b_v153 : Ref sig .tc := ⟨.hbm, 162, rfl⟩
abbrev main_while0b_v154 : Ref sig .tc := ⟨.hbm, 163, rfl⟩
abbrev main_while0b_v155 : Ref sig .tc := ⟨.hbm, 164, rfl⟩
abbrev main_while0b_v156 : Ref sig .tc := ⟨.hbm, 165, rfl⟩
abbrev main_while0b_v157 : Ref sig .tc := ⟨.hbm, 166, rfl⟩
abbrev main_while0b_v158 : Ref sig .tc := ⟨.hbm, 167, rfl⟩
abbrev main_while0b_v159 : Ref sig .tc := ⟨.hbm, 168, rfl⟩
abbrev main_while0b_v160 : Ref sig .tc := ⟨.hbm, 169, rfl⟩
abbrev main_while0b_v161 : Ref sig .tc := ⟨.hbm, 170, rfl⟩
abbrev main_while0b_v162 : Ref sig .tc := ⟨.hbm, 171, rfl⟩
abbrev main_while0b_v163 : Ref sig .tc := ⟨.hbm, 172, rfl⟩
abbrev main_while0b_v164 : Ref sig .tc := ⟨.hbm, 173, rfl⟩
abbrev main_while0b_cst_49 : Ref sig .tc := ⟨.hbm, 174, rfl⟩
abbrev main_while0b_v165 : Ref sig .tc := ⟨.hbm, 175, rfl⟩
abbrev main_while0b_cst_50 : Ref sig .tc := ⟨.hbm, 176, rfl⟩
abbrev main_while0b_v166 : Ref sig .tc := ⟨.hbm, 177, rfl⟩
abbrev main_while0b_cst_51 : Ref sig .tc := ⟨.hbm, 178, rfl⟩
abbrev main_while0b_v167 : Ref sig .tc := ⟨.hbm, 179, rfl⟩
abbrev main_while0b_v168 : Ref sig .tc := ⟨.hbm, 180, rfl⟩
abbrev main_while0b_v169 : Ref sig .tc := ⟨.hbm, 181, rfl⟩
abbrev main_while0b_v170 : Ref sig .tc := ⟨.hbm, 182, rfl⟩
abbrev main_while0b_cst_52 : Ref sig .tc := ⟨.hbm, 183, rfl⟩
abbrev main_while0b_v171 : Ref sig .tc := ⟨.hbm, 184, rfl⟩
abbrev main_while0b_v172 : Ref sig .tc := ⟨.hbm, 185, rfl⟩
abbrev main_while0b_v173 : Ref sig .tc := ⟨.hbm, 186, rfl⟩
abbrev main_while0b_cst_53 : Ref sig .tc := ⟨.hbm, 187, rfl⟩
abbrev main_while0b_v174 : Ref sig .tc := ⟨.hbm, 188, rfl⟩
abbrev main_while0b_v175 : Ref sig .tc := ⟨.hbm, 189, rfl⟩
abbrev main_while0b_v176 : Ref sig .tc := ⟨.hbm, 190, rfl⟩
abbrev main_while0b_v177 : Ref sig .tc := ⟨.hbm, 191, rfl⟩
abbrev main_while0b_v178 : Ref sig .tc := ⟨.hbm, 192, rfl⟩
abbrev main_while0b_v179 : Ref sig .tc := ⟨.hbm, 193, rfl⟩
abbrev main_while0b_cst_54 : Ref sig .tc := ⟨.hbm, 194, rfl⟩
abbrev main_while0b_v180 : Ref sig .tc := ⟨.hbm, 195, rfl⟩
abbrev main_while0b_v181 : Ref sig .tc := ⟨.hbm, 196, rfl⟩
abbrev main_while0b_v182 : Ref sig .tc := ⟨.hbm, 197, rfl⟩
abbrev main_while0b_v183 : Ref sig .tc := ⟨.hbm, 198, rfl⟩
abbrev main_while0b_v184 : Ref sig .tc := ⟨.hbm, 199, rfl⟩
abbrev main_while0b_v185 : Ref sig .tc := ⟨.hbm, 200, rfl⟩
abbrev main_while0b_cst_55 : Ref sig .tc := ⟨.hbm, 201, rfl⟩
abbrev main_while0b_v186 : Ref sig .tc := ⟨.hbm, 202, rfl⟩
abbrev main_while0b_v187 : Ref sig .tc := ⟨.hbm, 203, rfl⟩
abbrev main_while0b_v188 : Ref sig .tc := ⟨.hbm, 204, rfl⟩
abbrev main_while0b_cst_56 : Ref sig .tc := ⟨.hbm, 205, rfl⟩
abbrev main_while0b_v189 : Ref sig .tc := ⟨.hbm, 206, rfl⟩
abbrev main_while0b_v190 : Ref sig .tc := ⟨.hbm, 207, rfl⟩
abbrev main_while0b_v191 : Ref sig .tc := ⟨.hbm, 208, rfl⟩
abbrev main_while0b_v192 : Ref sig .tc := ⟨.hbm, 209, rfl⟩
abbrev main_while0b_v193 : Ref sig .tc := ⟨.hbm, 210, rfl⟩
abbrev main_while0b_v194 : Ref sig .tc := ⟨.hbm, 211, rfl⟩
abbrev main_while0b_v195 : Ref sig .tc := ⟨.hbm, 212, rfl⟩
abbrev main_while0b_v196 : Ref sig .tc := ⟨.hbm, 213, rfl⟩
abbrev main_while0b_v197 : Ref sig .tc := ⟨.hbm, 214, rfl⟩
abbrev main_while0b_v198 : Ref sig .tc := ⟨.hbm, 215, rfl⟩
abbrev main_while0b_v199 : Ref sig .tc := ⟨.hbm, 216, rfl⟩
abbrev main_while0b_v200 : Ref sig .tc := ⟨.hbm, 217, rfl⟩
abbrev main_while0b_v201 : Ref sig .tc := ⟨.hbm, 218, rfl⟩
abbrev main_while0b_v202 : Ref sig .tc := ⟨.hbm, 219, rfl⟩
abbrev main_while0b_v203 : Ref sig .tc := ⟨.hbm, 220, rfl⟩
abbrev main_while0b_v204 : Ref sig .tc := ⟨.hbm, 221, rfl⟩
abbrev main_while0b_v205 : Ref sig .tc := ⟨.hbm, 222, rfl⟩
abbrev main_while0b_v206 : Ref sig .tc := ⟨.hbm, 223, rfl⟩
abbrev main_while0b_v207 : Ref sig .tc := ⟨.hbm, 224, rfl⟩
abbrev main_while0b_v208 : Ref sig .tc := ⟨.hbm, 225, rfl⟩
abbrev main_while0b_v209 : Ref sig .tc := ⟨.hbm, 226, rfl⟩
abbrev main_while0b_v210 : Ref sig .tc := ⟨.hbm, 227, rfl⟩
abbrev main_while0b_v211 : Ref sig .tc := ⟨.hbm, 228, rfl⟩
abbrev main_while0b_v212 : Ref sig .tc := ⟨.hbm, 229, rfl⟩
abbrev main_while0b_v213 : Ref sig .tc := ⟨.hbm, 230, rfl⟩
abbrev main_while0b_v214 : Ref sig .tc := ⟨.hbm, 231, rfl⟩
abbrev main_while0b_v215 : Ref sig .tc := ⟨.hbm, 232, rfl⟩
abbrev main_while0b_v216 : Ref sig .tc := ⟨.hbm, 233, rfl⟩
abbrev main_while0b_cst_57 : Ref sig .tc := ⟨.hbm, 234, rfl⟩
abbrev main_while0b_v217 : Ref sig .tc := ⟨.hbm, 235, rfl⟩
abbrev main_while0b_cst_58 : Ref sig .tc := ⟨.hbm, 236, rfl⟩
abbrev main_while0b_v218 : Ref sig .tc := ⟨.hbm, 237, rfl⟩
abbrev main_while0b_cst_59 : Ref sig .tc := ⟨.hbm, 238, rfl⟩
abbrev main_while0b_v219 : Ref sig .tc := ⟨.hbm, 239, rfl⟩
abbrev main_while0b_v220 : Ref sig .tc := ⟨.hbm, 240, rfl⟩
abbrev main_while0b_v221 : Ref sig .tc := ⟨.hbm, 241, rfl⟩
abbrev main_while0b_v222 : Ref sig .tc := ⟨.hbm, 242, rfl⟩
abbrev main_while0b_cst_60 : Ref sig .tc := ⟨.hbm, 243, rfl⟩
abbrev main_while0b_v223 : Ref sig .tc := ⟨.hbm, 244, rfl⟩
abbrev main_while0b_v224 : Ref sig .tc := ⟨.hbm, 245, rfl⟩
abbrev main_while0b_v225 : Ref sig .tc := ⟨.hbm, 246, rfl⟩
abbrev main_while0b_cst_61 : Ref sig .tc := ⟨.hbm, 247, rfl⟩
abbrev main_while0b_v226 : Ref sig .tc := ⟨.hbm, 248, rfl⟩
abbrev main_while0b_v227 : Ref sig .tc := ⟨.hbm, 249, rfl⟩
abbrev main_while0b_v228 : Ref sig .tc := ⟨.hbm, 250, rfl⟩
abbrev main_while0b_v229 : Ref sig .tc := ⟨.hbm, 251, rfl⟩
abbrev main_while0b_v230 : Ref sig .tc := ⟨.hbm, 252, rfl⟩
abbrev main_while0b_v231 : Ref sig .tc := ⟨.hbm, 253, rfl⟩
abbrev main_while0b_cst_62 : Ref sig .tc := ⟨.hbm, 254, rfl⟩
abbrev main_while0b_v232 : Ref sig .tc := ⟨.hbm, 255, rfl⟩
abbrev main_while0b_v233 : Ref sig .tc := ⟨.hbm, 256, rfl⟩
abbrev main_while0b_v234 : Ref sig .tc := ⟨.hbm, 257, rfl⟩
abbrev main_while0b_v235 : Ref sig .tc := ⟨.hbm, 258, rfl⟩
abbrev main_while0b_v236 : Ref sig .tc := ⟨.hbm, 259, rfl⟩
abbrev main_while0b_v237 : Ref sig .tc := ⟨.hbm, 260, rfl⟩
abbrev main_while0b_cst_63 : Ref sig .tc := ⟨.hbm, 261, rfl⟩
abbrev main_while0b_v238 : Ref sig .tc := ⟨.hbm, 262, rfl⟩
abbrev main_while0b_v239 : Ref sig .tc := ⟨.hbm, 263, rfl⟩
abbrev main_while0b_v240 : Ref sig .tc := ⟨.hbm, 264, rfl⟩
abbrev main_while0b_cst_64 : Ref sig .tc := ⟨.hbm, 265, rfl⟩
abbrev main_while0b_v241 : Ref sig .tc := ⟨.hbm, 266, rfl⟩
abbrev main_while0b_v242 : Ref sig .tc := ⟨.hbm, 267, rfl⟩
abbrev main_while0b_v243 : Ref sig .tc := ⟨.hbm, 268, rfl⟩
abbrev main_while0b_v244 : Ref sig .tc := ⟨.hbm, 269, rfl⟩
abbrev main_while0b_v245 : Ref sig .tc := ⟨.hbm, 270, rfl⟩
abbrev main_while0b_v246 : Ref sig .tc := ⟨.hbm, 271, rfl⟩
abbrev main_while0b_v247 : Ref sig .tc := ⟨.hbm, 272, rfl⟩
abbrev main_while0b_v248 : Ref sig .tc := ⟨.hbm, 273, rfl⟩
abbrev main_while0b_v249 : Ref sig .tc := ⟨.hbm, 274, rfl⟩
abbrev main_while0b_v250 : Ref sig .tc := ⟨.hbm, 275, rfl⟩
abbrev main_while0b_v251 : Ref sig .tc := ⟨.hbm, 276, rfl⟩
abbrev main_while0b_v252 : Ref sig .tc := ⟨.hbm, 277, rfl⟩
abbrev main_while0b_v253 : Ref sig .tc := ⟨.hbm, 278, rfl⟩
abbrev main_while0b_v254 : Ref sig .tc := ⟨.hbm, 279, rfl⟩
abbrev main_while0b_v255 : Ref sig .tc := ⟨.hbm, 280, rfl⟩
abbrev main_while0b_v256 : Ref sig .tc := ⟨.hbm, 281, rfl⟩
abbrev main_while0b_v257 : Ref sig .tc := ⟨.hbm, 282, rfl⟩
abbrev main_while0b_v258 : Ref sig .tc := ⟨.hbm, 283, rfl⟩
abbrev main_while0b_v259 : Ref sig .tc := ⟨.hbm, 284, rfl⟩
abbrev main_while0b_v260 : Ref sig .tc := ⟨.hbm, 285, rfl⟩
abbrev main_while0b_v261 : Ref sig .tc := ⟨.hbm, 286, rfl⟩
abbrev main_while0b_v262 : Ref sig .tc := ⟨.hbm, 287, rfl⟩
abbrev main_while0b_c_65 : Ref sig .tc := ⟨.hbm, 288, rfl⟩
abbrev main_while0b_v263 : Ref sig .tc := ⟨.hbm, 289, rfl⟩
abbrev main_v50 : Ref sig .tc := ⟨.hbm, 290, rfl⟩
abbrev main_v51 : Ref sig .tc := ⟨.hbm, 291, rfl⟩
abbrev main_v52 : Ref sig .tc := ⟨.hbm, 292, rfl⟩
abbrev main_v53 : Ref sig .tc := ⟨.hbm, 293, rfl⟩
abbrev main_v54 : Ref sig .tc := ⟨.hbm, 294, rfl⟩
abbrev main_v55 : Ref sig .tc := ⟨.hbm, 295, rfl⟩
abbrev main_v56 : Ref sig .tc := ⟨.hbm, 296, rfl⟩
abbrev main_v57 : Ref sig .tc := ⟨.hbm, 297, rfl⟩
abbrev main_v58 : Ref sig .tc := ⟨.hbm, 298, rfl⟩
abbrev main_v59 : Ref sig .tc := ⟨.hbm, 299, rfl⟩
abbrev main_v60 : Ref sig .tc := ⟨.hbm, 300, rfl⟩
abbrev main_v61 : Ref sig .tc := ⟨.hbm, 301, rfl⟩
abbrev main_v62_0 : Ref sig .tc := ⟨.hbm, 302, rfl⟩
abbrev main_v62_1 : Ref sig .tc := ⟨.hbm, 303, rfl⟩
abbrev main_v63 : Ref sig .tc := ⟨.hbm, 304, rfl⟩
abbrev main_v64 : Ref sig .tc := ⟨.hbm, 305, rfl⟩
abbrev main_v65 : Ref sig .tc := ⟨.hbm, 306, rfl⟩
abbrev main_v66 : Ref sig .tc := ⟨.hbm, 307, rfl⟩
abbrev main_v67 : Ref sig .tc := ⟨.hbm, 308, rfl⟩
abbrev main_cst_20 : Ref sig .tc := ⟨.hbm, 309, rfl⟩
abbrev main_v68 : Ref sig .tc := ⟨.hbm, 310, rfl⟩
abbrev main_v69 : Ref sig .tc := ⟨.hbm, 311, rfl⟩
abbrev main_v70 : Ref sig .tc := ⟨.hbm, 312, rfl⟩
abbrev main_v71 : Ref sig .tc := ⟨.hbm, 313, rfl⟩
abbrev main_v72 : Ref sig .tc := ⟨.hbm, 314, rfl⟩
abbrev main_v73 : Ref sig .tc := ⟨.hbm, 315, rfl⟩
abbrev main_v74 : Ref sig .tc := ⟨.hbm, 316, rfl⟩
abbrev main_cst_21 : Ref sig .tc := ⟨.hbm, 317, rfl⟩
abbrev main_v75 : Ref sig .tc := ⟨.hbm, 318, rfl⟩
abbrev main_v76 : Ref sig .tc := ⟨.hbm, 319, rfl⟩
abbrev main_v77 : Ref sig .tc := ⟨.hbm, 320, rfl⟩
abbrev main_cst_22 : Ref sig .tc := ⟨.hbm, 321, rfl⟩
abbrev main_v78 : Ref sig .tc := ⟨.hbm, 322, rfl⟩
abbrev main_v79 : Ref sig .tc := ⟨.hbm, 323, rfl⟩
abbrev main_v80 : Ref sig .tc := ⟨.hbm, 324, rfl⟩
abbrev main_values_23 : Ref sig .tc := ⟨.hbm, 325, rfl⟩
abbrev main_indices_24 : Ref sig .tc := ⟨.hbm, 326, rfl⟩
abbrev main_v81 : Ref sig .tc := ⟨.hbm, 327, rfl⟩
abbrev main_c_25 : Ref sig .tc := ⟨.hbm, 328, rfl⟩
abbrev main_v82 : Ref sig .tc := ⟨.hbm, 329, rfl⟩
abbrev main_v83 : Ref sig .tc := ⟨.hbm, 330, rfl⟩
abbrev main_v84 : Ref sig .tc := ⟨.hbm, 331, rfl⟩
abbrev main_v85 : Ref sig .tc := ⟨.hbm, 332, rfl⟩
abbrev main_v86 : Ref sig .tc := ⟨.hbm, 333, rfl⟩
abbrev main_v87 : Ref sig .tc := ⟨.hbm, 334, rfl⟩
abbrev main_v88 : Ref sig .tc := ⟨.hbm, 335, rfl⟩
abbrev main_v89 : Ref sig .tc := ⟨.hbm, 336, rfl⟩
abbrev main_v90 : Ref sig .tc := ⟨.hbm, 337, rfl⟩

abbrev nD : Nat := 1
abbrev τ : Topo := Topo.v7x

variable {F : FTy → Type} [FloatOps F]

abbrev main_while0_count : Scf.Loop 32 := ⟨0#32, 8#32, 1#32⟩
-- ==== Proof.Select.lean ====
/-
  Choosing the k nearest one at a time: take the least entry of a row (the earlier one of equal entries), overwrite it
  by infinity, and repeat. On a row of finite entries the t-th choice is the t-th position of the row's stable sort.
-/
module

public import Idealize.ShloMosaic.PureOps
public import Idealize.ShloMosaic.PureOps.Ideal
public import Idealize.ShloMosaic.Lib.SortPrefix

@[expose] public section

noncomputable section

open Idealize.ShloMosaic

namespace Knn

/-- Position `p` holds the least entry of `g`, and is the earliest such position. -/
def Pick {n : Nat} (g : Fin n → EReal) (p : Fin n) : Prop := ∀ q, g p < g q ∨ (g p = g q ∧ p ≤ q)

/-- A row has at most one earliest least position. -/
theorem Pick.unique {n : Nat} {g : Fin n → EReal} {p q : Fin n} (hp : Pick g p) (hq : Pick g q) : p = q := by
  rcases hp q with h | ⟨h, l⟩ <;> rcases hq p with h' | ⟨h', l'⟩
  · exact absurd (h.trans h') (lt_irrefl _)
  · exact absurd (h'.symm ▸ h) (lt_irrefl _)
  · exact absurd (h ▸ h') (lt_irrefl _)
  · exact le_antisymm l l'

/-- A nonempty row has an earliest least position. -/
theorem Pick.exists {n : Nat} (h0 : 0 < n) (g : Fin n → EReal) : ∃ p, Pick g p := by
  have hne : (Finset.univ : Finset (Fin n)).Nonempty := ⟨⟨0, h0⟩, Finset.mem_univ _⟩
  obtain ⟨m, -, hm⟩ := Finset.exists_min_image Finset.univ g hne
  have hne' : (Finset.univ.filter fun q => g q = g m).Nonempty := ⟨m, by simp⟩
  obtain ⟨p, hp, hpm⟩ := Finset.exists_min_image _ (fun q : Fin n => q) hne'
  simp only [Finset.mem_filter, Finset.mem_univ, true_and] at hp hpm
  refine ⟨p, fun q => ?_⟩
  rcases lt_or_eq_of_le (hm q (Finset.mem_univ _)) with h | h
  · exact Or.inl (hp ▸ h)
  · exact Or.inr ⟨hp.trans h, hpm q h.symm⟩

/-- Position `a` comes before `b`: a smaller entry, or an equal entry at an earlier position. -/
def lexBefore {n : Nat} (f : Fin n → EReal) (a b : Fin n) : Bool :=
  decide (f a < f b) || (decide (f a = f b) && decide (a < b))

/-- Comparing by entry and then by position is a strict total order on positions. -/
theorem lexBefore_total {n : Nat} (f : Fin n → EReal) : StrictTotalBefore (lexBefore f) := by
  classical
  have := StrictTotalBefore.of_key_then_position (fun a b : EReal => decide (a < b)) f
    (by simp) (by simpa using fun a b c => lt_trans) (by simpa using lt_trichotomy)
  convert this using 3
  unfold lexBefore
  congr

/-- The stable sort of an increasing list by the entries alone is its sort by entries and then positions. -/
theorem stableSort_key {n : Nat} (f : Fin n → EReal) (l : List (Fin n)) (hl : l.Pairwise (· < ·)) :
    stableSort (fun a b => decide (f a < f b)) l = stableSort (lexBefore f) l := by
  induction l with
  | nil => rfl
  | cons a l ih =>
    rw [List.pairwise_cons] at hl
    unfold stableSort
    rw [ih hl.2]
    refine insertBefore_congr _ _ _ _ fun b hb => ?_
    have hab : a < b := hl.1 b ((perm_stableSort _ l).mem_iff.mp hb)
    have : ¬ b < a := not_lt.mpr hab.le
    simp [lexBefore, this]

/-- What round `t` sees when `σ s` was chosen in round `s`: the row with the earlier choices overwritten by infinity. -/
theorem rounds_state {n k : Nat} (f : Fin n → EReal) (g : Nat → Fin n → EReal) (σ : Fin k → Fin n) (h0 : g 0 = f)
    (hg : ∀ t : Fin k, ∀ j, g (t.val + 1) j = if j = σ t then ⊤ else g t.val j) (t : Nat) (ht : t ≤ k) (j : Fin n) :
    g t j = if ∃ s : Fin k, s.val < t ∧ σ s = j then ⊤ else f j := by
  classical
  induction t with
  | zero => simp [h0]
  | succ t ih =>
    rw [hg ⟨t, ht⟩ j]
    dsimp only
    by_cases e : j = σ ⟨t, ht⟩
    · rw [if_pos e, if_pos ⟨⟨t, ht⟩, Nat.lt_succ_self t, e.symm⟩]
    · rw [if_neg e, ih (by omega)]
      by_cases h : ∃ s : Fin k, s.val < t ∧ σ s = j
      · rw [if_pos h]; obtain ⟨s, hs, hj⟩ := h; rw [if_pos ⟨s, by omega, hj⟩]
      · rw [if_neg h, if_neg]
        rintro ⟨s, hs, hj⟩
        rcases Nat.lt_succ_iff_lt_or_eq.mp hs with h' | h'
        · exact h ⟨s, h', hj⟩
        · exact e (by rw [← hj]; congr 1; exact Fin.ext h')

/-- The choices of `k` rounds on a row of finite entries are the first `k` positions of the row's stable sort. -/
theorem rounds_sorted {n k : Nat} (hk : k ≤ n) (f : Fin n → EReal) (hf : ∀ j, f j < ⊤) (g : Nat → Fin n → EReal)
    (σ : Fin k → Fin n) (h0 : g 0 = f) (hp : ∀ t : Fin k, Pick (g t.val) (σ t))
    (hg : ∀ t : Fin k, ∀ j, g (t.val + 1) j = if j = σ t then ⊤ else g t.val j) (t : Fin k) :
    sortedFrom (fun a b => decide (f a < f b)) (t.castLE hk) = σ t := by
  classical
  have st := rounds_state f g σ h0 hg
  -- a choice is a position not chosen before
  have fresh : ∀ t s : Fin k, s.val < t.val → σ s ≠ σ t := by
    intro t s hs e
    have hex : ∃ q : Fin n, ¬ ∃ s : Fin k, s.val < t.val ∧ σ s = q := by
      by_contra hcon
      push Not at hcon
      choose w hw using hcon
      have inj : Function.Injective (fun q : Fin n => (⟨(w q).val, (hw q).1⟩ : Fin t.val)) := by
        intro a b hab
        have : w a = w b := Fin.ext (by simpa using hab)
        rw [← (hw a).2, ← (hw b).2, this]
      have := Fintype.card_le_of_injective _ inj
      simp only [Fintype.card_fin] at this
      omega
    obtain ⟨q, hq⟩ := hex
    have e1 : g t.val (σ t) = ⊤ := by rw [st t.val t.isLt.le, if_pos ⟨s, hs, e⟩]
    have e2 : g t.val q = f q := by rw [st t.val t.isLt.le, if_neg hq]
    rcases hp t q with h | ⟨h, -⟩
    · rw [e1] at h; exact absurd h not_top_lt
    · rw [e1, e2] at h; exact absurd (hf q) (h ▸ lt_irrefl _)
  have val : ∀ t : Fin k, g t.val (σ t) = f (σ t) := fun t => by
    rw [st t.val t.isLt.le, if_neg]
    rintro ⟨s, hs, e⟩
    exact fresh t s hs e
  -- a position not chosen before round `t` is not before that round's choice
  have dom : ∀ (t : Fin k) (q : Fin n), (∀ s : Fin k, s.val < t.val → σ s ≠ q) → lexBefore f q (σ t) = false := by
    intro t q hq
    have e2 : g t.val q = f q := by
      rw [st t.val t.isLt.le, if_neg]
      rintro ⟨s, hs, e⟩
      exact hq s hs e
    have := hp t q
    rw [val, e2] at this
    unfold lexBefore
    rcases this with h | ⟨h, l⟩
    · simp [not_lt.mpr h.le, h.ne']
    · simp [h, not_lt.mpr l]
  have inj : Function.Injective σ := by
    intro a b e
    rcases lt_trichotomy a.val b.val with h | h | h
    · exact absurd e (fresh b a h)
    · exact Fin.ext h
    · exact absurd e.symm (fresh a b h)
  have key : sortedFrom (fun a b => decide (f a < f b)) (t.castLE hk) = sortedFrom (lexBefore f) (t.castLE hk) := by
    unfold sortedFrom
    have : sortPositions n (fun a b => decide (f a < f b)) = sortPositions n (lexBefore f) :=
      stableSort_key f _ (List.pairwise_lt_finRange n)
    simp only [List.get_eq_getElem, this]
    rfl
  rw [key]
  refine (lexBefore_total f).sortedFrom_eq_of_prefix hk σ inj (fun i j hij => ?_) (fun i q hq => ?_) t
  · exact dom i (σ j) fun s hs e => fresh j s (hs.trans hij) e
  · exact dom i q fun s _ => hq s

end Knn
-- ==== Proof.Rounds.lean ====
/-
  One round of the neighbour search as the kernel spells it on a block of 256 rows by 2048 columns — the row minimum, the
  least column holding it, that column overwritten — and sixteen rounds in a row, read at an index.
-/
module

public import proofs.«01_k».proof.Proof.Select
public import Idealize.ShloMosaic.Lib.Pointwise
public import Idealize.ShloMosaic.Lib.ValueIdx
public import Idealize.ShloMosaic.Lib.ValueLayoutCasts
public import Idealize.ShloMosaic.Lib.Pipeline.Value

@[expose] public section

noncomputable section

open Idealize.ShloMosaic hiding ix1 ix2 ix3 ix4
open Idealize.ShloMosaic.ValueIdx

namespace Knn

/-- a block of squared distances: 256 points against 2048 -/
abbrev Blk : Shape := ⟨2, ![256, 2048]⟩
/-- one word per row -/
abbrev Rows : Shape := ⟨1, ![256]⟩
/-- one word per row, as a column -/
abbrev Col : Shape := ⟨2, ![256, 1]⟩
/-- sixteen words per row -/
abbrev Out : Shape := ⟨2, ![256, 16]⟩

/-- The column number at every place of a block. -/
def lane : IVec Blk 32 := iota .tc Blk 32 [1] (by decide)

/-- The column number at every place of a block of sixteen columns. -/
def slot : IVec Out 32 := iota .tc Out 32 [1] (by decide)

/-- Each row's least entry. -/
def rowMin (D : FVec Ideal Blk .f32) : FVec Ideal Rows .f32 :=
  multiReduction .minimumf [1] Rows D 0x7F800000#32 (by decide) (.inl rfl) rfl

/-- Where a row holds its least entry. -/
def hit (D : FVec Ideal Blk .f32) : IVec Blk 1 :=
  cmpf .oeq D (broadcastTo Blk (shapeCast Col (rowMin D) (by decide)) (by decide))

/-- The column number where a row holds its least entry, and a large word elsewhere. -/
def cand (D : FVec Ideal Blk .f32) : IVec Blk 32 := select (hit D) lane (broadcast Blk 1073741824#32)

/-- The least column at which each row holds its least entry. -/
def least (D : FVec Ideal Blk .f32) : IVec Col 32 :=
  shapeCast Col (multiReductionI .minsi [1] Rows (cand D) 2147483647#32 (by decide) rfl) (by decide)

/-- The block with that column of each row overwritten by `far`. -/
def erase (far : Ideal .f32) (D : FVec Ideal Blk .f32) : FVec Ideal Blk .f32 :=
  select (cmpi .eq lane (broadcastTo Blk (least D) (by decide))) (broadcast Blk far) D

/-- Column `t` of the sixteen replaced by the one-column block `c`. -/
def put (t : Nat) (c : IVec Col 32) (acc : IVec Out 32) : IVec Out 32 :=
  select (cmpi .eq slot (broadcast Out (BitVec.ofNat 32 t)))
    (broadcastTo Out (shapeCast Col c (by decide)) (by decide)) acc

/-- The block after `t` rounds. -/
def after (far : Ideal .f32) (D : FVec Ideal Blk .f32) : Nat → FVec Ideal Blk .f32
  | 0 => D
  | t + 1 => erase far (after far D t)

/-- The choices written down after `t` rounds. -/
def picks (far : Ideal .f32) (D : FVec Ideal Blk .f32) : Nat → IVec Out 32
  | 0 => broadcast Out 0#32
  | t + 1 => put t (least (after far D t)) (picks far D t)

/-- A fold of minimum from the top is the entry at a least position. -/
theorem fold_min_of_pick {α : Type} [LinearOrder α] {n : Nat} (b : α) (f : Fin n → α) (p : Fin n)
    (hb : f p ≤ b) (h : ∀ q, f p ≤ f q) : (Finset.univ : Finset (Fin n)).fold min b f = f p := by
  refine le_antisymm ?_ ?_
  · rw [Finset.fold_min_le]; exact Or.inr ⟨p, Finset.mem_univ _, le_rfl⟩
  · rw [Finset.le_fold_min]; exact ⟨hb, fun q _ => h q⟩

/-- The signed value of the smaller of two words is the smaller of their signed values. -/
theorem toInt_minsi (a b : BitVec 32) : (IntOp.minsi a b).toInt = min a.toInt b.toInt := by
  unfold IntOp.minsi
  by_cases h : a.slt b = true
  · rw [if_pos h]; rw [BitVec.slt_iff_toInt_lt] at h; omega
  · rw [if_neg h]; rw [BitVec.slt_iff_toInt_lt] at h; omega

/-- A fold of signed minimum over words is the word at a position of least signed value. -/
theorem fold_minsi_of_pick {n : Nat} (b : BitVec 32) (f : Fin n → BitVec 32) (p : Fin n)
    (hb : (f p).toInt ≤ b.toInt) (h : ∀ q, (f p).toInt ≤ (f q).toInt) :
    (Finset.univ : Finset (Fin n)).fold IntOp.minsi b f = f p := by
  apply BitVec.eq_of_toInt_eq
  have e := Finset.fold_hom (op := IntOp.minsi (w := 32)) (op' := min) (m := BitVec.toInt) (s := Finset.univ) (b := b) (f := f) toInt_minsi
  rw [← e]
  exact fold_min_of_pick b.toInt (fun q => (f q).toInt) p hb h

/-- The least entry of row `i` is its entry at an earliest least position. -/
theorem rowMin_apply (D : FVec Ideal Blk .f32) (i : Fin 256) (p : Fin 2048) (hp : Pick (fun j => D (ix2 i j)) p) :
    rowMin D (ix1 i) = D (ix2 i p) := by
  have hr : Blk.Reduces [1] Rows := by decide
  unfold rowMin
  refine (multiReduction_minimumf_eq_fold (F := Ideal) D _ hr _ rfl (ix1 i)).trans ?_
  rw [hr.fold_filter_drop_single]
  have e : ∀ k : Fin 2048, hr.lift (ix1 i) k = ix2 i k := fun k => by
    funext c; match c with
    | ⟨0, _⟩ => rfl
    | ⟨1, _⟩ => rfl
  refine (fold_min_of_pick (n := 2048) _ _ p ?_ fun q => ?_).trans ?_
  · show D (hr.lift (ix1 i) p) ≤ (⊤ : EReal)
    exact le_top
  · show D (hr.lift (ix1 i) p) ≤ D (hr.lift (ix1 i) q)
    rw [e, e]
    rcases hp q with h | ⟨h, -⟩
    · exact h.le
    · exact h.le
  · show D (hr.lift (ix1 i) p) = _
    rw [e]

/-- A place is marked exactly when its entry equals the row's least. -/
theorem cand_apply (D : FVec Ideal Blk .f32) (i : Fin 256) (p q : Fin 2048) (hp : Pick (fun j => D (ix2 i j)) p) :
    cand D (ix2 i q) = if D (ix2 i q) = D (ix2 i p) then BitVec.ofNat 32 q.val else 1073741824#32 := by
  have hl : lane (ix2 i q) = BitVec.ofNat 32 q.val := by
    unfold lane; rw [iota_apply]; simp
  have hh : hit D (ix2 i q) = BitVec.ofBool (decide (D (ix2 i q) = D (ix2 i p))) := by
    unfold hit
    rw [cmpf_apply, _root_.Idealize.ShloMosaic.broadcastTo_apply _ _ _ (ix2 i (0 : Fin 1)), shapeCast_a_a1_apply, rowMin_apply D i p hp]
    · rfl
    · intro a
      match a with
      | ⟨0, _⟩ => rfl
      | ⟨1, _⟩ => rfl
  unfold cand
  rw [select_apply, hh, hl]
  by_cases h : D (ix2 i q) = D (ix2 i p)
  · simp [h]; rfl
  · simp [h]; rfl

/-- A small number read back from its word as a signed number. -/
theorem toInt_ofNat_small {n : Nat} (h : n < 2147483648) : (BitVec.ofNat 32 n).toInt = n := by
  rw [BitVec.toInt_eq_toNat_of_lt] <;> rw [BitVec.toNat_ofNat] <;> omega

/-- The column chosen in row `i` is the earliest position of its least entry. -/
theorem least_apply (D : FVec Ideal Blk .f32) (i : Fin 256) (p : Fin 2048) (hp : Pick (fun j => D (ix2 i j)) p) :
    least D (ix2 i (0 : Fin 1)) = BitVec.ofNat 32 p.val := by
  have hr : Blk.Reduces [1] Rows := by decide
  have e : ∀ k : Fin 2048, hr.lift (ix1 i) k = ix2 i k := fun k => by
    funext c; match c with
    | ⟨0, _⟩ => rfl
    | ⟨1, _⟩ => rfl
  have ep : cand D (ix2 i p) = BitVec.ofNat 32 p.val := by rw [cand_apply D i p p hp, if_pos rfl]
  have sp : (BitVec.ofNat 32 p.val).toInt = p.val := toInt_ofNat_small (by have := p.isLt; omega)
  unfold least
  rw [shapeCast_a_a1_apply]
  refine (multiReductionI_eq_fold _ _ _ hr rfl (ix1 i)).trans ?_
  rw [hr.fold_filter_drop_single]
  refine (fold_minsi_of_pick (n := 2048) _ _ p ?_ fun q => ?_).trans ?_
  · show (cand D (hr.lift (ix1 i) p)).toInt ≤ _
    rw [e, ep, sp]
    have := p.isLt
    show (p.val : Int) ≤ 2147483647
    omega
  · show (cand D (hr.lift (ix1 i) p)).toInt ≤ (cand D (hr.lift (ix1 i) q)).toInt
    rw [e, e, ep, sp, cand_apply D i p q hp]
    have h1 := p.isLt
    have h2 := q.isLt
    split
    · next h =>
      rw [toInt_ofNat_small (by omega)]
      rcases hp q with h' | ⟨-, h'⟩
      · exact absurd (show D (ix2 i p) < D (ix2 i q) from h') (by rw [h]; exact lt_irrefl _)
      · exact_mod_cast h'
    · show (p.val : Int) ≤ 1073741824
      omega
  · show cand D (hr.lift (ix1 i) p) = _
    rw [e, ep]

/-- One round overwrites the chosen column of row `i` and nothing else. -/
theorem erase_apply (far : Ideal .f32) (D : FVec Ideal Blk .f32) (i : Fin 256) (p q : Fin 2048)
    (hp : Pick (fun j => D (ix2 i j)) p) :
    erase far D (ix2 i q) = if q = p then far else D (ix2 i q) := by
  have hl : lane (ix2 i q) = BitVec.ofNat 32 q.val := by
    unfold lane; rw [iota_apply]; simp
  unfold erase
  rw [select_apply]
  have hc : (cmpi .eq lane (broadcastTo Blk (least D) (by decide)) : IVec Blk 1) (ix2 i q) = BitVec.ofBool (decide (q = p)) := by
    show IntOp.cmpi .eq (lane (ix2 i q)) (broadcastTo Blk (least D) (by decide) (ix2 i q)) = _
    rw [_root_.Idealize.ShloMosaic.broadcastTo_apply _ _ _ (ix2 i (0 : Fin 1)), least_apply D i p hp, hl]
    · show BitVec.ofBool (decide _) = _
      congr 1
      rw [decide_eq_decide]
      constructor
      · intro h
        have := congrArg BitVec.toNat h
        simp only [BitVec.toNat_ofNat] at this
        have h1 := p.isLt
        have h2 := q.isLt
        exact Fin.ext (by omega)
      · intro h; rw [h]
    · intro a
      match a with
      | ⟨0, _⟩ => rfl
      | ⟨1, _⟩ => rfl
  rw [hc]
  by_cases h : q = p
  · simp [h]; rfl
  · simp [h]; rfl

/-- Writing column `t` of the sixteen changes that column only. -/
theorem put_apply (t : Nat) (ht : t < 16) (c : IVec Col 32) (acc : IVec Out 32) (i : Fin 256) (k : Fin 16) :
    put t c acc (ix2 i k) = if k.val = t then c (ix2 i (0 : Fin 1)) else acc (ix2 i k) := by
  have hl : slot (ix2 i k) = BitVec.ofNat 32 k.val := by
    unfold slot; rw [iota_apply]; simp
  unfold put
  rw [select_apply]
  have hc : (cmpi .eq slot (broadcast Out (BitVec.ofNat 32 t)) : IVec Out 1) (ix2 i k) = BitVec.ofBool (decide (k.val = t)) := by
    show IntOp.cmpi .eq (slot (ix2 i k)) (BitVec.ofNat 32 t) = _
    rw [hl]
    show BitVec.ofBool (decide _) = _
    congr 1
    rw [decide_eq_decide]
    constructor
    · intro h
      have := congrArg BitVec.toNat h
      simp only [BitVec.toNat_ofNat] at this
      have h1 := k.isLt
      omega
    · intro h; rw [h]
  rw [hc]
  by_cases h : k.val = t
  · simp only [h, decide_true, if_true]
    show (broadcastTo Out (shapeCast Col c (by decide)) (by decide)) (ix2 i k) = _
    rw [_root_.Idealize.ShloMosaic.broadcastTo_apply _ _ _ (ix2 i (0 : Fin 1)), shapeCast_self]
    intro a
    match a with
    | ⟨0, _⟩ => rfl
    | ⟨1, _⟩ => rfl
  · simp only [h, decide_false, if_false]
    rfl

/-- After `t` rounds, column `k < t` of the sixteen holds the choice of round `k`. -/
theorem picks_apply (far : Ideal .f32) (D : FVec Ideal Blk .f32) (i : Fin 256) (k : Fin 16) (t : Nat) (ht : t ≤ 16)
    (hk : k.val < t) : picks far D t (ix2 i k) = least (after far D k.val) (ix2 i (0 : Fin 1)) := by
  induction t with
  | zero => omega
  | succ t ih =>
    show put t _ _ (ix2 i k) = _
    rw [put_apply t (by omega)]
    by_cases h : k.val = t
    · rw [if_pos h, h]
    · rw [if_neg h]; exact ih (by omega) (by omega)

/-- SIXTEEN ROUNDS on a row of finite entries: column `k` holds the `k`-th position of the row's stable sort. -/
theorem picks_sorted (D : FVec Ideal Blk .f32) (i : Fin 256) (hD : ∀ j : Fin 2048, D (ix2 i j) < (⊤ : EReal)) (k : Fin 16) :
    picks (⊤ : EReal) D 16 (ix2 i k)
      = BitVec.ofNat 32 (sortedFrom (fun a b : Fin 2048 => decide (D (ix2 i a) < D (ix2 i b))) (k.castLE (by omega))).val := by
  have hex : ∀ t : Nat, ∃ p, Pick (fun j : Fin 2048 => after (⊤ : EReal) D t (ix2 i j)) p := fun t => Pick.exists (by omega) _
  choose σ hσ using hex
  have key := rounds_sorted (n := 2048) (k := 16) (by omega) (fun j => D (ix2 i j)) hD
    (fun t j => after (⊤ : EReal) D t (ix2 i j)) (fun t => σ t.val) rfl (fun t => hσ t.val)
    (fun t j => erase_apply (⊤ : EReal) (after (⊤ : EReal) D t.val) i (σ t.val) j (hσ t.val)) k
  rw [picks_apply _ _ _ _ 16 le_rfl k.isLt, least_apply _ i _ (hσ k.val)]
  exact congrArg (fun p : Fin 2048 => BitVec.ofNat 32 p.val) key.symm

end Knn
-- ==== Proof.IdealRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x256x3 := Rect.unit (s := S1x256x3) ![0, 0, 0] S1x256x3.size inb_S1x256x3_S1x256x3_0_0_0
abbrev r0_1 : Rect S1x3x2048 := Rect.unit (s := S1x3x2048) ![0, 0, 0] S1x3x2048.size inb_S1x3x2048_S1x3x2048_0_0_0
abbrev r0_2 : Rect S1x256x16 := Rect.unit (s := S1x256x16) ![0, 0, 0] S1x256x16.size inb_S1x256x16_S1x256x16_0_0_0

def k0_pay43 (i : grid0.Coords) (x0 : Vec F S1x256x3 .f32) (x1 : Vec F S1x3x2048 .f32) : IVec S256x2048 32 :=
  iota .tc S256x2048 32 [1] iota_S256x2048_d1_w32 -- `v19`
def k0_pay44 (i : grid0.Coords) (x0 : Vec F S1x256x3 .f32) (x1 : Vec F S1x3x2048 .f32) : IVec S256x16 32 :=
  iota .tc S256x16 32 [1] iota_S256x16_d1_w32 -- `v20`
def k0_pay45 (i : grid0.Coords) (x0 : Vec F S1x256x3 .f32) (x1 : Vec F S1x3x2048 .f32) : FVec F S256x2048 .f32 :=
  k0_pay4 (View.ld x0 r0_0) (View.ld x1 r0_1) -- `v33`
def k0_pay46 (i : grid0.Coords) (x0 : Vec F S1x256x3 .f32) (x1 : Vec F S1x3x2048 .f32) : FVec F S256 .f32 :=
  k0_pay6 (View.ld x0 r0_0) (View.ld x1 r0_1) -- `v39`
def k0_pay47 (i : grid0.Coords) (x0 : Vec F S1x256x3 .f32) (x1 : Vec F S1x3x2048 .f32) : FVec F S256x2048 .f32 :=
  k0_pay13 (k0_pay43 i x0 x1) (k0_pay45 i x0 x1) (k0_pay46 i x0 x1) -- `v84`
def k0_pay48 (i : grid0.Coords) (x0 : Vec F S1x256x3 .f32) (x1 : Vec F S1x3x2048 .f32) : FVec F S256x2048 .f32 :=
  k0_pay18 (k0_pay43 i x0 x1) (k0_pay47 i x0 x1) -- `v118`
def k0_pay49 (i : grid0.Coords) (x0 : Vec F S1x256x3 .f32) (x1 : Vec F S1x3x2048 .f32) : IVec S256x2048 32 :=
  k0_pay21 (k0_pay43 i x0 x1) (k0_pay47 i x0 x1) -- `v132`
def k0_pay50 (i : grid0.Coords) (x0 : Vec F S1x256x3 .f32) (x1 : Vec F S1x3x2048 .f32) : FVec F S256x2048 .f32 :=
  k0_pay26 (k0_pay43 i x0 x1) (k0_pay48 i x0 x1) (k0_pay49 i x0 x1) -- `v169`
def k0_pay51 (i : grid0.Coords) (x0 : Vec F S1x256x3 .f32) (x1 : Vec F S1x3x2048 .f32) : IVec S256x2048 1 :=
  k0_pay28 (k0_pay43 i x0 x1) (k0_pay48 i x0 x1) (k0_pay49 i x0 x1) -- `v178`
def k0_pay52 (i : grid0.Coords) (x0 : Vec F S1x256x3 .f32) (x1 : Vec F S1x3x2048 .f32) : FVec F S256x2048 .f32 :=
  k0_pay34 (k0_pay43 i x0 x1) (k0_pay50 i x0 x1) (k0_pay51 i x0 x1) 1073741824#32 -- `v220`

/-- Window 2's staging buffer after the body, from the input windows' blocks: its 1 store as pieces, LAST
    FIRST (Lib/Pipeline/FrameBody.lean `View.canon`; the payloads are the skeleton's and the values stated above). -/
def out0_2 (i : grid0.Coords) (x0 : Vec F S1x256x3 .f32) (x1 : Vec F S1x3x2048 .f32) : Vec F S1x256x16 .i32 :=
  View.canon [⟨r0_2, k0_pay1 (BitVec.ofNat 32 (i 0).val) (k0_pay43 i x0 x1) (k0_pay44 i x0 x1) (k0_pay40 (k0_pay43 i x0 x1) (k0_pay44 i x0 x1) (k0_pay52 i x0 x1) (k0_pay35 (k0_pay43 i x0 x1) (k0_pay44 i x0 x1) (k0_pay50 i x0 x1) (k0_pay27 (k0_pay43 i x0 x1) (k0_pay44 i x0 x1) (k0_pay48 i x0 x1) (k0_pay19 (k0_pay43 i x0 x1) (k0_pay44 i x0 x1) (k0_pay11 (k0_pay43 i x0 x1) (k0_pay44 i x0 x1) (k0_pay45 i x0 x1) (k0_pay5 (View.ld x0 r0_0) (View.ld x1 r0_1)) (k0_pay46 i x0 x1)) (k0_pay12 (k0_pay43 i x0 x1) (k0_pay45 i x0 x1) (k0_pay46 i x0 x1)) (k0_pay47 i x0 x1) k0_pay14) (k0_pay20 (k0_pay43 i x0 x1) (k0_pay47 i x0 x1)) (k0_pay49 i x0 x1)) (k0_pay51 i x0 x1) 1073741824#32)) (k0_pay41 (k0_pay43 i x0 x1) (k0_pay52 i x0 x1)) (k0_pay42 (k0_pay43 i x0 x1) (k0_pay52 i x0 x1))⟩]

/-- Its stores tile the buffer (checked by evaluation), so they cover it. -/
theorem cover0_2 (p0 : Vec F S1x256x16 .i32) (y : S1x256x16.Idx) :
    ∃ pc ∈ ([⟨r0_2, p0⟩] : List (View.Piece (Elt F) S1x256x16 .i32)), y ∈ pc.1.set :=
  View.cover_of_tiled [⟨r0_2, p0⟩] S1x256x16.size (by rfl) y

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .i32) (harg4 : arg4.IsWhole)
    (x0 : Vec F S1x256x3 .f32) (x1 : Vec F S1x3x2048 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 i x0 x1)) -∗ K ⟨⟩))
      ⊢ wp frame (wpE (defs₀ (F := F)) Variants.none c none) E (cc0__knn_body i arg2 harg2 arg3 harg3 arg4 harg4) K := by
  simp only [cc0__knn_body_eq_skeleton]; unfold cc0__knn_body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0_2 _)).trans ?_
  rfl

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (grid0.coords t) (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
/-- What region 0 leaves in window 1. -/
theorem after0_1 (c : Dev nD) (t : Fin cfg0.N) : (dat0 V c).after 1 t = iblk0 V c 1 t := by dsimp only [dat0]
/-- What region 0 leaves in window 2. -/
theorem after0_2 (c : Dev nD) (t : Fin cfg0.N) : (dat0 V c).after 2 t = out0_2 (grid0.coords t) (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- What region 0 finds in window 1. -/
theorem before0_1 (c : Dev nD) (t : Fin cfg0.N) (d) : (dat0 V c).before 1 t d = iblk0 V c 1 t :=
  before0_1_of V (dat0 V c) (A_eq0 V c 1) (after0_1 V c) t d

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S9x8x128 := Rect.unit (s := S9x8x128) ![0, 0, 0] S1x8x128.size inb_S9x8x128_S1x8x128_0_0_0
abbrev r1_1 : Rect S9x8x128 := Rect.unit (s := S9x8x128) ![1, 0, 0] S1x8x128.size inb_S9x8x128_S1x8x128_1_0_0
abbrev r1_2 : Rect S9x8x128 := Rect.unit (s := S9x8x128) ![2, 0, 0] S1x8x128.size inb_S9x8x128_S1x8x128_2_0_0
abbrev r1_3 : Rect S9x8x128 := Rect.unit (s := S9x8x128) ![3, 0, 0] S1x8x128.size inb_S9x8x128_S1x8x128_3_0_0
abbrev r1_4 : Rect S9x8x128 := Rect.unit (s := S9x8x128) ![4, 0, 0] S1x8x128.size inb_S9x8x128_S1x8x128_4_0_0
abbrev r1_5 : Rect S9x8x128 := Rect.unit (s := S9x8x128) ![5, 0, 0] S1x8x128.size inb_S9x8x128_S1x8x128_5_0_0
abbrev r1_6 : Rect S9x8x128 := Rect.unit (s := S9x8x128) ![6, 0, 0] S1x8x128.size inb_S9x8x128_S1x8x128_6_0_0
abbrev r1_7 : Rect S9x8x128 := Rect.unit (s := S9x8x128) ![7, 0, 0] S1x8x128.size inb_S9x8x128_S1x8x128_7_0_0
abbrev r1_8 : Rect S9x8x128 := Rect.unit (s := S9x8x128) ![8, 0, 0] S1x8x128.size inb_S9x8x128_S1x8x128_8_0_0
abbrev r1_9 : Rect S3x8x128 := Rect.unit (s := S3x8x128) ![0, 0, 0] S1x8x128.size inb_S3x8x128_S1x8x128_0_0_0
abbrev r1_10 : Rect S3x8x128 := Rect.unit (s := S3x8x128) ![1, 0, 0] S1x8x128.size inb_S3x8x128_S1x8x128_1_0_0
abbrev r1_11 : Rect S3x8x128 := Rect.unit (s := S3x8x128) ![2, 0, 0] S1x8x128.size inb_S3x8x128_S1x8x128_2_0_0

/-- The eighteen planes a sweep carries: the matrix entries row by row, then the vectors' entries row by row. -/
abbrev St (F : FTy → Type) : Type := FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32

/-- One sweep of the eigenvalue kernel on whole planes, at the threshold `v39`. -/
def sweep (cst_21 cst_22 : F .f32) (v39 : FVec F S8x128 .f32) (s : St F) : St F :=
  match s with
  | (arg5, arg6, arg7, arg8, arg9, arg10, arg11, arg12, arg13, arg14, arg15, arg16, arg17, arg18, arg19, arg20, arg21, arg22) =>
  let v115 := k1_pay3 v39 arg6 arg7 arg10
  let v144 := k1_pay7 v39 cst_21 cst_22 arg5 arg6 arg7 arg10 arg13
  let v146 := k1_pay8 v39 cst_21 cst_22 arg5 arg6 arg7 arg10 arg13
  let v149 := k1_pay9 v39 cst_21 cst_22 arg5 arg6 arg7 arg10 arg11 arg13
  let v152 := k1_pay10 v39 cst_21 cst_22 arg5 arg6 arg7 arg10 arg11 arg13
  let v155 := k1_pay11 v39 cst_21 cst_22 arg5 arg6 arg7 arg10 arg12 arg13
  let v158 := k1_pay12 v39 cst_21 cst_22 arg5 arg6 arg7 arg10 arg12 arg13
  let v161 := k1_pay13 v39 cst_21 cst_22 arg5 arg6 arg7 arg10 arg13
  let v162 := k1_pay14 v39 cst_21 cst_22 arg5 arg6 arg7 arg10 arg13
  let v167 := k1_pay16 v144 v146 v149 v161
  let v170 := k1_pay17 v144 v146 v149 v161
  let v173 := k1_pay18 arg8 arg10 v144 v146
  let v176 := k1_pay19 arg8 arg10 v144 v146
  let v179 := k1_pay20 arg13 v144 v146 v152 v162
  let v182 := k1_pay21 arg13 v144 v146 v152 v162
  let v185 := k1_pay22 arg14 arg16 v144 v146
  let v188 := k1_pay23 arg14 arg16 v144 v146
  let v191 := k1_pay24 arg17 arg19 v144 v146
  let v194 := k1_pay25 arg17 arg19 v144 v146
  let v197 := k1_pay26 arg20 arg22 v144 v146
  let v200 := k1_pay27 arg20 arg22 v144 v146
  let v203 := k1_pay28 cst_21 arg8 arg10 v115 v144 v146
  let v220 := k1_pay29 cst_21 cst_22 arg8 arg9 arg10 arg13 v144 v146 v152 v162
  let v229 := k1_pay31 cst_22 v203 v220
  let v231 := k1_pay32 cst_21 cst_22 v203 v220
  let v234 := k1_pay33 cst_21 cst_22 v173 v179 v203 v220
  let v237 := k1_pay34 cst_21 cst_22 v173 v179 v203 v220
  let v252 := k1_pay39 cst_21 cst_22 v155 v170 v203 v220
  let v255 := k1_pay40 cst_21 cst_22 v155 v170 v203 v220
  let v258 := k1_pay41 cst_21 cst_22 arg9 v158 v176 v182 v203 v220
  let v261 := k1_pay42 cst_21 cst_22 arg9 v158 v176 v182 v203 v220
  let v264 := k1_pay43 cst_21 cst_22 arg9 v158 v176 v182 v203 v220
  let v267 := k1_pay44 cst_21 cst_22 arg9 v158 v176 v182 v203 v220
  let v270 := k1_pay45 cst_21 cst_22 arg15 v188 v203 v220
  let v273 := k1_pay46 cst_21 cst_22 arg15 v188 v203 v220
  let v276 := k1_pay47 cst_21 cst_22 arg18 v194 v203 v220
  let v279 := k1_pay48 cst_21 cst_22 arg18 v194 v203 v220
  let v280 := k1_pay49 cst_22 arg21 v203 v220
  let v282 := k1_pay50 v200 v231 v280
  let v285 := k1_pay51 arg21 v200 v229 v231
  let v314 := k1_pay55 cst_21 cst_22 v115 v167 v252 v258
  let v316 := k1_pay56 cst_21 cst_22 v115 v167 v252 v258
  let v322 := k1_pay58 cst_21 cst_22 v115 v167 v234 v252 v258
  let v325 := k1_pay59 cst_21 cst_22 v115 v167 v252 v258
  let v328 := k1_pay60 cst_21 cst_22 v115 v167 v252 v258
  let v331 := k1_pay61 cst_21 cst_22 v115 v167 v252 v255 v258 v261
  let v334 := k1_pay62 cst_21 cst_22 v115 v167 v252 v255 v258 v261
  let v337 := k1_pay63 cst_21 cst_22 v115 v167 v234 v252 v258
  let v338 := k1_pay64 cst_21 cst_22 v115 v167 v234 v252 v258
  (v337, k1_pay78 v314 v325 v338, v331, k1_pay79 v314 v316 v322 v328, k1_pay80 v314 v316 v322 v328, v334, k1_pay81 v237 v264 v314 v316, k1_pay82 v237 v264 v314 v316, v267, k1_pay83 v185 v270 v314 v316, k1_pay84 v185 v270 v314 v316, v273, k1_pay85 v191 v276 v314 v316, k1_pay86 v191 v276 v314 v316, v279, k1_pay87 v197 v282 v314 v316, k1_pay88 v197 v282 v314 v316, v285)

set_option maxHeartbeats 4000000 in
/-- The loop of the eigenvalue kernel is the fold of the sweep. -/
theorem loop_eq (i : grid1.Coords) (arg1 : Memref sig .tc .vmem S9x8x128 .f32) (harg1 : arg1.IsWhole) (arg2 : Memref sig .tc .vmem S3x8x128 .f32) (harg2 : arg2.IsWhole) (arg3 : Memref sig .tc .vmem S9x8x128 .f32) (harg3 : arg3.IsWhole)
    (v1 v3 v5 v7 v9 v11 v13 v15 v17 v30 : FVec F S8x128 .f32) (cst_21 cst_22 : F .f32) (init : St F) :
    Scf.Loop.for k1_t1_loop k1_t1_ok init (k1_t1_body i arg1 harg1 arg2 harg2 arg3 harg3 v1 v3 v5 v7 v9 v11 v13 v15 v17 v30 cst_21 cst_22)
      = .ret (Scf.fold (n := k1_t1_loop.trips) (fun _ s => sweep cst_21 cst_22 (k1_pay75 v13 v15 v17 v30) s) init) := by
  refine Scf.for_pure _ _ _ _ _ _ _ fun k acc => ?_
  obtain ⟨a5, a6, a7, a8, a9, a10, a11, a12, a13, a14, a15, a16, a17, a18, a19, a20, a21, a22⟩ := acc
  unfold k1_t1_body
  simp only [k1_part1_eq_skeleton, k1_part2_eq_skeleton, k1_part3_eq_skeleton, k1_part4_eq_skeleton]
  rfl

/-- The planes before the first sweep: the block's matrix, and the identity. -/
def start (x0 : Vec F S9x8x128 .f32) : St F :=
  (k1_pay65 (View.ld x0 r1_0), k1_pay66 (View.ld x0 r1_1), k1_pay67 (View.ld x0 r1_2), k1_pay68 (View.ld x0 r1_3), k1_pay69 (View.ld x0 r1_4), k1_pay70 (View.ld x0 r1_5), k1_pay71 (View.ld x0 r1_6), k1_pay72 (View.ld x0 r1_7), k1_pay73 (View.ld x0 r1_8),
    k1_pay76 (F := F), k1_pay77 (F := F), k1_pay77 (F := F), k1_pay77 (F := F), k1_pay76 (F := F), k1_pay77 (F := F), k1_pay77 (F := F), k1_pay77 (F := F), k1_pay76 (F := F))

/-- The threshold below which a sweep leaves the matrix alone. -/
def thresh (x0 : Vec F S9x8x128 .f32) : FVec F S8x128 .f32 :=
  k1_pay75 (k1_pay71 (View.ld x0 r1_6)) (k1_pay72 (View.ld x0 r1_7)) (k1_pay73 (View.ld x0 r1_8)) (k1_pay74 (View.ld x0 r1_0) (View.ld x0 r1_1) (View.ld x0 r1_2) (View.ld x0 r1_3) (View.ld x0 r1_4) (View.ld x0 r1_5))

/-- The planes after the sweeps. -/
def swept (x0 : Vec F S9x8x128 .f32) : St F :=
  Scf.fold (n := k1_t1_loop.trips) (fun _ s => sweep (Scalar.ofBits .f32 0x00000000#32) (Scalar.ofBits .f32 0x3F800000#32) (thresh x0) s) (start x0)

/-- What the body writes to the eigenvalue window from the planes after the sweeps. -/
def vals (s : St F) : Vec F S3x8x128 .f32 :=
  View.canon [⟨r1_11, k1_pay117 (k1_pay100 (s.1) (s.2.2.2.2.1) (s.2.2.2.2.2.2.2.2.1))⟩,
    ⟨r1_10, k1_pay116 (k1_pay108 (s.1) (s.2.2.2.2.1) (s.2.2.2.2.2.2.2.2.1))⟩,
    ⟨r1_9, k1_pay115 (s.1) (s.2.2.2.2.1) (s.2.2.2.2.2.2.2.2.1)⟩]

/-- What the body writes to the eigenvalue window from its input block. -/
def out1_1 (x0 : Vec F S9x8x128 .f32) : Vec F S3x8x128 .f32 := vals (swept x0)

/-- Its stores tile the buffer (checked by evaluation), so they cover it. -/
theorem cover1_1 (p0 : Vec F S1x8x128 .f32) (p1 : Vec F S1x8x128 .f32) (p2 : Vec F S1x8x128 .f32) (y : S3x8x128.Idx) :
    ∃ pc ∈ ([⟨r1_11, p0⟩, ⟨r1_10, p1⟩, ⟨r1_9, p2⟩] : List (View.Piece (Elt F) S3x8x128 .f32)), y ∈ pc.1.set :=
  View.cover_of_tiled [⟨r1_11, p0⟩, ⟨r1_10, p1⟩, ⟨r1_9, p2⟩] S1x8x128.size (by rfl) y

/-- What the body writes to the vector window from the planes after the sweeps. -/
def vecs (s : St F) : Vec F S9x8x128 .f32 :=
  View.canon [⟨r1_8, k1_pay2 (k1_pay106 (s.1) (s.2.2.2.2.1) (s.2.2.2.2.2.2.2.2.1) (s.2.2.2.2.2.2.2.2.2.2.2.2.2.2.2.1) (s.2.2.2.2.2.2.2.2.2.2.2.2.2.2.2.2.1) (s.2.2.2.2.2.2.2.2.2.2.2.2.2.2.2.2.2))⟩,
    ⟨r1_7, k1_pay1 (k1_pay114 (s.1) (s.2.2.2.2.1) (s.2.2.2.2.2.2.2.2.1) (s.2.2.2.2.2.2.2.2.2.2.2.2.2.2.2.1) (s.2.2.2.2.2.2.2.2.2.2.2.2.2.2.2.2.1) (s.2.2.2.2.2.2.2.2.2.2.2.2.2.2.2.2.2))⟩,
    ⟨r1_6, k1_pay124 (k1_pay113 (s.1) (s.2.2.2.2.1) (s.2.2.2.2.2.2.2.2.1) (s.2.2.2.2.2.2.2.2.2.2.2.2.2.2.2.1) (s.2.2.2.2.2.2.2.2.2.2.2.2.2.2.2.2.1) (s.2.2.2.2.2.2.2.2.2.2.2.2.2.2.2.2.2))⟩,
    ⟨r1_5, k1_pay123 (k1_pay104 (s.1) (s.2.2.2.2.1) (s.2.2.2.2.2.2.2.2.1) (s.2.2.2.2.2.2.2.2.2.2.2.2.1) (s.2.2.2.2.2.2.2.2.2.2.2.2.2.1) (s.2.2.2.2.2.2.2.2.2.2.2.2.2.2.1))⟩,
    ⟨r1_4, k1_pay122 (k1_pay112 (s.1) (s.2.2.2.2.1) (s.2.2.2.2.2.2.2.2.1) (s.2.2.2.2.2.2.2.2.2.2.2.2.1) (s.2.2.2.2.2.2.2.2.2.2.2.2.2.1) (s.2.2.2.2.2.2.2.2.2.2.2.2.2.2.1))⟩,
    ⟨r1_3, k1_pay121 (k1_pay111 (s.1) (s.2.2.2.2.1) (s.2.2.2.2.2.2.2.2.1) (s.2.2.2.2.2.2.2.2.2.2.2.2.1) (s.2.2.2.2.2.2.2.2.2.2.2.2.2.1) (s.2.2.2.2.2.2.2.2.2.2.2.2.2.2.1))⟩,
    ⟨r1_2, k1_pay120 (k1_pay102 (s.1) (s.2.2.2.2.1) (s.2.2.2.2.2.2.2.2.1) (s.2.2.2.2.2.2.2.2.2.1) (s.2.2.2.2.2.2.2.2.2.2.1) (s.2.2.2.2.2.2.2.2.2.2.2.1))⟩,
    ⟨r1_1, k1_pay119 (k1_pay110 (s.1) (s.2.2.2.2.1) (s.2.2.2.2.2.2.2.2.1) (s.2.2.2.2.2.2.2.2.2.1) (s.2.2.2.2.2.2.2.2.2.2.1) (s.2.2.2.2.2.2.2.2.2.2.2.1))⟩,
    ⟨r1_0, k1_pay118 (k1_pay109 (s.1) (s.2.2.2.2.1) (s.2.2.2.2.2.2.2.2.1) (s.2.2.2.2.2.2.2.2.2.1) (s.2.2.2.2.2.2.2.2.2.2.1) (s.2.2.2.2.2.2.2.2.2.2.2.1))⟩]

/-- What the body writes to the vector window from its input block. -/
def out1_2 (x0 : Vec F S9x8x128 .f32) : Vec F S9x8x128 .f32 := vecs (swept x0)

/-- Its stores tile the buffer (checked by evaluation), so they cover it. -/
theorem cover1_2 (p0 : Vec F S1x8x128 .f32) (p1 : Vec F S1x8x128 .f32) (p2 : Vec F S1x8x128 .f32) (p3 : Vec F S1x8x128 .f32) (p4 : Vec F S1x8x128 .f32) (p5 : Vec F S1x8x128 .f32) (p6 : Vec F S1x8x128 .f32) (p7 : Vec F S1x8x128 .f32) (p8 : Vec F S1x8x128 .f32) (y : S9x8x128.Idx) :
    ∃ pc ∈ ([⟨r1_8, p0⟩, ⟨r1_7, p1⟩, ⟨r1_6, p2⟩, ⟨r1_5, p3⟩, ⟨r1_4, p4⟩, ⟨r1_3, p5⟩, ⟨r1_2, p6⟩, ⟨r1_1, p7⟩, ⟨r1_0, p8⟩] : List (View.Piece (Elt F) S9x8x128 .f32)), y ∈ pc.1.set :=
  View.cover_of_tiled [⟨r1_8, p0⟩, ⟨r1_7, p1⟩, ⟨r1_6, p2⟩, ⟨r1_5, p3⟩, ⟨r1_4, p4⟩, ⟨r1_3, p5⟩, ⟨r1_2, p6⟩, ⟨r1_1, p7⟩, ⟨r1_0, p8⟩] S1x8x128.size (by rfl) y

set_option maxHeartbeats 1072600 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S9x8x128 .f32) (harg1 : arg1.IsWhole) (arg2 : Memref sig .tc .vmem S3x8x128 .f32) (harg2 : arg2.IsWhole) (arg3 : Memref sig .tc .vmem S9x8x128 .f32) (harg3 : arg3.IsWhole)
    (x0 : Vec F S9x8x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out1_1 x0) ∗ owns (c : Thread nD τ) arg3 fullShare (out1_2 x0)) -∗ K ⟨⟩))
      ⊢ wp frame (wpE (defs₀ (F := F)) Variants.none c none) E (cc1__eigh_body i arg1 harg1 arg2 harg2 arg3 harg3) K := by
  simp only [cc1__eigh_body_eq_skeleton]; unfold cc1__eigh_body_skel
  simp only [k1_part5_eq_skeleton, k1_part6_eq_skeleton, k1_part7_eq_skeleton, k1_part6_skel, loop_eq]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover1_1 _ _ _)).trans ?_
    rfl
  iexists _; isplitr
  swap; · iexact H2
  ipureintro
  refine (View.read_writes_eq_canon _ _ _ (cover1_2 _ _ _ _ _ _ _ _ _)).trans ?_
  rfl

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
    | ⟨2, _⟩ => out1_2 (iblk1 V c 0 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
/-- What region 1 leaves in window 1. -/
theorem after1_1 (c : Dev nD) (t : Fin cfg1.N) : (dat1 V c).after 1 t = out1_1 (iblk1 V c 0 t) := by dsimp only [dat1]
/-- What region 1 leaves in window 2. -/
theorem after1_2 (c : Dev nD) (t : Fin cfg1.N) : (dat1 V c).after 2 t = out1_2 (iblk1 V c 0 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1x256x3 := Rect.unit (s := S1x256x3) ![0, 0, 0] S1x256x3.size inb_S1x256x3_S1x256x3_0_0_0
abbrev r2_1 : Rect S1x3x2048 := Rect.unit (s := S1x3x2048) ![0, 0, 0] S1x3x2048.size inb_S1x3x2048_S1x3x2048_0_0_0
abbrev r2_2 : Rect S1x256x16 := Rect.unit (s := S1x256x16) ![0, 0, 0] S1x256x16.size inb_S1x256x16_S1x256x16_0_0_0

def k2_pay43 (i : grid2.Coords) (x0 : Vec F S1x256x3 .f32) (x1 : Vec F S1x3x2048 .f32) : IVec S256x2048 32 :=
  iota .tc S256x2048 32 [1] iota_S256x2048_d1_w32 -- `v19`
def k2_pay44 (i : grid2.Coords) (x0 : Vec F S1x256x3 .f32) (x1 : Vec F S1x3x2048 .f32) : IVec S256x16 32 :=
  iota .tc S256x16 32 [1] iota_S256x16_d1_w32 -- `v20`
def k2_pay45 (i : grid2.Coords) (x0 : Vec F S1x256x3 .f32) (x1 : Vec F S1x3x2048 .f32) : FVec F S256x2048 .f32 :=
  k2_pay4 (View.ld x0 r2_0) (View.ld x1 r2_1) -- `v33`
def k2_pay46 (i : grid2.Coords) (x0 : Vec F S1x256x3 .f32) (x1 : Vec F S1x3x2048 .f32) : FVec F S256 .f32 :=
  k2_pay6 (View.ld x0 r2_0) (View.ld x1 r2_1) -- `v39`
def k2_pay47 (i : grid2.Coords) (x0 : Vec F S1x256x3 .f32) (x1 : Vec F S1x3x2048 .f32) : FVec F S256x2048 .f32 :=
  k2_pay13 (k2_pay43 i x0 x1) (k2_pay45 i x0 x1) (k2_pay46 i x0 x1) -- `v84`
def k2_pay48 (i : grid2.Coords) (x0 : Vec F S1x256x3 .f32) (x1 : Vec F S1x3x2048 .f32) : FVec F S256x2048 .f32 :=
  k2_pay18 (k2_pay43 i x0 x1) (k2_pay47 i x0 x1) -- `v118`
def k2_pay49 (i : grid2.Coords) (x0 : Vec F S1x256x3 .f32) (x1 : Vec F S1x3x2048 .f32) : IVec S256x2048 32 :=
  k2_pay21 (k2_pay43 i x0 x1) (k2_pay47 i x0 x1) -- `v132`
def k2_pay50 (i : grid2.Coords) (x0 : Vec F S1x256x3 .f32) (x1 : Vec F S1x3x2048 .f32) : FVec F S256x2048 .f32 :=
  k2_pay26 (k2_pay43 i x0 x1) (k2_pay48 i x0 x1) (k2_pay49 i x0 x1) -- `v169`
def k2_pay51 (i : grid2.Coords) (x0 : Vec F S1x256x3 .f32) (x1 : Vec F S1x3x2048 .f32) : IVec S256x2048 1 :=
  k2_pay28 (k2_pay43 i x0 x1) (k2_pay48 i x0 x1) (k2_pay49 i x0 x1) -- `v178`
def k2_pay52 (i : grid2.Coords) (x0 : Vec F S1x256x3 .f32) (x1 : Vec F S1x3x2048 .f32) : FVec F S256x2048 .f32 :=
  k2_pay34 (k2_pay43 i x0 x1) (k2_pay50 i x0 x1) (k2_pay51 i x0 x1) 1073741824#32 -- `v220`

/-- Window 2's staging buffer after the body, from the input windows' blocks: its 1 store as pieces, LAST
    FIRST (Lib/Pipeline/FrameBody.lean `View.canon`; the payloads are the skeleton's and the values stated above). -/
def out2_2 (i : grid2.Coords) (x0 : Vec F S1x256x3 .f32) (x1 : Vec F S1x3x2048 .f32) : Vec F S1x256x16 .i32 :=
  View.canon [⟨r2_2, k2_pay1 (BitVec.ofNat 32 (i 0).val) (k2_pay43 i x0 x1) (k2_pay44 i x0 x1) (k2_pay40 (k2_pay43 i x0 x1) (k2_pay44 i x0 x1) (k2_pay52 i x0 x1) (k2_pay35 (k2_pay43 i x0 x1) (k2_pay44 i x0 x1) (k2_pay50 i x0 x1) (k2_pay27 (k2_pay43 i x0 x1) (k2_pay44 i x0 x1) (k2_pay48 i x0 x1) (k2_pay19 (k2_pay43 i x0 x1) (k2_pay44 i x0 x1) (k2_pay11 (k2_pay43 i x0 x1) (k2_pay44 i x0 x1) (k2_pay45 i x0 x1) (k2_pay5 (View.ld x0 r2_0) (View.ld x1 r2_1)) (k2_pay46 i x0 x1)) (k2_pay12 (k2_pay43 i x0 x1) (k2_pay45 i x0 x1) (k2_pay46 i x0 x1)) (k2_pay47 i x0 x1) k2_pay14) (k2_pay20 (k2_pay43 i x0 x1) (k2_pay47 i x0 x1)) (k2_pay49 i x0 x1)) (k2_pay51 i x0 x1) 1073741824#32)) (k2_pay41 (k2_pay43 i x0 x1) (k2_pay52 i x0 x1)) (k2_pay42 (k2_pay43 i x0 x1) (k2_pay52 i x0 x1))⟩]

/-- Its stores tile the buffer (checked by evaluation), so they cover it. -/
theorem cover2_2 (p0 : Vec F S1x256x16 .i32) (y : S1x256x16.Idx) :
    ∃ pc ∈ ([⟨r2_2, p0⟩] : List (View.Piece (Elt F) S1x256x16 .i32)), y ∈ pc.1.set :=
  View.cover_of_tiled [⟨r2_2, p0⟩] S1x256x16.size (by rfl) y

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg2 : Memref sig .tc .vmem S1x256x3 .f32) (harg2 : arg2.IsWhole) (arg3 : Memref sig .tc .vmem S1x3x2048 .f32) (harg3 : arg3.IsWhole) (arg4 : Memref sig .tc .vmem S1x256x16 .i32) (harg4 : arg4.IsWhole)
    (x0 : Vec F S1x256x3 .f32) (x1 : Vec F S1x3x2048 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 i x0 x1)) -∗ K ⟨⟩))
      ⊢ wp frame (wpE (defs₀ (F := F)) Variants.none c none) E (cc2__knn_body i arg2 harg2 arg3 harg3 arg4 harg4) K := by
  simp only [cc2__knn_body_eq_skeleton]; unfold cc2__knn_body_skel
  simp only [k2_part1_eq_skeleton, k2_part2_eq_skeleton, k2_part3_eq_skeleton, k2_part4_eq_skeleton, k2_part5_eq_skeleton, k2_part6_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover2_2 _)).trans ?_
  rfl

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (grid2.coords t) (iblk2 V c 0 t) (iblk2 V c 1 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
/-- What region 2 leaves in window 1. -/
theorem after2_1 (c : Dev nD) (t : Fin cfg2.N) : (dat2 V c).after 1 t = iblk2 V c 1 t := by dsimp only [dat2]
/-- What region 2 leaves in window 2. -/
theorem after2_2 (c : Dev nD) (t : Fin cfg2.N) : (dat2 V c).after 2 t = out2_2 (grid2.coords t) (iblk2 V c 0 t) (iblk2 V c 1 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
/-- What region 2 finds in window 1. -/
theorem before2_1 (c : Dev nD) (t : Fin cfg2.N) (d) : (dat2 V c).before 1 t d = iblk2 V c 1 t :=
  before2_1_of V (dat2 V c) (A_eq2 V c 1) (after2_1 V c) t d

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

/-- @main's argument arrays, as TensorCore references: what the frame claim reads back. -/
abbrev argRefs : List (Ref sig .tc) := [main_arg0]

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
/-- The buffers `hostOps0` writes are those of its list. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3, main_v4, main_v5, main_v6, main_c, main_v7, main_v8, main_c_0, main_v9, main_v10, main_v11, main_v12, main_v13, main_c_1, main_v14, main_v15, main_c_2, main_v16, main_v17, main_v18, main_v19, main_v20, main_v21, main_v22, main_v23, main_v24, main_v25, main_v26, main_v27]
/-- The buffers `hostOps1` writes are those of its list. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v29, main_v30, main_v31, main_v32, main_v33, main_v34, main_v35]
/-- The buffers `hostOps2` writes are those of its list. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v37]
/-- The buffers `hostOps3` writes are those of its list. -/
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- Core `c`'s buffers at launch. -/
abbrev W0 : Dev nD → Valuation τ sig (Elt F) := fun c b => (s₀ m ρ).mem ((c : Dev nD), b)
/-- The arguments are as launched at boundary 0. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are as launched at boundary 1. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
/-- At boundary 2 a region's array holds what the region leaves there. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- At boundary 2 a buffer that is none of the region's arrays is as before the region. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments are as launched at boundary 2. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- Every buffer besides region 0's arrays is as the region found it. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- The arguments are as launched at boundary 3. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
/-- At boundary 4 a region's array holds what the region leaves there. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- At boundary 4 a buffer that is none of the region's arrays is as before the region. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments are as launched at boundary 4. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
/-- Every buffer besides region 1's arrays is as the region found it. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- The arguments are as launched at boundary 5. -/
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
/-- At boundary 6 a region's array holds what the region leaves there. -/
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
/-- At boundary 6 a buffer that is none of the region's arrays is as before the region. -/
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
/-- The arguments are as launched at boundary 6. -/
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
/-- Every buffer besides region 2's arrays is as the region found it. -/
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3`. -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
/-- The arguments are as launched at boundary 7. -/
theorem W7_args (c : Dev nD) : ∀ a ∈ argRefs, W7 m ρ c (Proc.devRef .tc a) = m ((c : Thread nD τ).loc a) :=
  fun a ha => (W7_of m ρ c a (hostOps3_args a ha)).trans (W6_args m ρ c a ha)

/-- The points are as launched when the program ends. -/
theorem W7_main_arg0 (c : Dev nD) : W7 m ρ c (Proc.devRef .tc main_arg0) = m ((c : Thread nD τ).loc main_arg0) :=
  W7_args m ρ c main_arg0 (by decide)

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- Every weakly fair run of the program terminates, nothing faulting, with every unscoped buffer at the last
    boundary's contents and every counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W7 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- The argument arrays end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1 c _ (mem_uc main_arg0 (by decide))).trans (W7_main_arg0 m ρ c), h.2⟩) (run m ρ)

end Cert.KernelIdeal.Whole

end
-- ==== Proof.Payload0.lean ====
/-
  What the neighbour-search kernel stores at a grid point, as sixteen rounds on its block of squared distances.
-/
module

public import proofs.«01_k».proof.Proof.Rounds
public import proofs.«01_k».proof.Proof.IdealRun

@[expose] public section

noncomputable section

open Idealize.ShloMosaic hiding ix1 ix2 ix3 ix4
open Idealize.ShloMosaic.ValueIdx

namespace Cert.KernelIdeal.Near0

open Cert.KernelIdeal Cert.KernelIdeal.Gen Cert.KernelIdeal.Whole Knn

/-- The word that marks a chosen column: the named constant, infinity over the extended reals. -/
def far : Ideal .f32 := Named.named (F := Ideal) κ "far" 0x7F61B1E6#32

/-- The marking word is infinity. -/
theorem far_eq : far = (⊤ : EReal) := rfl

variable (x : Vec Ideal S1x256x3 .f32) (y : Vec Ideal S1x3x2048 .f32) (D : FVec Ideal Blk .f32)

/-- The squared distances of the point's 256 rows to the 2048 columns. -/
def dist : FVec Ideal Blk .f32 := k0_pay2 (F := Ideal) x y

/-! The values the printed function passes on, each a number of rounds after the last one. -/

/-- The distances with the chosen ones marked, after one round. -/
theorem st1 : k0_pay4 (F := Ideal) x y = after far (dist x y) 1 := rfl
/-- The row minima after one round. -/
theorem mn1 : k0_pay6 (F := Ideal) x y = rowMin (after far (dist x y) 1) := rfl
/-- The choices after one round. -/
theorem pk1 : k0_pay5 (F := Ideal) x y = picks far (dist x y) 1 := rfl
/-- The distances with the chosen ones marked, after 4 rounds. -/
theorem st4 : k0_pay13 (F := Ideal) lane (after far D 1) (rowMin (after far D 1)) = after far D 4 := rfl
/-- The smallest columns at the minimum after 3 rounds. -/
theorem ls3 : k0_pay12 (F := Ideal) lane (after far D 1) (rowMin (after far D 1)) = least (after far D 3) := rfl
/-- The choices after 3 rounds. -/
theorem pk3 : k0_pay11 (F := Ideal) lane slot (after far D 1) (picks far D 1) (rowMin (after far D 1)) = picks far D 3 := rfl
/-- The distances with the chosen ones marked, after 6 rounds. -/
theorem st6 : k0_pay18 (F := Ideal) lane (after far D 4) = after far D 6 := rfl
/-- The smallest columns at the minimum after 6 rounds. -/
theorem ls6 : k0_pay20 (F := Ideal) lane (after far D 4) = least (after far D 6) := rfl
/-- The same columns after 6 rounds, spread along the rows. -/
theorem bc6 : k0_pay21 (F := Ideal) lane (after far D 4) = broadcastTo Blk (least (after far D 6)) (by decide) := rfl
/-- The choices after 6 rounds. -/
theorem pk6 : k0_pay19 (F := Ideal) lane slot (picks far D 3) (least (after far D 3)) (after far D 4) k0_pay14
    = picks far D 6 := rfl
/-- The distances with the chosen ones marked, after 9 rounds. -/
theorem st9 : k0_pay26 (F := Ideal) lane (after far D 6) (broadcastTo Blk (least (after far D 6)) (by decide)) = after far D 9 := rfl
/-- The chosen columns after 9 rounds. -/
theorem ht9 : k0_pay28 (F := Ideal) lane (after far D 6) (broadcastTo Blk (least (after far D 6)) (by decide))
    = hit (after far D 9) := rfl
/-- The choices after 9 rounds. -/
theorem pk9 : k0_pay27 (F := Ideal) lane slot (after far D 6) (picks far D 6) (least (after far D 6))
    (broadcastTo Blk (least (after far D 6)) (by decide)) = picks far D 9 := rfl
/-- The distances with the chosen ones marked, after 12 rounds. -/
theorem st12 : k0_pay34 (F := Ideal) lane (after far D 9) (hit (after far D 9)) 1073741824#32 = after far D 12 := rfl
/-- The choices after 12 rounds. -/
theorem pk12 : k0_pay35 (F := Ideal) lane slot (after far D 9) (picks far D 9) (hit (after far D 9)) 1073741824#32
    = picks far D 12 := rfl
/-- The choices after 14 rounds. -/
theorem pk14 : k0_pay40 (F := Ideal) lane slot (after far D 12) (picks far D 12) = picks far D 14 := rfl
/-- The smallest columns at the minimum after 14 rounds. -/
theorem ls14 : k0_pay41 (F := Ideal) lane (after far D 12) = least (after far D 14) := rfl
/-- The distances with the chosen ones marked, after 15 rounds. -/
theorem st15 : k0_pay42 (F := Ideal) lane (after far D 12) = after far D 15 := rfl
/-- The choices of all sixteen rounds with the batch's first row number added. -/
theorem pk16 (b : BitVec 32) : k0_pay1 (F := Ideal) b lane slot (picks far D 14) (least (after far D 14)) (after far D 15)
    = shapeCast S1x256x16 (addi (picks far D 16) (broadcast Out (Scalar.muli b 2048#32))) (by decide) := rfl

/-- THE STORED BLOCK: the choices of sixteen rounds, each with the batch's first row number added. -/
theorem stored (i : grid0.Coords) :
    out0_2 (F := Ideal) i x y = View.canon [⟨r0_2, shapeCast S1x256x16 (addi (picks far (dist (View.ld x r0_0) (View.ld y r0_1)) 16)
      (broadcast Out (Scalar.muli (BitVec.ofNat 32 (i 0).val) 2048#32))) (by decide)⟩] := by
  have h43 : k0_pay43 (F := Ideal) i x y = lane := rfl
  have h44 : k0_pay44 (F := Ideal) i x y = slot := rfl
  have h45 : k0_pay45 (F := Ideal) i x y = after far (dist (View.ld x r0_0) (View.ld y r0_1)) 1 := st1 _ _
  have h46 : k0_pay46 (F := Ideal) i x y = rowMin (after far (dist (View.ld x r0_0) (View.ld y r0_1)) 1) := mn1 _ _
  have h47 : k0_pay47 (F := Ideal) i x y = after far (dist (View.ld x r0_0) (View.ld y r0_1)) 4 := by
    unfold k0_pay47; rw [h43, h45, h46, st4]
  have h48 : k0_pay48 (F := Ideal) i x y = after far (dist (View.ld x r0_0) (View.ld y r0_1)) 6 := by
    unfold k0_pay48; rw [h43, h47, st6]
  have h49 : k0_pay49 (F := Ideal) i x y = broadcastTo Blk (least (after far (dist (View.ld x r0_0) (View.ld y r0_1)) 6)) (by decide) := by
    unfold k0_pay49; rw [h43, h47, bc6]
  have h50 : k0_pay50 (F := Ideal) i x y = after far (dist (View.ld x r0_0) (View.ld y r0_1)) 9 := by
    unfold k0_pay50; rw [h43, h48, h49, st9]
  have h51 : k0_pay51 (F := Ideal) i x y = hit (after far (dist (View.ld x r0_0) (View.ld y r0_1)) 9) := by
    unfold k0_pay51; rw [h43, h48, h49, ht9]
  have h52 : k0_pay52 (F := Ideal) i x y = after far (dist (View.ld x r0_0) (View.ld y r0_1)) 12 := by
    unfold k0_pay52; rw [h43, h50, h51, st12]
  unfold out0_2
  rw [h43, h44, h45, h46, h47, h48, h49, h50, h51, h52, pk1, pk3, ls3, pk6, ls6, pk9, pk12, pk14, ls14, st15, pk16]

end Cert.KernelIdeal.Near0
-- ==== Proof.Dist.lean ====
/-
  Squared distances between the points of a batch, the sixteen nearest of each point as ONE function of the array of
  points, and both programs' spellings of it: the reference's top-k of the negated distances, and a kernel block's sixteen
  rounds.
-/
module

public import proofs.«01_k».proof.Proof.Rounds

@[expose] public section

noncomputable section

open Idealize.ShloMosaic hiding ix1 ix2 ix3 ix4
open Idealize.ShloMosaic.ValueIdx

namespace Knn

/-- eight batches of 2048 points of three coordinates -/
abbrev Pts : Shape := ⟨3, ![8, 2048, 3]⟩
/-- all squared distances within each batch -/
abbrev Sq : Shape := ⟨3, ![8, 2048, 2048]⟩
/-- sixteen neighbours of each point -/
abbrev Nbr : Shape := ⟨3, ![8, 2048, 16]⟩

/-- The squared distance of points `i` and `j` of batch `b`: `|p|² + |q|² − 2 p·q`, not below zero. -/
def sqd (X : FVec Ideal Pts .f32) (b : Fin 8) (i j : Fin 2048) : EReal :=
  max ((∑ c : Fin 3, X (ix3 b i c) * X (ix3 b i c)) + (∑ c : Fin 3, X (ix3 b j c) * X (ix3 b j c))
    - Ideal.ofBits .f32 0x40000000#32 * ∑ c : Fin 3, X (ix3 b i c) * X (ix3 b j c)) 0

/-- Every entry is a real number. -/
def Real {s : Shape} (X : s.Idx → EReal) : Prop := ∀ i, ∃ r : ℝ, X i = (r : EReal)

/-- The word of two is a real number. -/
theorem ofBits_two_real : ∃ r : ℝ, Ideal.ofBits .f32 0x40000000#32 = (r : EReal) := by
  simp [Ideal.ofBits, Ideal.ieee]
  exact ⟨_, rfl⟩

/-- Squared distances of real points are below infinity. -/
theorem sqd_lt_top (X : FVec Ideal Pts .f32) (hX : Real X) (b : Fin 8) (i j : Fin 2048) : sqd X b i j < ⊤ := by
  choose f hf using hX
  obtain ⟨two, h2⟩ := ofBits_two_real
  unfold sqd
  rw [h2]
  simp only [hf, Fin.sum_univ_three]
  refine max_lt ?_ (EReal.coe_lt_top 0)
  norm_cast
  exact EReal.coe_lt_top _

/-- The `k`-th point of batch `b` in order of squared distance to point `i`, equal distances in order of position. -/
def place (X : FVec Ideal Pts .f32) (b : Fin 8) (i : Fin 2048) (k : Fin 16) : BitVec 32 :=
  BitVec.ofNat 32 (sortedFrom (fun a c : Fin 2048 => decide (sqd X b i a < sqd X b i c))
    (Fin.castLE (n := 16) (m := 2048) (by omega) k)).val

/-- THE SIXTEEN NEAREST: those points' row numbers within the whole list of points. -/
def nearest (X : FVec Ideal Pts .f32) : IVec Nbr 32 := fun n =>
  IntOp.addi (place X (n 0) (n 1) (n 2)) (IntOp.muli (BitVec.ofNat 32 (n 0).val) 2048#32)

/-- A block of sixteen rounds on rows `256 q …` of batch `b` holds those rows' sixteen nearest. -/
theorem block_nearest (X : FVec Ideal Pts .f32) (hX : Real X) (D : FVec Ideal Blk .f32) (b : Fin 8) (r : Fin 2048) (i : Fin 256)
    (hD : ∀ j : Fin 2048, D (ix2 i j) = sqd X b r j) (k : Fin 16) (w : BitVec 32) (hw : w = BitVec.ofNat 32 b.val) :
    addi (picks (⊤ : EReal) D 16) (broadcast Out (Scalar.muli w 2048#32)) (ix2 i k) = nearest X (ix3 b r k) := by
  show IntOp.addi (picks (⊤ : EReal) D 16 (ix2 i k)) (Scalar.muli w 2048#32) = _
  rw [picks_sorted D i (fun j => by rw [hD]; exact sqd_lt_top X hX b r j) k]
  simp only [hD]
  rw [hw]
  rfl

/-- The reference's top-k of the negated distances, with each batch's first row number added, is the sixteen nearest. -/
theorem topK_nearest (X : FVec Ideal Pts .f32) (N : FVec Ideal Sq .f32) (hN : ∀ b i j, N (ix3 b i j) = - sqd X b i j)
    (offs : IVec Nbr 32) (ho : ∀ n, offs n = IntOp.muli (BitVec.ofNat 32 (n 0).val) 2048#32)
    (h : Sq.Slices (fun _ => 0) Nbr) :
    addi ((Host.topK Nbr 2 (FloatOps.cmpfTotal (F := Ideal) (φ := .f32) .gt) N h).2) offs = nearest X := by
  funext n
  obtain ⟨b, i, k, rfl⟩ : ∃ (b : Fin 8) (i : Fin 2048) (k : Fin 16), n = ix3 b i k := ⟨_, _, _, ValueIdx.eq_ix3 n⟩
  show IntOp.addi ((Host.topK Nbr 2 (FloatOps.cmpfTotal (F := Ideal) (φ := .f32) .gt) N h).2 (ix3 b i k)) (offs (ix3 b i k)) = _
  rw [ho]
  refine congrArg (fun w : BitVec 32 => IntOp.addi w (IntOp.muli (BitVec.ofNat 32 b.val) 2048#32)) ?_
  have hb : ∀ a c : Fin 2048, (FloatOps.cmpfTotal (F := Ideal) (φ := .f32) .gt (N (ix3 b i a)) (N (ix3 b i c)) == 1#1)
      = decide (sqd X b i a < sqd X b i c) := by
    intro a c
    rw [hN b i a, hN b i c]
    show (BitVec.ofBool (decide (- sqd X b i c < - sqd X b i a)) == 1#1) = _
    simp only [EReal.neg_lt_neg_iff]
    by_cases hc : sqd X b i a < sqd X b i c <;> simp [hc]
  have al : ∀ (a : Fin 2048) (z : Sq.Idx), z 0 = b → z 1 = i → z.along (2 : Fin 3) a = ix3 b i a := by
    intro a z h0 h1
    funext c
    match c with
    | ⟨0, _⟩ => exact h0
    | ⟨1, _⟩ => exact h1
    | ⟨2, _⟩ => rfl
  unfold Host.topK
  dsimp only
  unfold extractStridedSlice Host.sort2
  rw [dif_pos (show 2 < Sq.rank by decide)]
  dsimp only
  rw [dif_pos (show 2 < 3 by decide)]
  have hi : ∀ (z : Sq.Idx) (p : Fin 2048), iotaInDim Sq 32 (2 : Fin 3) (z.along (2 : Fin 3) p)
      = BitVec.ofNat 32 p.val := fun z p => rfl
  refine (hi _ _).trans ?_
  unfold place
  refine congrArg (fun p : Fin 2048 => BitVec.ofNat 32 p.val) ?_
  refine congr (congrArg (sortedFrom (n := 2048)) (funext fun a => funext fun c => ?_)) (Fin.ext (Nat.zero_add _))
  refine Eq.trans ?_ (hb a c)
  refine congrArg₂ (fun u v => FloatOps.cmpfTotal (F := Ideal) (φ := .f32) .gt (N u) (N v) == 1#1) (al a _ ?_ ?_) (al c _ ?_ ?_) <;>
    exact Fin.ext (Nat.zero_add _)

end Knn
-- ==== Proof.Near0.lean ====
/-
  The kernel's result array after the run: each grid point writes its block of the sixteen nearest, and the blocks tile
  the array.
-/
module

public import proofs.«01_k».proof.Proof.Payload0
public import proofs.«01_k».proof.Proof.Dist
public import Idealize.ShloMosaic.Lib.Pipeline.ValueKit

@[expose] public section

noncomputable section

open Idealize.ShloMosaic hiding ix1 ix2 ix3 ix4
open Idealize.ShloMosaic.ValueIdx Idealize.ShloMosaic.TcCoe
open Idealize.ShloMosaic.Pipeline (Dat)

namespace Cert.KernelIdeal.Near0

open Cert.KernelIdeal Cert.KernelIdeal.Gen Cert.KernelIdeal.Whole Knn

/-- The block of squared distances at row `i`, column `j`, from the two loaded blocks. -/
theorem dist_apply (x : Vec Ideal S1x256x3 .f32) (y : Vec Ideal S1x3x2048 .f32) (X : FVec Ideal Pts .f32) (b : Fin 8)
    (r : Fin 2048) (i : Fin 256) (hx : ∀ c : Fin 3, x (ix3 (0 : Fin 1) i c) = X (ix3 b r c))
    (hy : ∀ (c : Fin 3) (j : Fin 2048), y (ix3 (0 : Fin 1) c j) = X (ix3 b j c)) (j : Fin 2048) :
    dist x y (ix2 i j) = sqd X b r j := by
  unfold dist k0_pay2
  pointwise
  show max ((∑ c : Fin 3, x (ix3 (0 : Fin 1) i c) * x (ix3 (0 : Fin 1) i c)) + (∑ c : Fin 3, y (ix3 (0 : Fin 1) c j) * y (ix3 (0 : Fin 1) c j))
    - Ideal.ofBits .f32 0x40000000#32 * ∑ c : Fin 3, x (ix3 (0 : Fin 1) i c) * y (ix3 (0 : Fin 1) c j)) (0 : EReal) = _
  simp only [hx, hy]
  rfl

/-- Three zero offsets. -/
theorem hz3 : (![0, 0, 0] : Fin 3 → Nat) = fun _ => 0 := funext fun a => by fin_cases a <;> rfl

variable (V : (c : Dev nD) → (b : Ref sig .tc) → Buf (Elt Ideal) ((c : Thread nD τ).loc b))

/-- The two coordinates of a grid point. -/
theorem coords_val (t : Fin cfg0.N) : ((grid0.coords t) 0).val = t.val / 8 ∧ ((grid0.coords t) 1).val = t.val % 8 :=
  (by decide +kernel : ∀ t : Fin grid0.N, ((grid0.coords t) 0).val = t.val / 8 ∧ ((grid0.coords t) 1).val = t.val % 8) t

/-- A grid point's blocks: the point's batch, and for the rows and the result also its 256 rows. -/
theorem index_val (t : Fin cfg0.N) : (win0_0.index t = ![t.val / 8, t.val % 8, 0]) ∧ (win0_1.index t = ![t.val / 8, 0, 0])
    ∧ (win0_2.index t = ![t.val / 8, t.val % 8, 0]) :=
  (by decide +kernel : ∀ t : Fin grid0.N, (win0_0.index t = ![t.val / 8, t.val % 8, 0]) ∧ (win0_1.index t = ![t.val / 8, 0, 0])
    ∧ (win0_2.index t = ![t.val / 8, t.val % 8, 0])) t

/-- The block of rows at point `t`, read off any array of points. -/
theorem read_rows (G : FVec Ideal Pts .f32) (t : Fin cfg0.N) (i : Fin 256) (q : Fin 3) (b : Fin 8) (r : Fin 2048)
    (hb : b.val = t.val / 8) (hr : r.val = t.val % 8 * 256 + i.val) :
    ((win0_0.blk t).view.read (Elt Ideal) G : Vec Ideal S1x256x3 .f32) (ix3 (0 : Fin 1) i q) = G (ix3 b r q) := by
  obtain ⟨i0, -, -⟩ := index_val t
  show G ((win0_0.blk t).view.emb (ix3 (0 : Fin 1) i q)) = _
  refine congrArg G (funext fun a => Fin.ext ?_)
  have e : ((win0_0.blk t).view.emb (ix3 (0 : Fin 1) i q) a).val = win0_0.index t a * win0_0.size a + (ix3 (0 : Fin 1) i q a).val :=
    Pipeline.Window.rect_emb_val _ _ _ _
  rw [e, i0]
  match a with
  | ⟨0, _⟩ => show t.val / 8 * 1 + 0 = b.val; omega
  | ⟨1, _⟩ => show t.val % 8 * 256 + i.val = r.val; omega
  | ⟨2, _⟩ => show 0 * 3 + q.val = q.val; omega

/-- The block of columns at point `t`, read off any array of points laid out by coordinate. -/
theorem read_cols (G : FVec Ideal S8x3x2048 .f32) (t : Fin cfg0.N) (q : Fin 3) (j : Fin 2048) (b : Fin 8)
    (hb : b.val = t.val / 8) :
    ((win0_1.blk t).view.read (Elt Ideal) G : Vec Ideal S1x3x2048 .f32) (ix3 (0 : Fin 1) q j) = G (ix3 b q j) := by
  obtain ⟨-, i1, -⟩ := index_val t
  show G ((win0_1.blk t).view.emb (ix3 (0 : Fin 1) q j)) = _
  refine congrArg G (funext fun a => Fin.ext ?_)
  have e : ((win0_1.blk t).view.emb (ix3 (0 : Fin 1) q j) a).val = win0_1.index t a * win0_1.size a + (ix3 (0 : Fin 1) q j a).val :=
    Pipeline.Window.rect_emb_val _ _ _ _
  rw [e, i1]
  match a with
  | ⟨0, _⟩ => show t.val / 8 * 1 + 0 = b.val; omega
  | ⟨1, _⟩ => show 0 * 3 + q.val = q.val; omega
  | ⟨2, _⟩ => show 0 * 2048 + j.val = j.val; omega

/-- The block of the result at point `t`, read off any array of neighbours. -/
theorem read_out (G : IVec Nbr 32) (t : Fin cfg0.N) (i : Fin 256) (k : Fin 16) (b : Fin 8) (r : Fin 2048)
    (hb : b.val = t.val / 8) (hr : r.val = t.val % 8 * 256 + i.val) :
    ((win0_2.blk t).view.read (Elt Ideal) G : IVec S1x256x16 32) (ix3 (0 : Fin 1) i k) = G (ix3 b r k) := by
  obtain ⟨-, -, i2⟩ := index_val t
  show G ((win0_2.blk t).view.emb (ix3 (0 : Fin 1) i k)) = _
  refine congrArg G (funext fun a => Fin.ext ?_)
  have e : ((win0_2.blk t).view.emb (ix3 (0 : Fin 1) i k) a).val = win0_2.index t a * win0_2.size a + (ix3 (0 : Fin 1) i k a).val :=
    Pipeline.Window.rect_emb_val _ _ _ _
  rw [e, i2]
  match a with
  | ⟨0, _⟩ => show t.val / 8 * 1 + 0 = b.val; omega
  | ⟨1, _⟩ => show t.val % 8 * 256 + i.val = r.val; omega
  | ⟨2, _⟩ => show 0 * 16 + k.val = k.val; omega

/-- The stored block at point `t`, over any arrays that hold the points and their exchanged layout, is block `t` of the
    sixteen nearest. -/
theorem block_eq (X : FVec Ideal Pts .f32) (XT : FVec Ideal S8x3x2048 .f32) (hX : Knn.Real X)
    (hT : ∀ b k j, XT (ix3 b k j) = X (ix3 b j k)) (t : Fin cfg0.N) :
    out0_2 (F := Ideal) (grid0.coords t) ((win0_0.blk t).view.read (Elt Ideal) X) ((win0_1.blk t).view.read (Elt Ideal) XT)
      = (win0_2.blk t).view.read (Elt Ideal) (nearest X) := by
  rw [stored, View.canon_unit_zero hz3, View.ld_unit_zero hz3, View.ld_unit_zero hz3]
  have hN : t.val < 64 := t.isLt
  obtain ⟨c0, -⟩ := coords_val t
  funext y
  obtain ⟨z, i, k, rfl⟩ : ∃ (z : Fin 1) (i : Fin 256) (k : Fin 16), y = ix3 z i k := ⟨_, _, _, ValueIdx.eq_ix3 y⟩
  obtain rfl : z = 0 := Subsingleton.elim _ _
  let b : Fin 8 := ⟨t.val / 8, by omega⟩
  let r : Fin 2048 := ⟨t.val % 8 * 256 + i.val, by have := i.isLt; omega⟩
  refine Eq.trans ?_ (read_out (nearest X) t i k b r rfl rfl).symm
  rw [shapeCast_ab_1ab_apply]
  refine block_nearest X hX _ b r i (fun j => dist_apply _ _ X b r i (fun q => read_rows X t i q b r rfl rfl)
    (fun q j => (read_cols XT t q j b rfl).trans (hT b q j)) j) k _ ?_
  rw [c0]

/-- WHAT GRID POINT `t` WRITES BACK is block `t` of the sixteen nearest. -/
theorem flushed_eq (c : Dev nD) (X : FVec Ideal Pts .f32) (hX : Knn.Real X)
    (h0 : (V c main_arg0 : FVec Ideal Pts .f32) = X)
    (h1 : ∀ b k j, (V c main_v0 : FVec Ideal S8x3x2048 .f32) (ix3 b k j) = X (ix3 b j k)) (t : Fin cfg0.N) :
    (dat0 V c).flushed 2 t = (win0_2.blk t).view.read (Elt Ideal) (nearest X) := by
  show (cfg0.win 2).cut (grid0.coords t) ((dat0 V c).after 2 t) = _
  rw [after0_2]
  refine Eq.trans ?_ (block_eq X (V c main_v0) hX h1 t)
  have e : iblk0 V c 0 t = (win0_0.blk t).view.read (Elt Ideal) X := by
    show (win0_0.blk t).view.read (Elt Ideal) (V c main_arg0) = _
    rw [h0]
  rw [e]
  rfl

/-- Every place of the result lies in some grid point's block. -/
theorem cover (n : S8x2048x16.Idx) : ∃ t : Fin cfg0.N, (cfg0.win 2).flush t = true ∧ n ∈ ((cfg0.win 2).blk t).view.set := by
  obtain ⟨b, r, k, rfl⟩ : ∃ (b : Fin 8) (r : Fin 2048) (k : Fin 16), n = ix3 b r k := ⟨_, _, _, ValueIdx.eq_ix3 n⟩
  have hb := b.isLt
  have hr := r.isLt
  have hk := k.isLt
  have hN : cfg0.N = 64 := rfl
  refine ⟨⟨b.val * 8 + r.val / 256, by omega⟩, flush0_2 _, ?_⟩
  obtain ⟨-, -, i2⟩ := index_val ⟨b.val * 8 + r.val / 256, by omega⟩
  mem_blk [i2]
  show (((b.val * 8 + r.val / 256) / 8 ≤ b.val ∧ b.val < (b.val * 8 + r.val / 256) / 8 + 1) ∧
    ((b.val * 8 + r.val / 256) % 8 * 256 ≤ r.val ∧ r.val < (b.val * 8 + r.val / 256) % 8 * 256 + 256) ∧
      0 ≤ k.val ∧ k.val < 16)
  omega

/-- THE RESULT ARRAY after the run is the sixteen nearest of the points. -/
theorem final (c : Dev nD) (X : FVec Ideal Pts .f32) (hX : Knn.Real X)
    (h0 : (V c main_arg0 : FVec Ideal Pts .f32) = X)
    (h1 : ∀ b k j, (V c main_v0 : FVec Ideal S8x3x2048 .f32) (ix3 b k j) = X (ix3 b j k)) :
    (dat0 V c).arrAt 2 cfg0.N = nearest X :=
  (dat0 V c).arrAt_eq_of_cover 2 _ (fun t _ => flushed_eq V c X hX h0 h1 t) cover

end Cert.KernelIdeal.Near0
-- ==== Proof.Payload2.lean ====
/-
  What the second neighbour-search call stores at a grid point, as sixteen rounds on its block of squared distances.
-/
module

public import proofs.«01_k».proof.Proof.Rounds
public import proofs.«01_k».proof.Proof.IdealRun

@[expose] public section

noncomputable section

open Idealize.ShloMosaic hiding ix1 ix2 ix3 ix4
open Idealize.ShloMosaic.ValueIdx

namespace Cert.KernelIdeal.Near2

open Cert.KernelIdeal Cert.KernelIdeal.Gen Cert.KernelIdeal.Whole Knn

/-- The word that marks a chosen column: the named constant, infinity over the extended reals. -/
def far : Ideal .f32 := Named.named (F := Ideal) κ "far" 0x7F61B1E6#32

/-- The marking word is infinity. -/
theorem far_eq : far = (⊤ : EReal) := rfl

variable (x : Vec Ideal S1x256x3 .f32) (y : Vec Ideal S1x3x2048 .f32) (D : FVec Ideal Blk .f32)

/-- The squared distances of the point's 256 rows to the 2048 columns. -/
def dist : FVec Ideal Blk .f32 := k2_pay2 (F := Ideal) x y

/-! The values the printed function passes on, each a number of rounds after the last one. -/

/-- The distances with the chosen ones marked, after one round. -/
theorem st1 : k2_pay4 (F := Ideal) x y = after far (dist x y) 1 := rfl
/-- The row minima after one round. -/
theorem mn1 : k2_pay6 (F := Ideal) x y = rowMin (after far (dist x y) 1) := rfl
/-- The choices after one round. -/
theorem pk1 : k2_pay5 (F := Ideal) x y = picks far (dist x y) 1 := rfl
/-- The distances with the chosen ones marked, after 4 rounds. -/
theorem st4 : k2_pay13 (F := Ideal) lane (after far D 1) (rowMin (after far D 1)) = after far D 4 := rfl
/-- The smallest columns at the minimum after 3 rounds. -/
theorem ls3 : k2_pay12 (F := Ideal) lane (after far D 1) (rowMin (after far D 1)) = least (after far D 3) := rfl
/-- The choices after 3 rounds. -/
theorem pk3 : k2_pay11 (F := Ideal) lane slot (after far D 1) (picks far D 1) (rowMin (after far D 1)) = picks far D 3 := rfl
/-- The distances with the chosen ones marked, after 6 rounds. -/
theorem st6 : k2_pay18 (F := Ideal) lane (after far D 4) = after far D 6 := rfl
/-- The smallest columns at the minimum after 6 rounds. -/
theorem ls6 : k2_pay20 (F := Ideal) lane (after far D 4) = least (after far D 6) := rfl
/-- The same columns after 6 rounds, spread along the rows. -/
theorem bc6 : k2_pay21 (F := Ideal) lane (after far D 4) = broadcastTo Blk (least (after far D 6)) (by decide) := rfl
/-- The choices after 6 rounds. -/
theorem pk6 : k2_pay19 (F := Ideal) lane slot (picks far D 3) (least (after far D 3)) (after far D 4) k2_pay14
    = picks far D 6 := rfl
/-- The distances with the chosen ones marked, after 9 rounds. -/
theorem st9 : k2_pay26 (F := Ideal) lane (after far D 6) (broadcastTo Blk (least (after far D 6)) (by decide)) = after far D 9 := rfl
/-- The chosen columns after 9 rounds. -/
theorem ht9 : k2_pay28 (F := Ideal) lane (after far D 6) (broadcastTo Blk (least (after far D 6)) (by decide))
    = hit (after far D 9) := rfl
/-- The choices after 9 rounds. -/
theorem pk9 : k2_pay27 (F := Ideal) lane slot (after far D 6) (picks far D 6) (least (after far D 6))
    (broadcastTo Blk (least (after far D 6)) (by decide)) = picks far D 9 := rfl
/-- The distances with the chosen ones marked, after 12 rounds. -/
theorem st12 : k2_pay34 (F := Ideal) lane (after far D 9) (hit (after far D 9)) 1073741824#32 = after far D 12 := rfl
/-- The choices after 12 rounds. -/
theorem pk12 : k2_pay35 (F := Ideal) lane slot (after far D 9) (picks far D 9) (hit (after far D 9)) 1073741824#32
    = picks far D 12 := rfl
/-- The choices after 14 rounds. -/
theorem pk14 : k2_pay40 (F := Ideal) lane slot (after far D 12) (picks far D 12) = picks far D 14 := rfl
/-- The smallest columns at the minimum after 14 rounds. -/
theorem ls14 : k2_pay41 (F := Ideal) lane (after far D 12) = least (after far D 14) := rfl
/-- The distances with the chosen ones marked, after 15 rounds. -/
theorem st15 : k2_pay42 (F := Ideal) lane (after far D 12) = after far D 15 := rfl
/-- The choices of all sixteen rounds with the batch's first row number added. -/
theorem pk16 (b : BitVec 32) : k2_pay1 (F := Ideal) b lane slot (picks far D 14) (least (after far D 14)) (after far D 15)
    = shapeCast S1x256x16 (addi (picks far D 16) (broadcast Out (Scalar.muli b 2048#32))) (by decide) := rfl

/-- THE STORED BLOCK: the choices of sixteen rounds, each with the batch's first row number added. -/
theorem stored (i : grid2.Coords) :
    out2_2 (F := Ideal) i x y = View.canon [⟨r2_2, shapeCast S1x256x16 (addi (picks far (dist (View.ld x r2_0) (View.ld y r2_1)) 16)
      (broadcast Out (Scalar.muli (BitVec.ofNat 32 (i 0).val) 2048#32))) (by decide)⟩] := by
  have h43 : k2_pay43 (F := Ideal) i x y = lane := rfl
  have h44 : k2_pay44 (F := Ideal) i x y = slot := rfl
  have h45 : k2_pay45 (F := Ideal) i x y = after far (dist (View.ld x r2_0) (View.ld y r2_1)) 1 := st1 _ _
  have h46 : k2_pay46 (F := Ideal) i x y = rowMin (after far (dist (View.ld x r2_0) (View.ld y r2_1)) 1) := mn1 _ _
  have h47 : k2_pay47 (F := Ideal) i x y = after far (dist (View.ld x r2_0) (View.ld y r2_1)) 4 := by
    unfold k2_pay47; rw [h43, h45, h46, st4]
  have h48 : k2_pay48 (F := Ideal) i x y = after far (dist (View.ld x r2_0) (View.ld y r2_1)) 6 := by
    unfold k2_pay48; rw [h43, h47, st6]
  have h49 : k2_pay49 (F := Ideal) i x y = broadcastTo Blk (least (after far (dist (View.ld x r2_0) (View.ld y r2_1)) 6)) (by decide) := by
    unfold k2_pay49; rw [h43, h47, bc6]
  have h50 : k2_pay50 (F := Ideal) i x y = after far (dist (View.ld x r2_0) (View.ld y r2_1)) 9 := by
    unfold k2_pay50; rw [h43, h48, h49, st9]
  have h51 : k2_pay51 (F := Ideal) i x y = hit (after far (dist (View.ld x r2_0) (View.ld y r2_1)) 9) := by
    unfold k2_pay51; rw [h43, h48, h49, ht9]
  have h52 : k2_pay52 (F := Ideal) i x y = after far (dist (View.ld x r2_0) (View.ld y r2_1)) 12 := by
    unfold k2_pay52; rw [h43, h50, h51, st12]
  unfold out2_2
  rw [h43, h44, h45, h46, h47, h48, h49, h50, h51, h52, pk1, pk3, ls3, pk6, ls6, pk9, pk12, pk14, ls14, st15, pk16]

end Cert.KernelIdeal.Near2
-- ==== Proof.Near2.lean ====
/-
  The kernel's result array after the run: each grid point writes its block of the sixteen nearest, and the blocks tile
  the array.
-/
module

public import proofs.«01_k».proof.Proof.Payload2
public import proofs.«01_k».proof.Proof.Dist
public import Idealize.ShloMosaic.Lib.Pipeline.ValueKit

@[expose] public section

noncomputable section

open Idealize.ShloMosaic hiding ix1 ix2 ix3 ix4
open Idealize.ShloMosaic.ValueIdx Idealize.ShloMosaic.TcCoe
open Idealize.ShloMosaic.Pipeline (Dat)

namespace Cert.KernelIdeal.Near2

open Cert.KernelIdeal Cert.KernelIdeal.Gen Cert.KernelIdeal.Whole Knn

/-- The block of squared distances at row `i`, column `j`, from the two loaded blocks. -/
theorem dist_apply (x : Vec Ideal S1x256x3 .f32) (y : Vec Ideal S1x3x2048 .f32) (X : FVec Ideal Pts .f32) (b : Fin 8)
    (r : Fin 2048) (i : Fin 256) (hx : ∀ c : Fin 3, x (ix3 (0 : Fin 1) i c) = X (ix3 b r c))
    (hy : ∀ (c : Fin 3) (j : Fin 2048), y (ix3 (0 : Fin 1) c j) = X (ix3 b j c)) (j : Fin 2048) :
    dist x y (ix2 i j) = sqd X b r j := by
  unfold dist k2_pay2
  pointwise
  show max ((∑ c : Fin 3, x (ix3 (0 : Fin 1) i c) * x (ix3 (0 : Fin 1) i c)) + (∑ c : Fin 3, y (ix3 (0 : Fin 1) c j) * y (ix3 (0 : Fin 1) c j))
    - Ideal.ofBits .f32 0x40000000#32 * ∑ c : Fin 3, x (ix3 (0 : Fin 1) i c) * y (ix3 (0 : Fin 1) c j)) (0 : EReal) = _
  simp only [hx, hy]
  rfl

/-- Three zero offsets. -/
theorem hz3 : (![0, 0, 0] : Fin 3 → Nat) = fun _ => 0 := funext fun a => by fin_cases a <;> rfl

variable (V : (c : Dev nD) → (b : Ref sig .tc) → Buf (Elt Ideal) ((c : Thread nD τ).loc b))

/-- The two coordinates of a grid point. -/
theorem coords_val (t : Fin cfg2.N) : ((grid2.coords t) 0).val = t.val / 8 ∧ ((grid2.coords t) 1).val = t.val % 8 :=
  (by decide +kernel : ∀ t : Fin grid2.N, ((grid2.coords t) 0).val = t.val / 8 ∧ ((grid2.coords t) 1).val = t.val % 8) t

/-- A grid point's blocks: the point's batch, and for the rows and the result also its 256 rows. -/
theorem index_val (t : Fin cfg2.N) : (win2_0.index t = ![t.val / 8, t.val % 8, 0]) ∧ (win2_1.index t = ![t.val / 8, 0, 0])
    ∧ (win2_2.index t = ![t.val / 8, t.val % 8, 0]) :=
  (by decide +kernel : ∀ t : Fin grid2.N, (win2_0.index t = ![t.val / 8, t.val % 8, 0]) ∧ (win2_1.index t = ![t.val / 8, 0, 0])
    ∧ (win2_2.index t = ![t.val / 8, t.val % 8, 0])) t

/-- The block of rows at point `t`, read off any array of points. -/
theorem read_rows (G : FVec Ideal Pts .f32) (t : Fin cfg2.N) (i : Fin 256) (q : Fin 3) (b : Fin 8) (r : Fin 2048)
    (hb : b.val = t.val / 8) (hr : r.val = t.val % 8 * 256 + i.val) :
    ((win2_0.blk t).view.read (Elt Ideal) G : Vec Ideal S1x256x3 .f32) (ix3 (0 : Fin 1) i q) = G (ix3 b r q) := by
  obtain ⟨i0, -, -⟩ := index_val t
  show G ((win2_0.blk t).view.emb (ix3 (0 : Fin 1) i q)) = _
  refine congrArg G (funext fun a => Fin.ext ?_)
  have e : ((win2_0.blk t).view.emb (ix3 (0 : Fin 1) i q) a).val = win2_0.index t a * win2_0.size a + (ix3 (0 : Fin 1) i q a).val :=
    Pipeline.Window.rect_emb_val _ _ _ _
  rw [e, i0]
  match a with
  | ⟨0, _⟩ => show t.val / 8 * 1 + 0 = b.val; omega
  | ⟨1, _⟩ => show t.val % 8 * 256 + i.val = r.val; omega
  | ⟨2, _⟩ => show 0 * 3 + q.val = q.val; omega

/-- The block of columns at point `t`, read off any array of points laid out by coordinate. -/
theorem read_cols (G : FVec Ideal S8x3x2048 .f32) (t : Fin cfg2.N) (q : Fin 3) (j : Fin 2048) (b : Fin 8)
    (hb : b.val = t.val / 8) :
    ((win2_1.blk t).view.read (Elt Ideal) G : Vec Ideal S1x3x2048 .f32) (ix3 (0 : Fin 1) q j) = G (ix3 b q j) := by
  obtain ⟨-, i1, -⟩ := index_val t
  show G ((win2_1.blk t).view.emb (ix3 (0 : Fin 1) q j)) = _
  refine congrArg G (funext fun a => Fin.ext ?_)
  have e : ((win2_1.blk t).view.emb (ix3 (0 : Fin 1) q j) a).val = win2_1.index t a * win2_1.size a + (ix3 (0 : Fin 1) q j a).val :=
    Pipeline.Window.rect_emb_val _ _ _ _
  rw [e, i1]
  match a with
  | ⟨0, _⟩ => show t.val / 8 * 1 + 0 = b.val; omega
  | ⟨1, _⟩ => show 0 * 3 + q.val = q.val; omega
  | ⟨2, _⟩ => show 0 * 2048 + j.val = j.val; omega

/-- The block of the result at point `t`, read off any array of neighbours. -/
theorem read_out (G : IVec Nbr 32) (t : Fin cfg2.N) (i : Fin 256) (k : Fin 16) (b : Fin 8) (r : Fin 2048)
    (hb : b.val = t.val / 8) (hr : r.val = t.val % 8 * 256 + i.val) :
    ((win2_2.blk t).view.read (Elt Ideal) G : IVec S1x256x16 32) (ix3 (0 : Fin 1) i k) = G (ix3 b r k) := by
  obtain ⟨-, -, i2⟩ := index_val t
  show G ((win2_2.blk t).view.emb (ix3 (0 : Fin 1) i k)) = _
  refine congrArg G (funext fun a => Fin.ext ?_)
  have e : ((win2_2.blk t).view.emb (ix3 (0 : Fin 1) i k) a).val = win2_2.index t a * win2_2.size a + (ix3 (0 : Fin 1) i k a).val :=
    Pipeline.Window.rect_emb_val _ _ _ _
  rw [e, i2]
  match a with
  | ⟨0, _⟩ => show t.val / 8 * 1 + 0 = b.val; omega
  | ⟨1, _⟩ => show t.val % 8 * 256 + i.val = r.val; omega
  | ⟨2, _⟩ => show 0 * 16 + k.val = k.val; omega

/-- The stored block at point `t`, over any arrays that hold the points and their exchanged layout, is block `t` of the
    sixteen nearest. -/
theorem block_eq (X : FVec Ideal Pts .f32) (XT : FVec Ideal S8x3x2048 .f32) (hX : Knn.Real X)
    (hT : ∀ b k j, XT (ix3 b k j) = X (ix3 b j k)) (t : Fin cfg2.N) :
    out2_2 (F := Ideal) (grid2.coords t) ((win2_0.blk t).view.read (Elt Ideal) X) ((win2_1.blk t).view.read (Elt Ideal) XT)
      = (win2_2.blk t).view.read (Elt Ideal) (nearest X) := by
  rw [stored, View.canon_unit_zero hz3, View.ld_unit_zero hz3, View.ld_unit_zero hz3]
  have hN : t.val < 64 := t.isLt
  obtain ⟨c0, -⟩ := coords_val t
  funext y
  obtain ⟨z, i, k, rfl⟩ : ∃ (z : Fin 1) (i : Fin 256) (k : Fin 16), y = ix3 z i k := ⟨_, _, _, ValueIdx.eq_ix3 y⟩
  obtain rfl : z = 0 := Subsingleton.elim _ _
  let b : Fin 8 := ⟨t.val / 8, by omega⟩
  let r : Fin 2048 := ⟨t.val % 8 * 256 + i.val, by have := i.isLt; omega⟩
  refine Eq.trans ?_ (read_out (nearest X) t i k b r rfl rfl).symm
  rw [shapeCast_ab_1ab_apply]
  refine block_nearest X hX _ b r i (fun j => dist_apply _ _ X b r i (fun q => read_rows X t i q b r rfl rfl)
    (fun q j => (read_cols XT t q j b rfl).trans (hT b q j)) j) k _ ?_
  rw [c0]

/-- WHAT GRID POINT `t` WRITES BACK is block `t` of the sixteen nearest. -/
theorem flushed_eq (c : Dev nD) (X : FVec Ideal Pts .f32) (hX : Knn.Real X)
    (h0 : (V c main_v33 : FVec Ideal Pts .f32) = X)
    (h1 : ∀ b k j, (V c main_v35 : FVec Ideal S8x3x2048 .f32) (ix3 b k j) = X (ix3 b j k)) (t : Fin cfg2.N) :
    (dat2 V c).flushed 2 t = (win2_2.blk t).view.read (Elt Ideal) (nearest X) := by
  show (cfg2.win 2).cut (grid2.coords t) ((dat2 V c).after 2 t) = _
  rw [after2_2]
  refine Eq.trans ?_ (block_eq X (V c main_v35) hX h1 t)
  have e : iblk2 V c 0 t = (win2_0.blk t).view.read (Elt Ideal) X := by
    show (win2_0.blk t).view.read (Elt Ideal) (V c main_v33) = _
    rw [h0]
  rw [e]
  rfl

/-- Every place of the result lies in some grid point's block. -/
theorem cover (n : S8x2048x16.Idx) : ∃ t : Fin cfg2.N, (cfg2.win 2).flush t = true ∧ n ∈ ((cfg2.win 2).blk t).view.set := by
  obtain ⟨b, r, k, rfl⟩ : ∃ (b : Fin 8) (r : Fin 2048) (k : Fin 16), n = ix3 b r k := ⟨_, _, _, ValueIdx.eq_ix3 n⟩
  have hb := b.isLt
  have hr := r.isLt
  have hk := k.isLt
  have hN : cfg2.N = 64 := rfl
  refine ⟨⟨b.val * 8 + r.val / 256, by omega⟩, flush2_2 _, ?_⟩
  obtain ⟨-, -, i2⟩ := index_val ⟨b.val * 8 + r.val / 256, by omega⟩
  mem_blk [i2]
  show (((b.val * 8 + r.val / 256) / 8 ≤ b.val ∧ b.val < (b.val * 8 + r.val / 256) / 8 + 1) ∧
    ((b.val * 8 + r.val / 256) % 8 * 256 ≤ r.val ∧ r.val < (b.val * 8 + r.val / 256) % 8 * 256 + 256) ∧
      0 ≤ k.val ∧ k.val < 16)
  omega

/-- THE RESULT ARRAY after the run is the sixteen nearest of the points. -/
theorem final (c : Dev nD) (X : FVec Ideal Pts .f32) (hX : Knn.Real X)
    (h0 : (V c main_v33 : FVec Ideal Pts .f32) = X)
    (h1 : ∀ b k j, (V c main_v35 : FVec Ideal S8x3x2048 .f32) (ix3 b k j) = X (ix3 b j k)) :
    (dat2 V c).arrAt 2 cfg2.N = nearest X :=
  (dat2 V c).arrAt_eq_of_cover 2 _ (fun t _ => flushed_eq V c X hX h0 h1 t) cover

end Cert.KernelIdeal.Near2
-- ==== Proof.Jacobi.lean ====
/-
  One sweep of the cyclic Jacobi method on a symmetric 3x3 matrix, as the kernel computes it for each matrix, over any
  float values; and the ordering of the eigenvalues, three compare-and-exchange steps, that follows the sweeps.
-/
module

public import Idealize.ShloMosaic.PureOps

@[expose] public section

noncomputable section

namespace Cert.Jacobi

open Idealize.ShloMosaic

variable {F : FTy → Type} [FloatOps F]

/-- A 3x3 matrix. -/
abbrev M3 (F : FTy → Type) : Type := Fin 3 → Fin 3 → F .f32

/-- The matrix with the given entries, row by row. -/
def mk9 (a00 a01 a02 a10 a11 a12 a20 a21 a22 : F .f32) : M3 F := fun i j =>
  (![![a00, a01, a02], ![a10, a11, a12], ![a20, a21, a22]] : Fin 3 → Fin 3 → F .f32) i j

/-- The constants zero, one and two. -/
abbrev zeroC : F .f32 := Scalar.ofBits .f32 0x00000000#32
abbrev oneC : F .f32 := Scalar.ofBits .f32 0x3F800000#32
abbrev twoC : F .f32 := Scalar.ofBits .f32 0x40000000#32

/-- Whether the off-diagonal part of `A` is within the tolerance. -/
def done (tol : F .f32) (A : M3 F) : BitVec 1 :=
  FloatOps.cmpf .ole (FloatOps.sqrt (FloatOps.mulf twoC (FloatOps.addf
    (FloatOps.addf (FloatOps.mulf (A 0 1) (A 0 1)) (FloatOps.mulf (A 0 2) (A 0 2))) (FloatOps.mulf (A 1 2) (A 1 2))))) tol

/-- Whether the rotation is left out: the sweep is, or the entry is zero already. -/
def skip (d : BitVec 1) (apq : F .f32) : BitVec 1 := IntOp.ori d (FloatOps.cmpf .oeq apq zeroC)

/-- The cotangent of twice the angle. -/
def tau (app aqq apq : F .f32) : F .f32 := FloatOps.divf (FloatOps.subf aqq app) (FloatOps.mulf twoC apq)

/-- The tangent of the angle. -/
def tanOf (app aqq apq : F .f32) : F .f32 :=
  FloatOps.divf (Scalar.select (FloatOps.cmpf .oge (tau app aqq apq) zeroC) oneC (Scalar.subf zeroC oneC))
    (FloatOps.addf (FloatOps.absf (tau app aqq apq))
      (FloatOps.sqrt (FloatOps.addf oneC (FloatOps.mulf (tau app aqq apq) (tau app aqq apq)))))

/-- The cosine before the choice. -/
def cosRaw (app aqq apq : F .f32) : F .f32 :=
  FloatOps.divf oneC (FloatOps.sqrt (FloatOps.addf oneC (FloatOps.mulf (tanOf app aqq apq) (tanOf app aqq apq))))

/-- The cosine and the sine of the rotation. -/
def cosOf (d : BitVec 1) (app aqq apq : F .f32) : F .f32 := Scalar.select (skip d apq) oneC (cosRaw app aqq apq)
def sinOf (d : BitVec 1) (app aqq apq : F .f32) : F .f32 :=
  Scalar.select (skip d apq) zeroC (FloatOps.mulf (tanOf app aqq apq) (cosRaw app aqq apq))

/-- Rows `p` and `q` turned. -/
def rowT (p q : Fin 3) (c s : F .f32) (A : M3 F) : M3 F := fun i j =>
  if i = p then FloatOps.subf (FloatOps.mulf c (A p j)) (FloatOps.mulf s (A q j))
  else if i = q then FloatOps.addf (FloatOps.mulf s (A p j)) (FloatOps.mulf c (A q j))
  else A i j

/-- Columns `p` and `q` turned. -/
def colT (p q : Fin 3) (c s : F .f32) (A : M3 F) : M3 F := fun i j =>
  if j = p then FloatOps.subf (FloatOps.mulf c (A i p)) (FloatOps.mulf s (A i q))
  else if j = q then FloatOps.addf (FloatOps.mulf s (A i p)) (FloatOps.mulf c (A i q))
  else A i j

/-- The cosine and sine of the rotation that annihilates `A p q`. -/
abbrev cosA (p q : Fin 3) (d : BitVec 1) (A : M3 F) : F .f32 := cosOf d (A p p) (A q q) (A p q)
abbrev sinA (p q : Fin 3) (d : BitVec 1) (A : M3 F) : F .f32 := sinOf d (A p p) (A q q) (A p q)

/-- The matrix after a rotation, and the vectors after it. -/
def turnA (p q : Fin 3) (d : BitVec 1) (A : M3 F) : M3 F :=
  colT p q (cosA p q d A) (sinA p q d A) (rowT p q (cosA p q d A) (sinA p q d A) A)
def turnV (p q : Fin 3) (d : BitVec 1) (A V : M3 F) : M3 F := colT p q (cosA p q d A) (sinA p q d A) V

/-- The matrix after one and after two rotations of a sweep. -/
def sweep1 (d : BitVec 1) (A : M3 F) : M3 F := turnA 0 2 d A
def sweep2 (d : BitVec 1) (A : M3 F) : M3 F := turnA 1 2 d (sweep1 d A)

/-- One sweep: the matrix, and the vectors. -/
def sweepA (tol : F .f32) (A : M3 F) : M3 F := turnA 0 1 (done tol A) (sweep2 (done tol A) A)
def sweepV (tol : F .f32) (A V : M3 F) : M3 F :=
  turnV 0 1 (done tol A) (sweep2 (done tol A) A) (turnV 1 2 (done tol A) (sweep1 (done tol A) A) (turnV 0 2 (done tol A) A V))

/-- One sweep of both. -/
def sweepS (tol : F .f32) (s : M3 F × M3 F) : M3 F × M3 F := (sweepA tol s.1, sweepV tol s.1 s.2)

/-- Three values ordered by exchanging neighbours `(0, 1)`, `(1, 2)`, `(0, 1)`, another three following them:
    the values first, the followers second. -/
def exch (x y : F .f32) : BitVec 1 := FloatOps.cmpf .olt y x
/-- The three values and their followers after exchanging places `0` and `1` where out of order. -/
def step01 (s : (F .f32 × F .f32 × F .f32) × (F .f32 × F .f32 × F .f32)) : (F .f32 × F .f32 × F .f32) × (F .f32 × F .f32 × F .f32) :=
  ((Scalar.select (exch s.1.1 s.1.2.1) s.1.2.1 s.1.1, Scalar.select (exch s.1.1 s.1.2.1) s.1.1 s.1.2.1, s.1.2.2),
    (Scalar.select (exch s.1.1 s.1.2.1) s.2.2.1 s.2.1, Scalar.select (exch s.1.1 s.1.2.1) s.2.1 s.2.2.1, s.2.2.2))
/-- The same for places `1` and `2`. -/
def step12 (s : (F .f32 × F .f32 × F .f32) × (F .f32 × F .f32 × F .f32)) : (F .f32 × F .f32 × F .f32) × (F .f32 × F .f32 × F .f32) :=
  ((s.1.1, Scalar.select (exch s.1.2.1 s.1.2.2) s.1.2.2 s.1.2.1, Scalar.select (exch s.1.2.1 s.1.2.2) s.1.2.1 s.1.2.2),
    (s.2.1, Scalar.select (exch s.1.2.1 s.1.2.2) s.2.2.2 s.2.2.1, Scalar.select (exch s.1.2.1 s.1.2.2) s.2.2.1 s.2.2.2))
/-- The three exchanges. -/
def order (s : (F .f32 × F .f32 × F .f32) × (F .f32 × F .f32 × F .f32)) := step01 (step12 (step01 s))

/-- The three values by place. -/
def w3 (t : F .f32 × F .f32 × F .f32) (k : Fin 3) : F .f32 := (![t.1, t.2.1, t.2.2] : Fin 3 → F .f32) k

/-- The diagonal in order, and the vectors' columns in the same order. -/
def eigVals (A : M3 F) (k : Fin 3) : F .f32 := w3 (order ((A 0 0, A 1 1, A 2 2), (A 0 0, A 1 1, A 2 2))).1 k
def eigVecs (A V : M3 F) (i k : Fin 3) : F .f32 := w3 (order ((A 0 0, A 1 1, A 2 2), (V i 0, V i 1, V i 2))).2 k

/-- The identity. -/
def ident : M3 F := mk9 oneC zeroC zeroC zeroC oneC zeroC zeroC zeroC oneC

/-- The tolerance: a small multiple of the root of the entries' squares, added up row by row from zero. -/
def tolOf (A : M3 F) : F .f32 :=
  FloatOps.mulf (Scalar.ofBits .f32 0x3727C5AC#32) (FloatOps.sqrt
    (FloatOps.addf (FloatOps.addf (FloatOps.addf (FloatOps.addf (FloatOps.addf (FloatOps.addf (FloatOps.addf (FloatOps.addf (FloatOps.addf zeroC
      (FloatOps.mulf (A 0 0) (A 0 0))) (FloatOps.mulf (A 0 1) (A 0 1))) (FloatOps.mulf (A 0 2) (A 0 2)))
      (FloatOps.mulf (A 1 0) (A 1 0))) (FloatOps.mulf (A 1 1) (A 1 1))) (FloatOps.mulf (A 1 2) (A 1 2)))
      (FloatOps.mulf (A 2 0) (A 2 0))) (FloatOps.mulf (A 2 1) (A 2 1))) (FloatOps.mulf (A 2 2) (A 2 2))))

/-- The matrix and the vectors after the eight sweeps. -/
def jacobi (A : M3 F) : M3 F × M3 F := (sweepS (tolOf A))^[8] (A, ident)

end Cert.Jacobi

end
-- ==== Proof.Lane.lean ====
/-
  One trip of the eigenvalue kernel's loop, read at one lane: the sweep of that lane's matrix and vectors (Jacobi.lean),
  over any float values; and what the kernel writes after the loop, read at a lane.
-/
module

public import proofs.«01_k».proof.Proof.IdealRun
public import proofs.«01_k».proof.Proof.Jacobi

@[expose] public section

set_option maxRecDepth 16384

noncomputable section

namespace Cert.KernelIdeal.Whole

open Cert.KernelIdeal.Gen Cert.Jacobi
open Idealize.ShloMosaic Idealize.ShloMosaic.TcCoe

variable {F : FTy → Type} [FloatOps F] [Named F]

/-- The lane's matrix and vectors in the planes. -/
def laneA (s : St F) (i : S8x128.Idx) : M3 F :=
  mk9 (s.1 i) (s.2.1 i) (s.2.2.1 i) (s.2.2.2.1 i) (s.2.2.2.2.1 i) (s.2.2.2.2.2.1 i) (s.2.2.2.2.2.2.1 i) (s.2.2.2.2.2.2.2.1 i) (s.2.2.2.2.2.2.2.2.1 i)
def laneV (s : St F) (i : S8x128.Idx) : M3 F :=
  mk9 (s.2.2.2.2.2.2.2.2.2.1 i) (s.2.2.2.2.2.2.2.2.2.2.1 i) (s.2.2.2.2.2.2.2.2.2.2.2.1 i) (s.2.2.2.2.2.2.2.2.2.2.2.2.1 i) (s.2.2.2.2.2.2.2.2.2.2.2.2.2.1 i)
    (s.2.2.2.2.2.2.2.2.2.2.2.2.2.2.1 i) (s.2.2.2.2.2.2.2.2.2.2.2.2.2.2.2.1 i) (s.2.2.2.2.2.2.2.2.2.2.2.2.2.2.2.2.1 i) (s.2.2.2.2.2.2.2.2.2.2.2.2.2.2.2.2.2 i)

/-- The test for a finished sweep. -/
theorem done_lane (v39 arg5 arg6 arg7 arg8 arg9 arg10 arg11 arg12 arg13 : FVec F S8x128 .f32) (i : S8x128.Idx) : (k1_pay3 v39 arg6 arg7 arg10) i = done (v39 i) (mk9 ((arg5 : FVec F S8x128 .f32) i) ((arg6 : FVec F S8x128 .f32) i) ((arg7 : FVec F S8x128 .f32) i) ((arg8 : FVec F S8x128 .f32) i) ((arg9 : FVec F S8x128 .f32) i) ((arg10 : FVec F S8x128 .f32) i) ((arg11 : FVec F S8x128 .f32) i) ((arg12 : FVec F S8x128 .f32) i) ((arg13 : FVec F S8x128 .f32) i)) := rfl

/-- The first rotation's cosine and sine. -/
theorem cos1_lane (v39 arg5 arg6 arg7 arg8 arg9 arg10 arg11 arg12 arg13 : FVec F S8x128 .f32) (i : S8x128.Idx) : (k1_pay7 v39 zeroC oneC arg5 arg6 arg7 arg10 arg13) i = cosA 0 2 (done (v39 i) (mk9 ((arg5 : FVec F S8x128 .f32) i) ((arg6 : FVec F S8x128 .f32) i) ((arg7 : FVec F S8x128 .f32) i) ((arg8 : FVec F S8x128 .f32) i) ((arg9 : FVec F S8x128 .f32) i) ((arg10 : FVec F S8x128 .f32) i) ((arg11 : FVec F S8x128 .f32) i) ((arg12 : FVec F S8x128 .f32) i) ((arg13 : FVec F S8x128 .f32) i))) (mk9 ((arg5 : FVec F S8x128 .f32) i) ((arg6 : FVec F S8x128 .f32) i) ((arg7 : FVec F S8x128 .f32) i) ((arg8 : FVec F S8x128 .f32) i) ((arg9 : FVec F S8x128 .f32) i) ((arg10 : FVec F S8x128 .f32) i) ((arg11 : FVec F S8x128 .f32) i) ((arg12 : FVec F S8x128 .f32) i) ((arg13 : FVec F S8x128 .f32) i)) := rfl

/-- The sine of the first rotation, read at a lane. -/
theorem sin1_lane (v39 arg5 arg6 arg7 arg8 arg9 arg10 arg11 arg12 arg13 : FVec F S8x128 .f32) (i : S8x128.Idx) : (k1_pay8 v39 zeroC oneC arg5 arg6 arg7 arg10 arg13) i = sinA 0 2 (done (v39 i) (mk9 ((arg5 : FVec F S8x128 .f32) i) ((arg6 : FVec F S8x128 .f32) i) ((arg7 : FVec F S8x128 .f32) i) ((arg8 : FVec F S8x128 .f32) i) ((arg9 : FVec F S8x128 .f32) i) ((arg10 : FVec F S8x128 .f32) i) ((arg11 : FVec F S8x128 .f32) i) ((arg12 : FVec F S8x128 .f32) i) ((arg13 : FVec F S8x128 .f32) i))) (mk9 ((arg5 : FVec F S8x128 .f32) i) ((arg6 : FVec F S8x128 .f32) i) ((arg7 : FVec F S8x128 .f32) i) ((arg8 : FVec F S8x128 .f32) i) ((arg9 : FVec F S8x128 .f32) i) ((arg10 : FVec F S8x128 .f32) i) ((arg11 : FVec F S8x128 .f32) i) ((arg12 : FVec F S8x128 .f32) i) ((arg13 : FVec F S8x128 .f32) i)) := rfl

/-- The first rotation of a sweep, the matrix. -/
theorem turn1_A (v39 arg5 arg6 arg7 arg8 arg9 arg10 arg11 arg12 arg13 : FVec F S8x128 .f32) (i : S8x128.Idx) :
    mk9 (((k1_pay16 (k1_pay7 v39 zeroC oneC arg5 arg6 arg7 arg10 arg13) (k1_pay8 v39 zeroC oneC arg5 arg6 arg7 arg10 arg13) (k1_pay9 v39 zeroC oneC arg5 arg6 arg7 arg10 arg11 arg13) (k1_pay13 v39 zeroC oneC arg5 arg6 arg7 arg10 arg13)) : FVec F S8x128 .f32) i) (((k1_pay11 v39 zeroC oneC arg5 arg6 arg7 arg10 arg12 arg13) : FVec F S8x128 .f32) i) (((k1_pay17 (k1_pay7 v39 zeroC oneC arg5 arg6 arg7 arg10 arg13) (k1_pay8 v39 zeroC oneC arg5 arg6 arg7 arg10 arg13) (k1_pay9 v39 zeroC oneC arg5 arg6 arg7 arg10 arg11 arg13) (k1_pay13 v39 zeroC oneC arg5 arg6 arg7 arg10 arg13)) : FVec F S8x128 .f32) i) (((k1_pay18 arg8 arg10 (k1_pay7 v39 zeroC oneC arg5 arg6 arg7 arg10 arg13) (k1_pay8 v39 zeroC oneC arg5 arg6 arg7 arg10 arg13)) : FVec F S8x128 .f32) i) ((arg9 : FVec F S8x128 .f32) i) (((k1_pay19 arg8 arg10 (k1_pay7 v39 zeroC oneC arg5 arg6 arg7 arg10 arg13) (k1_pay8 v39 zeroC oneC arg5 arg6 arg7 arg10 arg13)) : FVec F S8x128 .f32) i) (((k1_pay20 arg13 (k1_pay7 v39 zeroC oneC arg5 arg6 arg7 arg10 arg13) (k1_pay8 v39 zeroC oneC arg5 arg6 arg7 arg10 arg13) (k1_pay10 v39 zeroC oneC arg5 arg6 arg7 arg10 arg11 arg13) (k1_pay14 v39 zeroC oneC arg5 arg6 arg7 arg10 arg13)) : FVec F S8x128 .f32) i) (((k1_pay12 v39 zeroC oneC arg5 arg6 arg7 arg10 arg12 arg13) : FVec F S8x128 .f32) i) (((k1_pay21 arg13 (k1_pay7 v39 zeroC oneC arg5 arg6 arg7 arg10 arg13) (k1_pay8 v39 zeroC oneC arg5 arg6 arg7 arg10 arg13) (k1_pay10 v39 zeroC oneC arg5 arg6 arg7 arg10 arg11 arg13) (k1_pay14 v39 zeroC oneC arg5 arg6 arg7 arg10 arg13)) : FVec F S8x128 .f32) i)
      = turnA 0 2 (done (v39 i) (mk9 ((arg5 : FVec F S8x128 .f32) i) ((arg6 : FVec F S8x128 .f32) i) ((arg7 : FVec F S8x128 .f32) i) ((arg8 : FVec F S8x128 .f32) i) ((arg9 : FVec F S8x128 .f32) i) ((arg10 : FVec F S8x128 .f32) i) ((arg11 : FVec F S8x128 .f32) i) ((arg12 : FVec F S8x128 .f32) i) ((arg13 : FVec F S8x128 .f32) i))) (mk9 ((arg5 : FVec F S8x128 .f32) i) ((arg6 : FVec F S8x128 .f32) i) ((arg7 : FVec F S8x128 .f32) i) ((arg8 : FVec F S8x128 .f32) i) ((arg9 : FVec F S8x128 .f32) i) ((arg10 : FVec F S8x128 .f32) i) ((arg11 : FVec F S8x128 .f32) i) ((arg12 : FVec F S8x128 .f32) i) ((arg13 : FVec F S8x128 .f32) i)) := by
  funext r k; fin_cases r <;> fin_cases k <;> rfl

/-- The first rotation of a sweep, the vectors. -/
theorem turn1_V (v39 arg5 arg6 arg7 arg8 arg9 arg10 arg11 arg12 arg13 arg14 arg15 arg16 arg17 arg18 arg19 arg20 arg21 arg22 : FVec F S8x128 .f32) (i : S8x128.Idx) :
    mk9 (((k1_pay22 arg14 arg16 (k1_pay7 v39 zeroC oneC arg5 arg6 arg7 arg10 arg13) (k1_pay8 v39 zeroC oneC arg5 arg6 arg7 arg10 arg13)) : FVec F S8x128 .f32) i) ((arg15 : FVec F S8x128 .f32) i) (((k1_pay23 arg14 arg16 (k1_pay7 v39 zeroC oneC arg5 arg6 arg7 arg10 arg13) (k1_pay8 v39 zeroC oneC arg5 arg6 arg7 arg10 arg13)) : FVec F S8x128 .f32) i) (((k1_pay24 arg17 arg19 (k1_pay7 v39 zeroC oneC arg5 arg6 arg7 arg10 arg13) (k1_pay8 v39 zeroC oneC arg5 arg6 arg7 arg10 arg13)) : FVec F S8x128 .f32) i) ((arg18 : FVec F S8x128 .f32) i) (((k1_pay25 arg17 arg19 (k1_pay7 v39 zeroC oneC arg5 arg6 arg7 arg10 arg13) (k1_pay8 v39 zeroC oneC arg5 arg6 arg7 arg10 arg13)) : FVec F S8x128 .f32) i) (((k1_pay26 arg20 arg22 (k1_pay7 v39 zeroC oneC arg5 arg6 arg7 arg10 arg13) (k1_pay8 v39 zeroC oneC arg5 arg6 arg7 arg10 arg13)) : FVec F S8x128 .f32) i) ((arg21 : FVec F S8x128 .f32) i) (((k1_pay27 arg20 arg22 (k1_pay7 v39 zeroC oneC arg5 arg6 arg7 arg10 arg13) (k1_pay8 v39 zeroC oneC arg5 arg6 arg7 arg10 arg13)) : FVec F S8x128 .f32) i)
      = turnV 0 2 (done (v39 i) (mk9 ((arg5 : FVec F S8x128 .f32) i) ((arg6 : FVec F S8x128 .f32) i) ((arg7 : FVec F S8x128 .f32) i) ((arg8 : FVec F S8x128 .f32) i) ((arg9 : FVec F S8x128 .f32) i) ((arg10 : FVec F S8x128 .f32) i) ((arg11 : FVec F S8x128 .f32) i) ((arg12 : FVec F S8x128 .f32) i) ((arg13 : FVec F S8x128 .f32) i))) (mk9 ((arg5 : FVec F S8x128 .f32) i) ((arg6 : FVec F S8x128 .f32) i) ((arg7 : FVec F S8x128 .f32) i) ((arg8 : FVec F S8x128 .f32) i) ((arg9 : FVec F S8x128 .f32) i) ((arg10 : FVec F S8x128 .f32) i) ((arg11 : FVec F S8x128 .f32) i) ((arg12 : FVec F S8x128 .f32) i) ((arg13 : FVec F S8x128 .f32) i)) (mk9 ((arg14 : FVec F S8x128 .f32) i) ((arg15 : FVec F S8x128 .f32) i) ((arg16 : FVec F S8x128 .f32) i) ((arg17 : FVec F S8x128 .f32) i) ((arg18 : FVec F S8x128 .f32) i) ((arg19 : FVec F S8x128 .f32) i) ((arg20 : FVec F S8x128 .f32) i) ((arg21 : FVec F S8x128 .f32) i) ((arg22 : FVec F S8x128 .f32) i)) := by
  funext r k; fin_cases r <;> fin_cases k <;> rfl

/-- The second rotation of a sweep, the matrix. -/
theorem turn2_A (v115 : IVec S8x128 1) (v144 v146 v152 v155 v158 v162 v167 v170 arg8 arg9 arg10 arg13 : FVec F S8x128 .f32) (i : S8x128.Idx) :
    mk9 ((v167 : FVec F S8x128 .f32) i) (((k1_pay39 zeroC oneC v155 v170 (k1_pay28 zeroC arg8 arg10 v115 v144 v146) (k1_pay29 zeroC oneC arg8 arg9 arg10 arg13 v144 v146 v152 v162)) : FVec F S8x128 .f32) i) (((k1_pay40 zeroC oneC v155 v170 (k1_pay28 zeroC arg8 arg10 v115 v144 v146) (k1_pay29 zeroC oneC arg8 arg9 arg10 arg13 v144 v146 v152 v162)) : FVec F S8x128 .f32) i) (((k1_pay33 zeroC oneC (k1_pay18 arg8 arg10 v144 v146) (k1_pay20 arg13 v144 v146 v152 v162) (k1_pay28 zeroC arg8 arg10 v115 v144 v146) (k1_pay29 zeroC oneC arg8 arg9 arg10 arg13 v144 v146 v152 v162)) : FVec F S8x128 .f32) i) (((k1_pay41 zeroC oneC arg9 v158 (k1_pay19 arg8 arg10 v144 v146) (k1_pay21 arg13 v144 v146 v152 v162) (k1_pay28 zeroC arg8 arg10 v115 v144 v146) (k1_pay29 zeroC oneC arg8 arg9 arg10 arg13 v144 v146 v152 v162)) : FVec F S8x128 .f32) i) (((k1_pay42 zeroC oneC arg9 v158 (k1_pay19 arg8 arg10 v144 v146) (k1_pay21 arg13 v144 v146 v152 v162) (k1_pay28 zeroC arg8 arg10 v115 v144 v146) (k1_pay29 zeroC oneC arg8 arg9 arg10 arg13 v144 v146 v152 v162)) : FVec F S8x128 .f32) i) (((k1_pay34 zeroC oneC (k1_pay18 arg8 arg10 v144 v146) (k1_pay20 arg13 v144 v146 v152 v162) (k1_pay28 zeroC arg8 arg10 v115 v144 v146) (k1_pay29 zeroC oneC arg8 arg9 arg10 arg13 v144 v146 v152 v162)) : FVec F S8x128 .f32) i) (((k1_pay43 zeroC oneC arg9 v158 (k1_pay19 arg8 arg10 v144 v146) (k1_pay21 arg13 v144 v146 v152 v162) (k1_pay28 zeroC arg8 arg10 v115 v144 v146) (k1_pay29 zeroC oneC arg8 arg9 arg10 arg13 v144 v146 v152 v162)) : FVec F S8x128 .f32) i) (((k1_pay44 zeroC oneC arg9 v158 (k1_pay19 arg8 arg10 v144 v146) (k1_pay21 arg13 v144 v146 v152 v162) (k1_pay28 zeroC arg8 arg10 v115 v144 v146) (k1_pay29 zeroC oneC arg8 arg9 arg10 arg13 v144 v146 v152 v162)) : FVec F S8x128 .f32) i)
      = turnA 1 2 (v115 i) (mk9 ((v167 : FVec F S8x128 .f32) i) ((v155 : FVec F S8x128 .f32) i) ((v170 : FVec F S8x128 .f32) i) (((k1_pay18 arg8 arg10 v144 v146) : FVec F S8x128 .f32) i) ((arg9 : FVec F S8x128 .f32) i) (((k1_pay19 arg8 arg10 v144 v146) : FVec F S8x128 .f32) i) (((k1_pay20 arg13 v144 v146 v152 v162) : FVec F S8x128 .f32) i) ((v158 : FVec F S8x128 .f32) i) (((k1_pay21 arg13 v144 v146 v152 v162) : FVec F S8x128 .f32) i)) := by
  funext r k; fin_cases r <;> fin_cases k <;> rfl

/-- The second rotation of a sweep, the vectors. -/
theorem turn2_V (v115 : IVec S8x128 1) (v144 v146 v152 v155 v158 v162 v167 v170 arg8 arg9 arg10 arg13 : FVec F S8x128 .f32) (v185 v188 v191 v194 v197 v200 arg15 arg18 arg21 : FVec F S8x128 .f32) (i : S8x128.Idx) :
    mk9 ((v185 : FVec F S8x128 .f32) i) (((k1_pay45 zeroC oneC arg15 v188 (k1_pay28 zeroC arg8 arg10 v115 v144 v146) (k1_pay29 zeroC oneC arg8 arg9 arg10 arg13 v144 v146 v152 v162)) : FVec F S8x128 .f32) i) (((k1_pay46 zeroC oneC arg15 v188 (k1_pay28 zeroC arg8 arg10 v115 v144 v146) (k1_pay29 zeroC oneC arg8 arg9 arg10 arg13 v144 v146 v152 v162)) : FVec F S8x128 .f32) i) ((v191 : FVec F S8x128 .f32) i) (((k1_pay47 zeroC oneC arg18 v194 (k1_pay28 zeroC arg8 arg10 v115 v144 v146) (k1_pay29 zeroC oneC arg8 arg9 arg10 arg13 v144 v146 v152 v162)) : FVec F S8x128 .f32) i) (((k1_pay48 zeroC oneC arg18 v194 (k1_pay28 zeroC arg8 arg10 v115 v144 v146) (k1_pay29 zeroC oneC arg8 arg9 arg10 arg13 v144 v146 v152 v162)) : FVec F S8x128 .f32) i) ((v197 : FVec F S8x128 .f32) i) (((k1_pay50 v200 (k1_pay32 zeroC oneC (k1_pay28 zeroC arg8 arg10 v115 v144 v146) (k1_pay29 zeroC oneC arg8 arg9 arg10 arg13 v144 v146 v152 v162)) (k1_pay49 oneC arg21 (k1_pay28 zeroC arg8 arg10 v115 v144 v146) (k1_pay29 zeroC oneC arg8 arg9 arg10 arg13 v144 v146 v152 v162))) : FVec F S8x128 .f32) i) (((k1_pay51 arg21 v200 (k1_pay31 oneC (k1_pay28 zeroC arg8 arg10 v115 v144 v146) (k1_pay29 zeroC oneC arg8 arg9 arg10 arg13 v144 v146 v152 v162)) (k1_pay32 zeroC oneC (k1_pay28 zeroC arg8 arg10 v115 v144 v146) (k1_pay29 zeroC oneC arg8 arg9 arg10 arg13 v144 v146 v152 v162))) : FVec F S8x128 .f32) i)
      = turnV 1 2 (v115 i) (mk9 ((v167 : FVec F S8x128 .f32) i) ((v155 : FVec F S8x128 .f32) i) ((v170 : FVec F S8x128 .f32) i) (((k1_pay18 arg8 arg10 v144 v146) : FVec F S8x128 .f32) i) ((arg9 : FVec F S8x128 .f32) i) (((k1_pay19 arg8 arg10 v144 v146) : FVec F S8x128 .f32) i) (((k1_pay20 arg13 v144 v146 v152 v162) : FVec F S8x128 .f32) i) ((v158 : FVec F S8x128 .f32) i) (((k1_pay21 arg13 v144 v146 v152 v162) : FVec F S8x128 .f32) i)) (mk9 ((v185 : FVec F S8x128 .f32) i) ((arg15 : FVec F S8x128 .f32) i) ((v188 : FVec F S8x128 .f32) i) ((v191 : FVec F S8x128 .f32) i) ((arg18 : FVec F S8x128 .f32) i) ((v194 : FVec F S8x128 .f32) i) ((v197 : FVec F S8x128 .f32) i) ((arg21 : FVec F S8x128 .f32) i) ((v200 : FVec F S8x128 .f32) i)) := by
  funext r k; fin_cases r <;> fin_cases k <;> rfl

/-- The third rotation of a sweep, the matrix. -/
theorem turn3_A (v115 : IVec S8x128 1) (v167 v252 v255 v234 v258 v261 v237 v264 v267 : FVec F S8x128 .f32) (i : S8x128.Idx) :
    mk9 (((k1_pay63 zeroC oneC v115 v167 v234 v252 v258) : FVec F S8x128 .f32) i) ((k1_pay78 (k1_pay55 zeroC oneC v115 v167 v252 v258) (k1_pay59 zeroC oneC v115 v167 v252 v258) (k1_pay64 zeroC oneC v115 v167 v234 v252 v258) : FVec F S8x128 .f32) i) (((k1_pay61 zeroC oneC v115 v167 v252 v255 v258 v261) : FVec F S8x128 .f32) i) ((k1_pay79 (k1_pay55 zeroC oneC v115 v167 v252 v258) (k1_pay56 zeroC oneC v115 v167 v252 v258) (k1_pay58 zeroC oneC v115 v167 v234 v252 v258) (k1_pay60 zeroC oneC v115 v167 v252 v258) : FVec F S8x128 .f32) i) ((k1_pay80 (k1_pay55 zeroC oneC v115 v167 v252 v258) (k1_pay56 zeroC oneC v115 v167 v252 v258) (k1_pay58 zeroC oneC v115 v167 v234 v252 v258) (k1_pay60 zeroC oneC v115 v167 v252 v258) : FVec F S8x128 .f32) i) (((k1_pay62 zeroC oneC v115 v167 v252 v255 v258 v261) : FVec F S8x128 .f32) i) ((k1_pay81 v237 v264 (k1_pay55 zeroC oneC v115 v167 v252 v258) (k1_pay56 zeroC oneC v115 v167 v252 v258) : FVec F S8x128 .f32) i) ((k1_pay82 v237 v264 (k1_pay55 zeroC oneC v115 v167 v252 v258) (k1_pay56 zeroC oneC v115 v167 v252 v258) : FVec F S8x128 .f32) i) ((v267 : FVec F S8x128 .f32) i)
      = turnA 0 1 (v115 i) (mk9 ((v167 : FVec F S8x128 .f32) i) ((v252 : FVec F S8x128 .f32) i) ((v255 : FVec F S8x128 .f32) i) ((v234 : FVec F S8x128 .f32) i) ((v258 : FVec F S8x128 .f32) i) ((v261 : FVec F S8x128 .f32) i) ((v237 : FVec F S8x128 .f32) i) ((v264 : FVec F S8x128 .f32) i) ((v267 : FVec F S8x128 .f32) i)) := by
  funext r k; fin_cases r <;> fin_cases k <;> rfl

/-- The third rotation of a sweep, the vectors. -/
theorem turn3_V (v115 : IVec S8x128 1) (v167 v252 v255 v234 v258 v261 v237 v264 v267 : FVec F S8x128 .f32) (v185 v270 v273 v191 v276 v279 v197 v282 v285 : FVec F S8x128 .f32) (i : S8x128.Idx) :
    mk9 ((k1_pay83 v185 v270 (k1_pay55 zeroC oneC v115 v167 v252 v258) (k1_pay56 zeroC oneC v115 v167 v252 v258) : FVec F S8x128 .f32) i) ((k1_pay84 v185 v270 (k1_pay55 zeroC oneC v115 v167 v252 v258) (k1_pay56 zeroC oneC v115 v167 v252 v258) : FVec F S8x128 .f32) i) ((v273 : FVec F S8x128 .f32) i) ((k1_pay85 v191 v276 (k1_pay55 zeroC oneC v115 v167 v252 v258) (k1_pay56 zeroC oneC v115 v167 v252 v258) : FVec F S8x128 .f32) i) ((k1_pay86 v191 v276 (k1_pay55 zeroC oneC v115 v167 v252 v258) (k1_pay56 zeroC oneC v115 v167 v252 v258) : FVec F S8x128 .f32) i) ((v279 : FVec F S8x128 .f32) i) ((k1_pay87 v197 v282 (k1_pay55 zeroC oneC v115 v167 v252 v258) (k1_pay56 zeroC oneC v115 v167 v252 v258) : FVec F S8x128 .f32) i) ((k1_pay88 v197 v282 (k1_pay55 zeroC oneC v115 v167 v252 v258) (k1_pay56 zeroC oneC v115 v167 v252 v258) : FVec F S8x128 .f32) i) ((v285 : FVec F S8x128 .f32) i)
      = turnV 0 1 (v115 i) (mk9 ((v167 : FVec F S8x128 .f32) i) ((v252 : FVec F S8x128 .f32) i) ((v255 : FVec F S8x128 .f32) i) ((v234 : FVec F S8x128 .f32) i) ((v258 : FVec F S8x128 .f32) i) ((v261 : FVec F S8x128 .f32) i) ((v237 : FVec F S8x128 .f32) i) ((v264 : FVec F S8x128 .f32) i) ((v267 : FVec F S8x128 .f32) i)) (mk9 ((v185 : FVec F S8x128 .f32) i) ((v270 : FVec F S8x128 .f32) i) ((v273 : FVec F S8x128 .f32) i) ((v191 : FVec F S8x128 .f32) i) ((v276 : FVec F S8x128 .f32) i) ((v279 : FVec F S8x128 .f32) i) ((v197 : FVec F S8x128 .f32) i) ((v282 : FVec F S8x128 .f32) i) ((v285 : FVec F S8x128 .f32) i)) := by
  funext r k; fin_cases r <;> fin_cases k <;> rfl

/-- One trip at a lane: the matrix. -/
theorem sweep_laneA (v39 : FVec F S8x128 .f32) (s : St F) (i : S8x128.Idx) :
    laneA (sweep zeroC oneC v39 s) i = sweepA (v39 i) (laneA s i) := by
  obtain ⟨a5, a6, a7, a8, a9, a10, a11, a12, a13, a14, a15, a16, a17, a18, a19, a20, a21, a22⟩ := s
  refine (turn3_A _ _ _ _ _ _ _ _ _ _ i).trans ?_
  refine Eq.trans (congrArg₂ (turnA 0 1) rfl (turn2_A _ _ _ _ _ _ _ _ _ _ _ _ _ i)) ?_
  refine Eq.trans (congrArg₂ (turnA 0 1) rfl (congrArg₂ (turnA 1 2) rfl (turn1_A v39 a5 a6 a7 a8 a9 a10 a11 a12 a13 i))) ?_
  rfl

/-- One trip at a lane: the vectors. -/
theorem sweep_laneV (v39 : FVec F S8x128 .f32) (s : St F) (i : S8x128.Idx) :
    laneV (sweep zeroC oneC v39 s) i = sweepV (v39 i) (laneA s i) (laneV s i) := by
  obtain ⟨a5, a6, a7, a8, a9, a10, a11, a12, a13, a14, a15, a16, a17, a18, a19, a20, a21, a22⟩ := s
  refine (turn3_V ((k1_pay3 v39 a6 a7 a10)) ((k1_pay16 (k1_pay7 v39 zeroC oneC a5 a6 a7 a10 a13) (k1_pay8 v39 zeroC oneC a5 a6 a7 a10 a13) (k1_pay9 v39 zeroC oneC a5 a6 a7 a10 a11 a13) (k1_pay13 v39 zeroC oneC a5 a6 a7 a10 a13))) ((k1_pay39 zeroC oneC (k1_pay11 v39 zeroC oneC a5 a6 a7 a10 a12 a13) (k1_pay17 (k1_pay7 v39 zeroC oneC a5 a6 a7 a10 a13) (k1_pay8 v39 zeroC oneC a5 a6 a7 a10 a13) (k1_pay9 v39 zeroC oneC a5 a6 a7 a10 a11 a13) (k1_pay13 v39 zeroC oneC a5 a6 a7 a10 a13)) (k1_pay28 zeroC a8 a10 (k1_pay3 v39 a6 a7 a10) (k1_pay7 v39 zeroC oneC a5 a6 a7 a10 a13) (k1_pay8 v39 zeroC oneC a5 a6 a7 a10 a13)) (k1_pay29 zeroC oneC a8 a9 a10 a13 (k1_pay7 v39 zeroC oneC a5 a6 a7 a10 a13) (k1_pay8 v39 zeroC oneC a5 a6 a7 a10 a13) (k1_pay10 v39 zeroC oneC a5 a6 a7 a10 a11 a13) (k1_pay14 v39 zeroC oneC a5 a6 a7 a10 a13)))) ((k1_pay40 zeroC oneC (k1_pay11 v39 zeroC oneC a5 a6 a7 a10 a12 a13) (k1_pay17 (k1_pay7 v39 zeroC oneC a5 a6 a7 a10 a13) (k1_pay8 v39 zeroC oneC a5 a6 a7 a10 a13) (k1_pay9 v39 zeroC oneC a5 a6 a7 a10 a11 a13) (k1_pay13 v39 zeroC oneC a5 a6 a7 a10 a13)) (k1_pay28 zeroC a8 a10 (k1_pay3 v39 a6 a7 a10) (k1_pay7 v39 zeroC oneC a5 a6 a7 a10 a13) (k1_pay8 v39 zeroC oneC a5 a6 a7 a10 a13)) (k1_pay29 zeroC oneC a8 a9 a10 a13 (k1_pay7 v39 zeroC oneC a5 a6 a7 a10 a13) (k1_pay8 v39 zeroC oneC a5 a6 a7 a10 a13) (k1_pay10 v39 zeroC oneC a5 a6 a7 a10 a11 a13) (k1_pay14 v39 zeroC oneC a5 a6 a7 a10 a13)))) ((k1_pay33 zeroC oneC (k1_pay18 a8 a10 (k1_pay7 v39 zeroC oneC a5 a6 a7 a10 a13) (k1_pay8 v39 zeroC oneC a5 a6 a7 a10 a13)) (k1_pay20 a13 (k1_pay7 v39 zeroC oneC a5 a6 a7 a10 a13) (k1_pay8 v39 zeroC oneC a5 a6 a7 a10 a13) (k1_pay10 v39 zeroC oneC a5 a6 a7 a10 a11 a13) (k1_pay14 v39 zeroC oneC a5 a6 a7 a10 a13)) (k1_pay28 zeroC a8 a10 (k1_pay3 v39 a6 a7 a10) (k1_pay7 v39 zeroC oneC a5 a6 a7 a10 a13) (k1_pay8 v39 zeroC oneC a5 a6 a7 a10 a13)) (k1_pay29 zeroC oneC a8 a9 a10 a13 (k1_pay7 v39 zeroC oneC a5 a6 a7 a10 a13) (k1_pay8 v39 zeroC oneC a5 a6 a7 a10 a13) (k1_pay10 v39 zeroC oneC a5 a6 a7 a10 a11 a13) (k1_pay14 v39 zeroC oneC a5 a6 a7 a10 a13)))) ((k1_pay41 zeroC oneC a9 (k1_pay12 v39 zeroC oneC a5 a6 a7 a10 a12 a13) (k1_pay19 a8 a10 (k1_pay7 v39 zeroC oneC a5 a6 a7 a10 a13) (k1_pay8 v39 zeroC oneC a5 a6 a7 a10 a13)) (k1_pay21 a13 (k1_pay7 v39 zeroC oneC a5 a6 a7 a10 a13) (k1_pay8 v39 zeroC oneC a5 a6 a7 a10 a13) (k1_pay10 v39 zeroC oneC a5 a6 a7 a10 a11 a13) (k1_pay14 v39 zeroC oneC a5 a6 a7 a10 a13)) (k1_pay28 zeroC a8 a10 (k1_pay3 v39 a6 a7 a10) (k1_pay7 v39 zeroC oneC a5 a6 a7 a10 a13) (k1_pay8 v39 zeroC oneC a5 a6 a7 a10 a13)) (k1_pay29 zeroC oneC a8 a9 a10 a13 (k1_pay7 v39 zeroC oneC a5 a6 a7 a10 a13) (k1_pay8 v39 zeroC oneC a5 a6 a7 a10 a13) (k1_pay10 v39 zeroC oneC a5 a6 a7 a10 a11 a13) (k1_pay14 v39 zeroC oneC a5 a6 a7 a10 a13)))) ((k1_pay42 zeroC oneC a9 (k1_pay12 v39 zeroC oneC a5 a6 a7 a10 a12 a13) (k1_pay19 a8 a10 (k1_pay7 v39 zeroC oneC a5 a6 a7 a10 a13) (k1_pay8 v39 zeroC oneC a5 a6 a7 a10 a13)) (k1_pay21 a13 (k1_pay7 v39 zeroC oneC a5 a6 a7 a10 a13) (k1_pay8 v39 zeroC oneC a5 a6 a7 a10 a13) (k1_pay10 v39 zeroC oneC a5 a6 a7 a10 a11 a13) (k1_pay14 v39 zeroC oneC a5 a6 a7 a10 a13)) (k1_pay28 zeroC a8 a10 (k1_pay3 v39 a6 a7 a10) (k1_pay7 v39 zeroC oneC a5 a6 a7 a10 a13) (k1_pay8 v39 zeroC oneC a5 a6 a7 a10 a13)) (k1_pay29 zeroC oneC a8 a9 a10 a13 (k1_pay7 v39 zeroC oneC a5 a6 a7 a10 a13) (k1_pay8 v39 zeroC oneC a5 a6 a7 a10 a13) (k1_pay10 v39 zeroC oneC a5 a6 a7 a10 a11 a13) (k1_pay14 v39 zeroC oneC a5 a6 a7 a10 a13)))) ((k1_pay34 zeroC oneC (k1_pay18 a8 a10 (k1_pay7 v39 zeroC oneC a5 a6 a7 a10 a13) (k1_pay8 v39 zeroC oneC a5 a6 a7 a10 a13)) (k1_pay20 a13 (k1_pay7 v39 zeroC oneC a5 a6 a7 a10 a13) (k1_pay8 v39 zeroC oneC a5 a6 a7 a10 a13) (k1_pay10 v39 zeroC oneC a5 a6 a7 a10 a11 a13) (k1_pay14 v39 zeroC oneC a5 a6 a7 a10 a13)) (k1_pay28 zeroC a8 a10 (k1_pay3 v39 a6 a7 a10) (k1_pay7 v39 zeroC oneC a5 a6 a7 a10 a13) (k1_pay8 v39 zeroC oneC a5 a6 a7 a10 a13)) (k1_pay29 zeroC oneC a8 a9 a10 a13 (k1_pay7 v39 zeroC oneC a5 a6 a7 a10 a13) (k1_pay8 v39 zeroC oneC a5 a6 a7 a10 a13) (k1_pay10 v39 zeroC oneC a5 a6 a7 a10 a11 a13) (k1_pay14 v39 zeroC oneC a5 a6 a7 a10 a13)))) ((k1_pay43 zeroC oneC a9 (k1_pay12 v39 zeroC oneC a5 a6 a7 a10 a12 a13) (k1_pay19 a8 a10 (k1_pay7 v39 zeroC oneC a5 a6 a7 a10 a13) (k1_pay8 v39 zeroC oneC a5 a6 a7 a10 a13)) (k1_pay21 a13 (k1_pay7 v39 zeroC oneC a5 a6 a7 a10 a13) (k1_pay8 v39 zeroC oneC a5 a6 a7 a10 a13) (k1_pay10 v39 zeroC oneC a5 a6 a7 a10 a11 a13) (k1_pay14 v39 zeroC oneC a5 a6 a7 a10 a13)) (k1_pay28 zeroC a8 a10 (k1_pay3 v39 a6 a7 a10) (k1_pay7 v39 zeroC oneC a5 a6 a7 a10 a13) (k1_pay8 v39 zeroC oneC a5 a6 a7 a10 a13)) (k1_pay29 zeroC oneC a8 a9 a10 a13 (k1_pay7 v39 zeroC oneC a5 a6 a7 a10 a13) (k1_pay8 v39 zeroC oneC a5 a6 a7 a10 a13) (k1_pay10 v39 zeroC oneC a5 a6 a7 a10 a11 a13) (k1_pay14 v39 zeroC oneC a5 a6 a7 a10 a13)))) ((k1_pay44 zeroC oneC a9 (k1_pay12 v39 zeroC oneC a5 a6 a7 a10 a12 a13) (k1_pay19 a8 a10 (k1_pay7 v39 zeroC oneC a5 a6 a7 a10 a13) (k1_pay8 v39 zeroC oneC a5 a6 a7 a10 a13)) (k1_pay21 a13 (k1_pay7 v39 zeroC oneC a5 a6 a7 a10 a13) (k1_pay8 v39 zeroC oneC a5 a6 a7 a10 a13) (k1_pay10 v39 zeroC oneC a5 a6 a7 a10 a11 a13) (k1_pay14 v39 zeroC oneC a5 a6 a7 a10 a13)) (k1_pay28 zeroC a8 a10 (k1_pay3 v39 a6 a7 a10) (k1_pay7 v39 zeroC oneC a5 a6 a7 a10 a13) (k1_pay8 v39 zeroC oneC a5 a6 a7 a10 a13)) (k1_pay29 zeroC oneC a8 a9 a10 a13 (k1_pay7 v39 zeroC oneC a5 a6 a7 a10 a13) (k1_pay8 v39 zeroC oneC a5 a6 a7 a10 a13) (k1_pay10 v39 zeroC oneC a5 a6 a7 a10 a11 a13) (k1_pay14 v39 zeroC oneC a5 a6 a7 a10 a13)))) ((k1_pay22 a14 a16 (k1_pay7 v39 zeroC oneC a5 a6 a7 a10 a13) (k1_pay8 v39 zeroC oneC a5 a6 a7 a10 a13))) ((k1_pay45 zeroC oneC a15 (k1_pay23 a14 a16 (k1_pay7 v39 zeroC oneC a5 a6 a7 a10 a13) (k1_pay8 v39 zeroC oneC a5 a6 a7 a10 a13)) (k1_pay28 zeroC a8 a10 (k1_pay3 v39 a6 a7 a10) (k1_pay7 v39 zeroC oneC a5 a6 a7 a10 a13) (k1_pay8 v39 zeroC oneC a5 a6 a7 a10 a13)) (k1_pay29 zeroC oneC a8 a9 a10 a13 (k1_pay7 v39 zeroC oneC a5 a6 a7 a10 a13) (k1_pay8 v39 zeroC oneC a5 a6 a7 a10 a13) (k1_pay10 v39 zeroC oneC a5 a6 a7 a10 a11 a13) (k1_pay14 v39 zeroC oneC a5 a6 a7 a10 a13)))) ((k1_pay46 zeroC oneC a15 (k1_pay23 a14 a16 (k1_pay7 v39 zeroC oneC a5 a6 a7 a10 a13) (k1_pay8 v39 zeroC oneC a5 a6 a7 a10 a13)) (k1_pay28 zeroC a8 a10 (k1_pay3 v39 a6 a7 a10) (k1_pay7 v39 zeroC oneC a5 a6 a7 a10 a13) (k1_pay8 v39 zeroC oneC a5 a6 a7 a10 a13)) (k1_pay29 zeroC oneC a8 a9 a10 a13 (k1_pay7 v39 zeroC oneC a5 a6 a7 a10 a13) (k1_pay8 v39 zeroC oneC a5 a6 a7 a10 a13) (k1_pay10 v39 zeroC oneC a5 a6 a7 a10 a11 a13) (k1_pay14 v39 zeroC oneC a5 a6 a7 a10 a13)))) ((k1_pay24 a17 a19 (k1_pay7 v39 zeroC oneC a5 a6 a7 a10 a13) (k1_pay8 v39 zeroC oneC a5 a6 a7 a10 a13))) ((k1_pay47 zeroC oneC a18 (k1_pay25 a17 a19 (k1_pay7 v39 zeroC oneC a5 a6 a7 a10 a13) (k1_pay8 v39 zeroC oneC a5 a6 a7 a10 a13)) (k1_pay28 zeroC a8 a10 (k1_pay3 v39 a6 a7 a10) (k1_pay7 v39 zeroC oneC a5 a6 a7 a10 a13) (k1_pay8 v39 zeroC oneC a5 a6 a7 a10 a13)) (k1_pay29 zeroC oneC a8 a9 a10 a13 (k1_pay7 v39 zeroC oneC a5 a6 a7 a10 a13) (k1_pay8 v39 zeroC oneC a5 a6 a7 a10 a13) (k1_pay10 v39 zeroC oneC a5 a6 a7 a10 a11 a13) (k1_pay14 v39 zeroC oneC a5 a6 a7 a10 a13)))) ((k1_pay48 zeroC oneC a18 (k1_pay25 a17 a19 (k1_pay7 v39 zeroC oneC a5 a6 a7 a10 a13) (k1_pay8 v39 zeroC oneC a5 a6 a7 a10 a13)) (k1_pay28 zeroC a8 a10 (k1_pay3 v39 a6 a7 a10) (k1_pay7 v39 zeroC oneC a5 a6 a7 a10 a13) (k1_pay8 v39 zeroC oneC a5 a6 a7 a10 a13)) (k1_pay29 zeroC oneC a8 a9 a10 a13 (k1_pay7 v39 zeroC oneC a5 a6 a7 a10 a13) (k1_pay8 v39 zeroC oneC a5 a6 a7 a10 a13) (k1_pay10 v39 zeroC oneC a5 a6 a7 a10 a11 a13) (k1_pay14 v39 zeroC oneC a5 a6 a7 a10 a13)))) ((k1_pay26 a20 a22 (k1_pay7 v39 zeroC oneC a5 a6 a7 a10 a13) (k1_pay8 v39 zeroC oneC a5 a6 a7 a10 a13))) ((k1_pay50 (k1_pay27 a20 a22 (k1_pay7 v39 zeroC oneC a5 a6 a7 a10 a13) (k1_pay8 v39 zeroC oneC a5 a6 a7 a10 a13)) (k1_pay32 zeroC oneC (k1_pay28 zeroC a8 a10 (k1_pay3 v39 a6 a7 a10) (k1_pay7 v39 zeroC oneC a5 a6 a7 a10 a13) (k1_pay8 v39 zeroC oneC a5 a6 a7 a10 a13)) (k1_pay29 zeroC oneC a8 a9 a10 a13 (k1_pay7 v39 zeroC oneC a5 a6 a7 a10 a13) (k1_pay8 v39 zeroC oneC a5 a6 a7 a10 a13) (k1_pay10 v39 zeroC oneC a5 a6 a7 a10 a11 a13) (k1_pay14 v39 zeroC oneC a5 a6 a7 a10 a13))) (k1_pay49 oneC a21 (k1_pay28 zeroC a8 a10 (k1_pay3 v39 a6 a7 a10) (k1_pay7 v39 zeroC oneC a5 a6 a7 a10 a13) (k1_pay8 v39 zeroC oneC a5 a6 a7 a10 a13)) (k1_pay29 zeroC oneC a8 a9 a10 a13 (k1_pay7 v39 zeroC oneC a5 a6 a7 a10 a13) (k1_pay8 v39 zeroC oneC a5 a6 a7 a10 a13) (k1_pay10 v39 zeroC oneC a5 a6 a7 a10 a11 a13) (k1_pay14 v39 zeroC oneC a5 a6 a7 a10 a13))))) ((k1_pay51 a21 (k1_pay27 a20 a22 (k1_pay7 v39 zeroC oneC a5 a6 a7 a10 a13) (k1_pay8 v39 zeroC oneC a5 a6 a7 a10 a13)) (k1_pay31 oneC (k1_pay28 zeroC a8 a10 (k1_pay3 v39 a6 a7 a10) (k1_pay7 v39 zeroC oneC a5 a6 a7 a10 a13) (k1_pay8 v39 zeroC oneC a5 a6 a7 a10 a13)) (k1_pay29 zeroC oneC a8 a9 a10 a13 (k1_pay7 v39 zeroC oneC a5 a6 a7 a10 a13) (k1_pay8 v39 zeroC oneC a5 a6 a7 a10 a13) (k1_pay10 v39 zeroC oneC a5 a6 a7 a10 a11 a13) (k1_pay14 v39 zeroC oneC a5 a6 a7 a10 a13))) (k1_pay32 zeroC oneC (k1_pay28 zeroC a8 a10 (k1_pay3 v39 a6 a7 a10) (k1_pay7 v39 zeroC oneC a5 a6 a7 a10 a13) (k1_pay8 v39 zeroC oneC a5 a6 a7 a10 a13)) (k1_pay29 zeroC oneC a8 a9 a10 a13 (k1_pay7 v39 zeroC oneC a5 a6 a7 a10 a13) (k1_pay8 v39 zeroC oneC a5 a6 a7 a10 a13) (k1_pay10 v39 zeroC oneC a5 a6 a7 a10 a11 a13) (k1_pay14 v39 zeroC oneC a5 a6 a7 a10 a13))))) i).trans ?_
  refine Eq.trans (congrArg₂ (turnV 0 1 _) (turn2_A ((k1_pay3 v39 a6 a7 a10)) ((k1_pay7 v39 zeroC oneC a5 a6 a7 a10 a13)) ((k1_pay8 v39 zeroC oneC a5 a6 a7 a10 a13)) ((k1_pay10 v39 zeroC oneC a5 a6 a7 a10 a11 a13)) ((k1_pay11 v39 zeroC oneC a5 a6 a7 a10 a12 a13)) ((k1_pay12 v39 zeroC oneC a5 a6 a7 a10 a12 a13)) ((k1_pay14 v39 zeroC oneC a5 a6 a7 a10 a13)) ((k1_pay16 (k1_pay7 v39 zeroC oneC a5 a6 a7 a10 a13) (k1_pay8 v39 zeroC oneC a5 a6 a7 a10 a13) (k1_pay9 v39 zeroC oneC a5 a6 a7 a10 a11 a13) (k1_pay13 v39 zeroC oneC a5 a6 a7 a10 a13))) ((k1_pay17 (k1_pay7 v39 zeroC oneC a5 a6 a7 a10 a13) (k1_pay8 v39 zeroC oneC a5 a6 a7 a10 a13) (k1_pay9 v39 zeroC oneC a5 a6 a7 a10 a11 a13) (k1_pay13 v39 zeroC oneC a5 a6 a7 a10 a13))) (a8) (a9) (a10) (a13) i) (turn2_V ((k1_pay3 v39 a6 a7 a10)) ((k1_pay7 v39 zeroC oneC a5 a6 a7 a10 a13)) ((k1_pay8 v39 zeroC oneC a5 a6 a7 a10 a13)) ((k1_pay10 v39 zeroC oneC a5 a6 a7 a10 a11 a13)) ((k1_pay11 v39 zeroC oneC a5 a6 a7 a10 a12 a13)) ((k1_pay12 v39 zeroC oneC a5 a6 a7 a10 a12 a13)) ((k1_pay14 v39 zeroC oneC a5 a6 a7 a10 a13)) ((k1_pay16 (k1_pay7 v39 zeroC oneC a5 a6 a7 a10 a13) (k1_pay8 v39 zeroC oneC a5 a6 a7 a10 a13) (k1_pay9 v39 zeroC oneC a5 a6 a7 a10 a11 a13) (k1_pay13 v39 zeroC oneC a5 a6 a7 a10 a13))) ((k1_pay17 (k1_pay7 v39 zeroC oneC a5 a6 a7 a10 a13) (k1_pay8 v39 zeroC oneC a5 a6 a7 a10 a13) (k1_pay9 v39 zeroC oneC a5 a6 a7 a10 a11 a13) (k1_pay13 v39 zeroC oneC a5 a6 a7 a10 a13))) (a8) (a9) (a10) (a13) ((k1_pay22 a14 a16 (k1_pay7 v39 zeroC oneC a5 a6 a7 a10 a13) (k1_pay8 v39 zeroC oneC a5 a6 a7 a10 a13))) ((k1_pay23 a14 a16 (k1_pay7 v39 zeroC oneC a5 a6 a7 a10 a13) (k1_pay8 v39 zeroC oneC a5 a6 a7 a10 a13))) ((k1_pay24 a17 a19 (k1_pay7 v39 zeroC oneC a5 a6 a7 a10 a13) (k1_pay8 v39 zeroC oneC a5 a6 a7 a10 a13))) ((k1_pay25 a17 a19 (k1_pay7 v39 zeroC oneC a5 a6 a7 a10 a13) (k1_pay8 v39 zeroC oneC a5 a6 a7 a10 a13))) ((k1_pay26 a20 a22 (k1_pay7 v39 zeroC oneC a5 a6 a7 a10 a13) (k1_pay8 v39 zeroC oneC a5 a6 a7 a10 a13))) ((k1_pay27 a20 a22 (k1_pay7 v39 zeroC oneC a5 a6 a7 a10 a13) (k1_pay8 v39 zeroC oneC a5 a6 a7 a10 a13))) (a15) (a18) (a21) i)) ?_
  refine Eq.trans (congrArg₂ (turnV 0 1 _) (congrArg₂ (turnA 1 2) rfl (turn1_A v39 a5 a6 a7 a8 a9 a10 a11 a12 a13 i))
    (congrArg₂ (turnV 1 2 _) (turn1_A v39 a5 a6 a7 a8 a9 a10 a11 a12 a13 i) (turn1_V v39 a5 a6 a7 a8 a9 a10 a11 a12 a13 a14 a15 a16 a17 a18 a19 a20 a21 a22 i))) ?_
  rfl

end Cert.KernelIdeal.Whole

end
-- ==== Proof.Block.lean ====
/-
  The eigenvalue kernel's two output blocks, read at a lane: the ordered eigenvalues and vectors of the lane's matrix.
-/
module

public import proofs.«01_k».proof.Proof.Lane
public import Idealize.ShloMosaic.Lib.Pipeline.ValueKit

@[expose] public section

set_option maxRecDepth 16384

noncomputable section

namespace Cert.KernelIdeal.Whole

open Cert.KernelIdeal.Gen Cert.Jacobi
open Idealize.ShloMosaic.TcCoe
open Idealize.ShloMosaic hiding ix1 ix2 ix3 ix4
open Idealize.ShloMosaic.ValueIdx

variable {F : FTy → Type} [FloatOps F] [Named F]

/-- A plane as a one-plane stack, and back. -/
theorem stack_apply (v : FVec F S8x128 .f32) (r : Fin 8) (l : Fin 128) :
    shapeCast S1x8x128 v shapeCasts_S8x128_S1x8x128 (ix3 (0 : Fin 1) r l) = v (ix2 r l) := by
  pointwise
  rfl
/-- A one-plane stack as a plane. -/
theorem unstack_apply (v : FVec F S1x8x128 .f32) (r : Fin 8) (l : Fin 128) :
    shapeCast S8x128 v shapeCasts_S1x8x128_S8x128 (ix2 r l) = v (ix3 (0 : Fin 1) r l) := by
  pointwise
  rfl

/-- A plane stored at place `a`, read at place `k`. -/
theorem tile_plane {n : ℕ} (k : Fin n) (r : Fin 8) (l : Fin 128) (a : ℕ) (w : S1x8x128.Idx → Elt F .f32) (v : Elt F .f32)
    (h : a = k.val → w (ix3 (0 : Fin 1) r l) = v) :
    View.TileAt (S := ⟨3, ![n, 8, 128]⟩) (ix3 k r l) ![a, 0, 0] S1x8x128.size w v := by
  intro x hx
  have h0 : a + (x 0).val = k.val := (hx 0).symm
  have h1 : 0 + (x 1).val = r.val := (hx 1).symm
  have h2 : 0 + (x 2).val = l.val := (hx 2).symm
  have hx0 : (x 0).val < 1 := (x 0).isLt
  have e : x = ix3 (0 : Fin 1) r l := by
    funext a
    match a with
    | 0 => exact Fin.ext (by show (x 0).val = 0; omega)
    | 1 => exact Fin.ext (by show (x 1).val = r.val; omega)
    | 2 => exact Fin.ext (by show (x 2).val = l.val; omega)
  rw [e]
  exact h (by omega)

/-- The eigenvalue block at a lane. -/
theorem vals_lane (s : St F) (k : Fin 3) (r : Fin 8) (l : Fin 128) :
    vals s (ix3 k r l) = eigVals (laneA s (ix2 r l)) k := by
  unfold vals
  refine View.canon_eq_of_allAt _ _ _ (cover1_1 (F := F) _ _ _ _) ?_
  refine View.allAt_cons_unit _ _ _ _ _ (tile_plane (F := F) _ r l 2 _ _ ?_) ?_
  · intro h
    obtain rfl : k = 2 := Fin.ext h.symm
    refine Eq.trans (stack_apply (F := F) (k1_pay100 (s.1) (s.2.2.2.2.1) (s.2.2.2.2.2.2.2.2.1)) r l) ?_
    rfl
  refine View.allAt_cons_unit _ _ _ _ _ (tile_plane (F := F) _ r l 1 _ _ ?_) ?_
  · intro h
    obtain rfl : k = 1 := Fin.ext h.symm
    refine Eq.trans (stack_apply (F := F) (k1_pay108 (s.1) (s.2.2.2.2.1) (s.2.2.2.2.2.2.2.2.1)) r l) ?_
    rfl
  refine View.allAt_cons_unit _ _ _ _ _ (tile_plane (F := F) _ r l 0 _ _ ?_) ?_
  · intro h
    obtain rfl : k = 0 := Fin.ext h.symm
    refine Eq.trans (stack_apply (F := F) (select (k1_pay107 (s.1) (s.2.2.2.2.1) (s.2.2.2.2.2.2.2.2.1)) (k1_pay99 (s.1) (s.2.2.2.2.1) (s.2.2.2.2.2.2.2.2.1)) (k1_pay90 (s.1) (s.2.2.2.2.1))) r l) ?_
    rfl
  · exact fun p hp => absurd hp List.not_mem_nil

/-- The vector block at a lane. -/
theorem vecs_lane (s : St F) (i j : Fin 3) (k : Fin 9) (hk : k.val = 3 * i.val + j.val) (r : Fin 8) (l : Fin 128) :
    vecs s (ix3 k r l) = eigVecs (laneA s (ix2 r l)) (laneV s (ix2 r l)) i j := by
  unfold vecs
  refine View.canon_eq_of_allAt _ _ _ (cover1_2 (F := F) _ _ _ _ _ _ _ _ _ _) ?_
  refine View.allAt_cons_unit _ _ _ _ _ (tile_plane (F := F) _ r l 8 _ _ ?_) ?_
  · intro h
    obtain rfl : i = 2 := Fin.ext (by show i.val = 2; omega)
    obtain rfl : j = 2 := Fin.ext (by show j.val = 2; omega)
    refine Eq.trans (stack_apply (F := F) (k1_pay106 (s.1) (s.2.2.2.2.1) (s.2.2.2.2.2.2.2.2.1) (s.2.2.2.2.2.2.2.2.2.2.2.2.2.2.2.1) (s.2.2.2.2.2.2.2.2.2.2.2.2.2.2.2.2.1) (s.2.2.2.2.2.2.2.2.2.2.2.2.2.2.2.2.2)) r l) ?_
    rfl
  refine View.allAt_cons_unit _ _ _ _ _ (tile_plane (F := F) _ r l 7 _ _ ?_) ?_
  · intro h
    obtain rfl : i = 2 := Fin.ext (by show i.val = 2; omega)
    obtain rfl : j = 1 := Fin.ext (by show j.val = 1; omega)
    refine Eq.trans (stack_apply (F := F) (k1_pay114 (s.1) (s.2.2.2.2.1) (s.2.2.2.2.2.2.2.2.1) (s.2.2.2.2.2.2.2.2.2.2.2.2.2.2.2.1) (s.2.2.2.2.2.2.2.2.2.2.2.2.2.2.2.2.1) (s.2.2.2.2.2.2.2.2.2.2.2.2.2.2.2.2.2)) r l) ?_
    rfl
  refine View.allAt_cons_unit _ _ _ _ _ (tile_plane (F := F) _ r l 6 _ _ ?_) ?_
  · intro h
    obtain rfl : i = 2 := Fin.ext (by show i.val = 2; omega)
    obtain rfl : j = 0 := Fin.ext (by show j.val = 0; omega)
    refine Eq.trans (stack_apply (F := F) (k1_pay113 (s.1) (s.2.2.2.2.1) (s.2.2.2.2.2.2.2.2.1) (s.2.2.2.2.2.2.2.2.2.2.2.2.2.2.2.1) (s.2.2.2.2.2.2.2.2.2.2.2.2.2.2.2.2.1) (s.2.2.2.2.2.2.2.2.2.2.2.2.2.2.2.2.2)) r l) ?_
    rfl
  refine View.allAt_cons_unit _ _ _ _ _ (tile_plane (F := F) _ r l 5 _ _ ?_) ?_
  · intro h
    obtain rfl : i = 1 := Fin.ext (by show i.val = 1; omega)
    obtain rfl : j = 2 := Fin.ext (by show j.val = 2; omega)
    refine Eq.trans (stack_apply (F := F) (k1_pay104 (s.1) (s.2.2.2.2.1) (s.2.2.2.2.2.2.2.2.1) (s.2.2.2.2.2.2.2.2.2.2.2.2.1) (s.2.2.2.2.2.2.2.2.2.2.2.2.2.1) (s.2.2.2.2.2.2.2.2.2.2.2.2.2.2.1)) r l) ?_
    rfl
  refine View.allAt_cons_unit _ _ _ _ _ (tile_plane (F := F) _ r l 4 _ _ ?_) ?_
  · intro h
    obtain rfl : i = 1 := Fin.ext (by show i.val = 1; omega)
    obtain rfl : j = 1 := Fin.ext (by show j.val = 1; omega)
    refine Eq.trans (stack_apply (F := F) (k1_pay112 (s.1) (s.2.2.2.2.1) (s.2.2.2.2.2.2.2.2.1) (s.2.2.2.2.2.2.2.2.2.2.2.2.1) (s.2.2.2.2.2.2.2.2.2.2.2.2.2.1) (s.2.2.2.2.2.2.2.2.2.2.2.2.2.2.1)) r l) ?_
    rfl
  refine View.allAt_cons_unit _ _ _ _ _ (tile_plane (F := F) _ r l 3 _ _ ?_) ?_
  · intro h
    obtain rfl : i = 1 := Fin.ext (by show i.val = 1; omega)
    obtain rfl : j = 0 := Fin.ext (by show j.val = 0; omega)
    refine Eq.trans (stack_apply (F := F) (k1_pay111 (s.1) (s.2.2.2.2.1) (s.2.2.2.2.2.2.2.2.1) (s.2.2.2.2.2.2.2.2.2.2.2.2.1) (s.2.2.2.2.2.2.2.2.2.2.2.2.2.1) (s.2.2.2.2.2.2.2.2.2.2.2.2.2.2.1)) r l) ?_
    rfl
  refine View.allAt_cons_unit _ _ _ _ _ (tile_plane (F := F) _ r l 2 _ _ ?_) ?_
  · intro h
    obtain rfl : i = 0 := Fin.ext (by show i.val = 0; omega)
    obtain rfl : j = 2 := Fin.ext (by show j.val = 2; omega)
    refine Eq.trans (stack_apply (F := F) (k1_pay102 (s.1) (s.2.2.2.2.1) (s.2.2.2.2.2.2.2.2.1) (s.2.2.2.2.2.2.2.2.2.1) (s.2.2.2.2.2.2.2.2.2.2.1) (s.2.2.2.2.2.2.2.2.2.2.2.1)) r l) ?_
    rfl
  refine View.allAt_cons_unit _ _ _ _ _ (tile_plane (F := F) _ r l 1 _ _ ?_) ?_
  · intro h
    obtain rfl : i = 0 := Fin.ext (by show i.val = 0; omega)
    obtain rfl : j = 1 := Fin.ext (by show j.val = 1; omega)
    refine Eq.trans (stack_apply (F := F) (k1_pay110 (s.1) (s.2.2.2.2.1) (s.2.2.2.2.2.2.2.2.1) (s.2.2.2.2.2.2.2.2.2.1) (s.2.2.2.2.2.2.2.2.2.2.1) (s.2.2.2.2.2.2.2.2.2.2.2.1)) r l) ?_
    rfl
  refine View.allAt_cons_unit _ _ _ _ _ (tile_plane (F := F) _ r l 0 _ _ ?_) ?_
  · intro h
    obtain rfl : i = 0 := Fin.ext (by show i.val = 0; omega)
    obtain rfl : j = 0 := Fin.ext (by show j.val = 0; omega)
    refine Eq.trans (stack_apply (F := F) (k1_pay109 (s.1) (s.2.2.2.2.1) (s.2.2.2.2.2.2.2.2.1) (s.2.2.2.2.2.2.2.2.2.1) (s.2.2.2.2.2.2.2.2.2.2.1) (s.2.2.2.2.2.2.2.2.2.2.2.1)) r l) ?_
    rfl
  · exact fun p hp => absurd hp List.not_mem_nil

/-- The lane's matrix in a block. -/
def blockA (x0 : Vec F S9x8x128 .f32) (r : Fin 8) (l : Fin 128) : M3 F := fun i j =>
  x0 (ix3 (⟨3 * i.val + j.val, by omega⟩ : Fin 9) r l)

/-- The load of plane 0 of the block, read at a lane. -/
theorem ld_0 (x0 : Vec F S9x8x128 .f32) (r : Fin 8) (l : Fin 128) :
    k1_pay65 (View.ld x0 r1_0) (ix2 r l) = x0 (ix3 (0 : Fin 9) r l) := by
  refine (unstack_apply (View.ld x0 r1_0) r l).trans ?_
  refine congrArg x0 (funext fun a => ?_)
  match a with
  | 0 => rfl
  | 1 => exact Fin.ext (by show 0 + 1 * r.val = r.val; omega)
  | 2 => exact Fin.ext (by show 0 + 1 * l.val = l.val; omega)
/-- The load of plane 1 of the block, read at a lane. -/
theorem ld_1 (x0 : Vec F S9x8x128 .f32) (r : Fin 8) (l : Fin 128) :
    k1_pay66 (View.ld x0 r1_1) (ix2 r l) = x0 (ix3 (1 : Fin 9) r l) := by
  refine (unstack_apply (View.ld x0 r1_1) r l).trans ?_
  refine congrArg x0 (funext fun a => ?_)
  match a with
  | 0 => rfl
  | 1 => exact Fin.ext (by show 0 + 1 * r.val = r.val; omega)
  | 2 => exact Fin.ext (by show 0 + 1 * l.val = l.val; omega)
/-- The load of plane 2 of the block, read at a lane. -/
theorem ld_2 (x0 : Vec F S9x8x128 .f32) (r : Fin 8) (l : Fin 128) :
    k1_pay67 (View.ld x0 r1_2) (ix2 r l) = x0 (ix3 (2 : Fin 9) r l) := by
  refine (unstack_apply (View.ld x0 r1_2) r l).trans ?_
  refine congrArg x0 (funext fun a => ?_)
  match a with
  | 0 => rfl
  | 1 => exact Fin.ext (by show 0 + 1 * r.val = r.val; omega)
  | 2 => exact Fin.ext (by show 0 + 1 * l.val = l.val; omega)
/-- The load of plane 3 of the block, read at a lane. -/
theorem ld_3 (x0 : Vec F S9x8x128 .f32) (r : Fin 8) (l : Fin 128) :
    k1_pay68 (View.ld x0 r1_3) (ix2 r l) = x0 (ix3 (3 : Fin 9) r l) := by
  refine (unstack_apply (View.ld x0 r1_3) r l).trans ?_
  refine congrArg x0 (funext fun a => ?_)
  match a with
  | 0 => rfl
  | 1 => exact Fin.ext (by show 0 + 1 * r.val = r.val; omega)
  | 2 => exact Fin.ext (by show 0 + 1 * l.val = l.val; omega)
/-- The load of plane 4 of the block, read at a lane. -/
theorem ld_4 (x0 : Vec F S9x8x128 .f32) (r : Fin 8) (l : Fin 128) :
    k1_pay69 (View.ld x0 r1_4) (ix2 r l) = x0 (ix3 (4 : Fin 9) r l) := by
  refine (unstack_apply (View.ld x0 r1_4) r l).trans ?_
  refine congrArg x0 (funext fun a => ?_)
  match a with
  | 0 => rfl
  | 1 => exact Fin.ext (by show 0 + 1 * r.val = r.val; omega)
  | 2 => exact Fin.ext (by show 0 + 1 * l.val = l.val; omega)
/-- The load of plane 5 of the block, read at a lane. -/
theorem ld_5 (x0 : Vec F S9x8x128 .f32) (r : Fin 8) (l : Fin 128) :
    k1_pay70 (View.ld x0 r1_5) (ix2 r l) = x0 (ix3 (5 : Fin 9) r l) := by
  refine (unstack_apply (View.ld x0 r1_5) r l).trans ?_
  refine congrArg x0 (funext fun a => ?_)
  match a with
  | 0 => rfl
  | 1 => exact Fin.ext (by show 0 + 1 * r.val = r.val; omega)
  | 2 => exact Fin.ext (by show 0 + 1 * l.val = l.val; omega)
/-- The load of plane 6 of the block, read at a lane. -/
theorem ld_6 (x0 : Vec F S9x8x128 .f32) (r : Fin 8) (l : Fin 128) :
    k1_pay71 (View.ld x0 r1_6) (ix2 r l) = x0 (ix3 (6 : Fin 9) r l) := by
  refine (unstack_apply (View.ld x0 r1_6) r l).trans ?_
  refine congrArg x0 (funext fun a => ?_)
  match a with
  | 0 => rfl
  | 1 => exact Fin.ext (by show 0 + 1 * r.val = r.val; omega)
  | 2 => exact Fin.ext (by show 0 + 1 * l.val = l.val; omega)
/-- The load of plane 7 of the block, read at a lane. -/
theorem ld_7 (x0 : Vec F S9x8x128 .f32) (r : Fin 8) (l : Fin 128) :
    k1_pay72 (View.ld x0 r1_7) (ix2 r l) = x0 (ix3 (7 : Fin 9) r l) := by
  refine (unstack_apply (View.ld x0 r1_7) r l).trans ?_
  refine congrArg x0 (funext fun a => ?_)
  match a with
  | 0 => rfl
  | 1 => exact Fin.ext (by show 0 + 1 * r.val = r.val; omega)
  | 2 => exact Fin.ext (by show 0 + 1 * l.val = l.val; omega)
/-- The load of plane 8 of the block, read at a lane. -/
theorem ld_8 (x0 : Vec F S9x8x128 .f32) (r : Fin 8) (l : Fin 128) :
    k1_pay73 (View.ld x0 r1_8) (ix2 r l) = x0 (ix3 (8 : Fin 9) r l) := by
  refine (unstack_apply (View.ld x0 r1_8) r l).trans ?_
  refine congrArg x0 (funext fun a => ?_)
  match a with
  | 0 => rfl
  | 1 => exact Fin.ext (by show 0 + 1 * r.val = r.val; omega)
  | 2 => exact Fin.ext (by show 0 + 1 * l.val = l.val; omega)

/-- The loop starts from the block's matrices and the identity. -/
theorem start_laneA (x0 : Vec F S9x8x128 .f32) (r : Fin 8) (l : Fin 128) : laneA (start x0) (ix2 r l) = blockA x0 r l := by
  funext i j
  match i, j with
  | 0, 0 => exact ld_0 x0 r l
  | 0, 1 => exact ld_1 x0 r l
  | 0, 2 => exact ld_2 x0 r l
  | 1, 0 => exact ld_3 x0 r l
  | 1, 1 => exact ld_4 x0 r l
  | 1, 2 => exact ld_5 x0 r l
  | 2, 0 => exact ld_6 x0 r l
  | 2, 1 => exact ld_7 x0 r l
  | 2, 2 => exact ld_8 x0 r l

/-- The loop starts every lane from the identity. -/
theorem start_laneV (x0 : Vec F S9x8x128 .f32) (r : Fin 8) (l : Fin 128) : laneV (start x0) (ix2 r l) = ident := rfl

/-- The tolerance at a lane. -/
theorem thresh_lane (x0 : Vec F S9x8x128 .f32) (r : Fin 8) (l : Fin 128) : thresh x0 (ix2 r l) = tolOf (blockA x0 r l) := by
  have h := congrArg tolOf (start_laneA x0 r l)
  exact Eq.trans rfl h

/-- A fold whose steps don't depend on the number of the trip, read through a map that carries a step to a step. -/
theorem fold_map {α β : Type} {n : ℕ} (f : α → α) (g : β → β) (p : α → β) (h : ∀ a, p (f a) = g (p a)) (a : α) :
    p (Scf.fold (n := n) (fun _ s => f s) a) = g^[n] (p a) := by
  rw [Scf.fold_eq]
  have : ∀ (l : List (Fin n)) (a : α), p (l.foldl (fun acc _ => f acc) a) = g^[l.length] (p a) := by
    intro l
    induction l with
    | nil => intro a; rfl
    | cons x l ih => intro a; rw [List.foldl_cons, ih, h, List.length_cons, Function.iterate_succ_apply]
  rw [this, List.length_finRange]

/-- The planes after the sweeps, at a lane. -/
theorem swept_lane (x0 : Vec F S9x8x128 .f32) (r : Fin 8) (l : Fin 128) :
    (laneA (swept x0) (ix2 r l), laneV (swept x0) (ix2 r l)) = jacobi (blockA x0 r l) := by
  have h := fold_map (n := k1_t1_loop.trips) (sweep (zeroC (F := F)) oneC (thresh x0)) (sweepS (thresh x0 (ix2 r l)))
    (fun s => (laneA s (ix2 r l), laneV s (ix2 r l)))
    (fun s => Prod.ext (sweep_laneA (thresh x0) s (ix2 r l)) (sweep_laneV (thresh x0) s (ix2 r l))) (start x0)
  have ht : k1_t1_loop.trips = 8 := by rfl
  unfold swept
  refine h.trans ?_
  rw [ht, start_laneA, start_laneV, thresh_lane]
  rfl

/-- The two output blocks at a lane, from the input block. -/
theorem out1_1_lane (x0 : Vec F S9x8x128 .f32) (k : Fin 3) (r : Fin 8) (l : Fin 128) :
    out1_1 x0 (ix3 k r l) = eigVals (jacobi (blockA x0 r l)).1 k := by
  unfold out1_1
  rw [vals_lane, ← swept_lane]
/-- The block of eigenvectors, read at a lane: the ordered vectors of the lane's matrix. -/
theorem out1_2_lane (x0 : Vec F S9x8x128 .f32) (i j : Fin 3) (k : Fin 9) (hk : k.val = 3 * i.val + j.val) (r : Fin 8) (l : Fin 128) :
    out1_2 x0 (ix3 k r l) = eigVecs (jacobi (blockA x0 r l)).1 (jacobi (blockA x0 r l)).2 i j := by
  unfold out1_2
  rw [vecs_lane _ i j k hk, ← swept_lane]

end Cert.KernelIdeal.Whole

end
-- ==== Proof.Arrays.lean ====
/-
  The eigenvalue call's two result arrays, and the host operations around it: what the call's results hold of the
  covariance matrices.
-/
module

public import proofs.«01_k».proof.Proof.Block
public import Idealize.ShloMosaic.Lib.StableHlo.ReadAt

@[expose] public section

set_option maxRecDepth 16384

noncomputable section

namespace Cert.KernelIdeal.Whole

open Cert.KernelIdeal.Gen Cert.Jacobi
open Idealize.ShloMosaic.TcCoe
open Idealize.ShloMosaic hiding ix1 ix2 ix3 ix4
open Idealize.ShloMosaic.ValueIdx
open Idealize.ShloMosaic.StableHlo (after)

/-- The matrix at one place of nine planes. -/
def planeA (G : FVec Ideal S9x128x128 .f32) (r l : Fin 128) : M3 Ideal := fun i j =>
  G (ix3 (⟨3 * i.val + j.val, by omega⟩ : Fin 9) r l)

/-- The three planes of eigenvalues of nine planes of matrices. -/
def valsOf (G : FVec Ideal S9x128x128 .f32) : FVec Ideal S3x128x128 .f32 := fun y =>
  eigVals (jacobi (planeA G (y 1) (y 2))).1 (y 0)

/-- The nine planes of eigenvectors of nine planes of matrices. -/
def vecsOf (G : FVec Ideal S9x128x128 .f32) : FVec Ideal S9x128x128 .f32 := fun y =>
  eigVecs (jacobi (planeA G (y 1) (y 2))).1 (jacobi (planeA G (y 1) (y 2))).2
    (⟨(y 0).val / 3, by have : (y 0).val < 9 := (y 0).isLt; omega⟩ : Fin 3)
    (⟨(y 0).val % 3, by omega⟩ : Fin 3)

/-- A grid point's blocks: all the planes, eight of their rows. -/
theorem index1 (t : Fin cfg1.N) : (win1_0.index t = ![0, t.val, 0]) ∧ (win1_1.index t = ![0, t.val, 0])
    ∧ (win1_2.index t = ![0, t.val, 0]) :=
  (by decide +kernel : ∀ t : Fin grid1.N, (win1_0.index t = ![0, t.val, 0]) ∧ (win1_1.index t = ![0, t.val, 0])
    ∧ (win1_2.index t = ![0, t.val, 0])) t

/-- The block of matrices at point `t`, read off any nine planes. -/
theorem read1_0 (G : FVec Ideal S9x128x128 .f32) (t : Fin cfg1.N) (k : Fin 9) (r : Fin 8) (l : Fin 128) (R : Fin 128)
    (hR : R.val = t.val * 8 + r.val) :
    ((win1_0.blk t).view.read (Elt Ideal) G : Vec Ideal S9x8x128 .f32) (ix3 k r l) = G (ix3 k R l) := by
  obtain ⟨i0, -, -⟩ := index1 t
  show G ((win1_0.blk t).view.emb (ix3 k r l)) = _
  refine congrArg G (funext fun a => Fin.ext ?_)
  have e : ((win1_0.blk t).view.emb (ix3 k r l) a).val = win1_0.index t a * win1_0.size a + (ix3 k r l a).val :=
    Pipeline.Window.rect_emb_val _ _ _ _
  rw [e, i0]
  match a with
  | ⟨0, _⟩ => show 0 * 9 + k.val = k.val; omega
  | ⟨1, _⟩ => show t.val * 8 + r.val = R.val; omega
  | ⟨2, _⟩ => show 0 * 128 + l.val = l.val; omega

/-- The block of eigenvalues at point `t`, read off any three planes. -/
theorem read1_1 (G : FVec Ideal S3x128x128 .f32) (t : Fin cfg1.N) (k : Fin 3) (r : Fin 8) (l : Fin 128) (R : Fin 128)
    (hR : R.val = t.val * 8 + r.val) :
    ((win1_1.blk t).view.read (Elt Ideal) G : Vec Ideal S3x8x128 .f32) (ix3 k r l) = G (ix3 k R l) := by
  obtain ⟨-, i0, -⟩ := index1 t
  show G ((win1_1.blk t).view.emb (ix3 k r l)) = _
  refine congrArg G (funext fun a => Fin.ext ?_)
  have e : ((win1_1.blk t).view.emb (ix3 k r l) a).val = win1_1.index t a * win1_1.size a + (ix3 k r l a).val :=
    Pipeline.Window.rect_emb_val _ _ _ _
  rw [e, i0]
  match a with
  | ⟨0, _⟩ => show 0 * 3 + k.val = k.val; omega
  | ⟨1, _⟩ => show t.val * 8 + r.val = R.val; omega
  | ⟨2, _⟩ => show 0 * 128 + l.val = l.val; omega

/-- The block of eigenvectors at point `t`, read off any nine planes. -/
theorem read1_2 (G : FVec Ideal S9x128x128 .f32) (t : Fin cfg1.N) (k : Fin 9) (r : Fin 8) (l : Fin 128) (R : Fin 128)
    (hR : R.val = t.val * 8 + r.val) :
    ((win1_2.blk t).view.read (Elt Ideal) G : Vec Ideal S9x8x128 .f32) (ix3 k r l) = G (ix3 k R l) := by
  obtain ⟨-, -, i0⟩ := index1 t
  show G ((win1_2.blk t).view.emb (ix3 k r l)) = _
  refine congrArg G (funext fun a => Fin.ext ?_)
  have e : ((win1_2.blk t).view.emb (ix3 k r l) a).val = win1_2.index t a * win1_2.size a + (ix3 k r l a).val :=
    Pipeline.Window.rect_emb_val _ _ _ _
  rw [e, i0]
  match a with
  | ⟨0, _⟩ => show 0 * 9 + k.val = k.val; omega
  | ⟨1, _⟩ => show t.val * 8 + r.val = R.val; omega
  | ⟨2, _⟩ => show 0 * 128 + l.val = l.val; omega

variable (V : (c : Dev nD) → (b : Ref sig .tc) → Buf (Elt Ideal) ((c : Thread nD τ).loc b))

/-- A lane's matrix in a point's block is the matrix at the lane's place of the planes. -/
theorem block_plane (c : Dev nD) (t : Fin cfg1.N) (r : Fin 8) (l : Fin 128) (R : Fin 128) (hR : R.val = t.val * 8 + r.val) :
    blockA (iblk1 V c 0 t : Vec Ideal S9x8x128 .f32) r l = planeA (V c main_v27 : FVec Ideal S9x128x128 .f32) R l := by
  funext i j
  exact read1_0 (V c main_v27) t _ r l R hR

/-- What point `t` writes back of the eigenvalues. -/
theorem flushed1_1 (c : Dev nD) (t : Fin cfg1.N) :
    (dat1 V c).flushed 1 t = (win1_1.blk t).view.read (Elt Ideal) (valsOf (V c main_v27 : FVec Ideal S9x128x128 .f32)) := by
  show (cfg1.win 1).cut (grid1.coords t) ((dat1 V c).after 1 t) = _
  rw [after1_1]
  funext y
  obtain ⟨k, r, l, rfl⟩ : ∃ (k : Fin 3) (r : Fin 8) (l : Fin 128), y = ix3 k r l := ⟨_, _, _, ValueIdx.eq_ix3 y⟩
  have hN : t.val < 16 := t.isLt
  let R : Fin 128 := ⟨t.val * 8 + r.val, by omega⟩
  refine Eq.trans ?_ (read1_1 (valsOf (V c main_v27 : FVec Ideal S9x128x128 .f32)) t k r l R rfl).symm
  refine Eq.trans (out1_1_lane (iblk1 V c 0 t : Vec Ideal S9x8x128 .f32) k r l) ?_
  rw [block_plane V c t r l R rfl]
  rfl

/-- What point `t` writes back of the eigenvectors. -/
theorem flushed1_2 (c : Dev nD) (t : Fin cfg1.N) :
    (dat1 V c).flushed 2 t = (win1_2.blk t).view.read (Elt Ideal) (vecsOf (V c main_v27 : FVec Ideal S9x128x128 .f32)) := by
  show (cfg1.win 2).cut (grid1.coords t) ((dat1 V c).after 2 t) = _
  rw [after1_2]
  funext y
  obtain ⟨k, r, l, rfl⟩ : ∃ (k : Fin 9) (r : Fin 8) (l : Fin 128), y = ix3 k r l := ⟨_, _, _, ValueIdx.eq_ix3 y⟩
  have hN : t.val < 16 := t.isLt
  let R : Fin 128 := ⟨t.val * 8 + r.val, by omega⟩
  refine Eq.trans ?_ (read1_2 (vecsOf (V c main_v27 : FVec Ideal S9x128x128 .f32)) t k r l R rfl).symm
  have hk := k.isLt
  refine Eq.trans (out1_2_lane (iblk1 V c 0 t : Vec Ideal S9x8x128 .f32) (⟨k.val / 3, by omega⟩ : Fin 3)
    (⟨k.val % 3, by omega⟩ : Fin 3) k (show k.val = 3 * (k.val / 3) + k.val % 3 by omega) r l) ?_
  rw [block_plane V c t r l R rfl]
  rfl

/-- Every place of the eigenvalues lies in some point's block. -/
theorem places1_1 (n : S3x128x128.Idx) : ∃ t : Fin cfg1.N, (cfg1.win 1).flush t = true ∧ n ∈ ((cfg1.win 1).blk t).view.set := by
  obtain ⟨k, r, l, rfl⟩ : ∃ (k : Fin 3) (r l : Fin 128), n = ix3 k r l := ⟨_, _, _, ValueIdx.eq_ix3 n⟩
  have hk := k.isLt
  have hr := r.isLt
  have hl := l.isLt
  have hN : cfg1.N = 16 := rfl
  refine ⟨⟨r.val / 8, by omega⟩, flush1_1 _, ?_⟩
  obtain ⟨-, i2, -⟩ := index1 ⟨r.val / 8, by omega⟩
  mem_blk [i2]
  show ((0 ≤ k.val ∧ k.val < 3) ∧ (r.val / 8 * 8 ≤ r.val ∧ r.val < r.val / 8 * 8 + 8) ∧ 0 ≤ l.val ∧ l.val < 128)
  omega

/-- Every place of the eigenvectors lies in some point's block. -/
theorem places1_2 (n : S9x128x128.Idx) : ∃ t : Fin cfg1.N, (cfg1.win 2).flush t = true ∧ n ∈ ((cfg1.win 2).blk t).view.set := by
  obtain ⟨k, r, l, rfl⟩ : ∃ (k : Fin 9) (r l : Fin 128), n = ix3 k r l := ⟨_, _, _, ValueIdx.eq_ix3 n⟩
  have hk := k.isLt
  have hr := r.isLt
  have hl := l.isLt
  have hN : cfg1.N = 16 := rfl
  refine ⟨⟨r.val / 8, by omega⟩, flush1_2 _, ?_⟩
  obtain ⟨-, -, i2⟩ := index1 ⟨r.val / 8, by omega⟩
  mem_blk [i2]
  show ((0 ≤ k.val ∧ k.val < 9) ∧ (r.val / 8 * 8 ≤ r.val ∧ r.val < r.val / 8 * 8 + 8) ∧ 0 ≤ l.val ∧ l.val < 128)
  omega

/-- THE EIGENVALUE CALL'S TWO ARRAYS after the run. -/
theorem final1_1 (c : Dev nD) : (dat1 V c).arrAt 1 cfg1.N = valsOf (V c main_v27 : FVec Ideal S9x128x128 .f32) :=
  (dat1 V c).arrAt_eq_of_cover 1 _ (fun t _ => flushed1_1 V c t) places1_1
/-- The array of eigenvectors after the run. -/
theorem final1_2 (c : Dev nD) : (dat1 V c).arrAt 2 cfg1.N = vecsOf (V c main_v27 : FVec Ideal S9x128x128 .f32) :=
  (dat1 V c).arrAt_eq_of_cover 2 _ (fun t _ => flushed1_2 V c t) places1_2

/-! The host operations around the call, on any contents. -/

variable (X : Valuation τ sig (Elt Ideal))

/-- The point's place in the planes: row and lane. -/
def pr (b : Fin 8) (n : Fin 2048) : Fin 128 := ⟨(b.val * 2048 + n.val) / 128, by omega⟩
def pl (b : Fin 8) (n : Fin 2048) : Fin 128 := ⟨(b.val * 2048 + n.val) % 128, by omega⟩

/-- The planes the call is given hold the covariance matrices, one per place. -/
theorem planes (b : Fin 8) (n : Fin 2048) (i j : Fin 3) (k : Fin 9) (hk : k.val = 3 * i.val + j.val) :
    (after hostOps1 X main_v27 : FVec Ideal S9x128x128 .f32) (ix3 k (pr b n) (pl b n))
      = (after hostOps1 X main_v23 : FVec Ideal S8x2048x3x3 .f32) (ix4 b n i j) := by
  have e : (after hostOps1 X main_v27 : FVec Ideal S9x128x128 .f32)
      = shapeCast S9x128x128 (transpose S9x16384 [1, 0] (shapeCast S16384x9 (shapeCast S16384x3x3
          (after hostOps1 X main_v23 : FVec Ideal S8x2048x3x3 .f32) shapeCasts_S8x2048x3x3_S16384x3x3)
          shapeCasts_S16384x3x3_S16384x9) transposes_S16384x9_S9x16384_1_0) shapeCasts_S9x16384_S9x128x128 := by
    after_reads_simp
    rfl
  rw [e]
  generalize (after hostOps1 X main_v23 : FVec Ideal S8x2048x3x3 .f32) = C
  pointwise
  refine congrArg C (funext fun a => Fin.ext ?_)
  have hb := b.isLt
  have hn := n.isLt
  match a with
  | ⟨0, _⟩ => show ((b.val * 2048 + n.val) / 128 * 128 + (b.val * 2048 + n.val) % 128) / 2048 = b.val; omega
  | ⟨1, _⟩ => show ((b.val * 2048 + n.val) / 128 * 128 + (b.val * 2048 + n.val) % 128) % 2048 = n.val; omega
  | ⟨2, _⟩ => show k.val / 3 = i.val; omega
  | ⟨3, _⟩ => show k.val % 3 = j.val; omega

/-- The eigenvalues as the result lays them out. -/
theorem eig_read (b : Fin 8) (n : Fin 2048) (k : Fin 3) :
    (after hostOps2 X main_v33 : FVec Ideal S8x2048x3 .f32) (ix3 b n k)
      = (X main_v28_0 : FVec Ideal S3x128x128 .f32) (ix3 k (pr b n) (pl b n)) := by
  after_reads_at
  rfl

/-- The eigenvectors as the result lays them out. -/
theorem vec_read (b : Fin 8) (n : Fin 2048) (i j : Fin 3) :
    (after hostOps2 X main_v34 : FVec Ideal S8x2048x3x3 .f32) (ix4 b n i j)
      = (X main_v28_1 : FVec Ideal S9x128x128 .f32) (ix3 (⟨3 * i.val + j.val, by omega⟩ : Fin 9) (pr b n) (pl b n)) := by
  after_reads_at
  refine congrArg (X main_v28_1 : FVec Ideal S9x128x128 .f32) (funext fun a => Fin.ext ?_)
  match a with
  | ⟨0, _⟩ => show i.val * 3 + j.val = 3 * i.val + j.val; omega
  | ⟨1, _⟩ => rfl
  | ⟨2, _⟩ => rfl

/-- The second search's operand is the eigenvalues with the last two axes exchanged. -/
theorem eigT_read (b : Fin 8) (k : Fin 3) (n : Fin 2048) :
    (after hostOps2 X main_v35 : FVec Ideal S8x3x2048 .f32) (ix3 b k n)
      = (after hostOps2 X main_v33 : FVec Ideal S8x2048x3 .f32) (ix3 b n k) := by
  have e : (after hostOps2 X main_v35 : FVec Ideal S8x3x2048 .f32)
      = transpose S8x3x2048 [0, 2, 1] (after hostOps2 X main_v33 : FVec Ideal S8x2048x3 .f32) transposes_S8x2048x3_S8x3x2048_0_2_1 := by
    after_reads_simp
  rw [e]
  generalize (after hostOps2 X main_v33 : FVec Ideal S8x2048x3 .f32) = C
  pointwise
  rfl

end Cert.KernelIdeal.Whole
-- ==== Proof.Cov.lean ====
/-
  The covariance matrices of the points and of their neighbours' numbers, as the host operations before the eigenvalue
  call compute them, and that they are real when the points are.
-/
module

public import proofs.«01_k».proof.Proof.IdealRun
public import proofs.«01_k».proof.Proof.Dist
public import Idealize.ShloMosaic.Lib.StableHlo.ReadAt
public import Idealize.ShloMosaic.Lib.Pipeline.ValueKit

@[expose] public section

set_option maxRecDepth 16384

noncomputable section

namespace Cert.KernelIdeal.Whole

open Cert.KernelIdeal.Gen
open Idealize.ShloMosaic.TcCoe
open Idealize.ShloMosaic hiding ix1 ix2 ix3 ix4
open Idealize.ShloMosaic.ValueIdx
open Idealize.ShloMosaic.StableHlo (after)

/-- The number of each edge's own point. -/
def own : IVec S262144 32 :=
  shapeCast S262144 (broadcastInDim S16384x16 ![0] bcast_S16384_S16384x16_0 (iotaInDim S16384 32 0)) shapeCasts_S16384x16_S262144

/-- The points at the given numbers, a negative number counted from the end. -/
def rowsAt (P : FVec Ideal S16384x3 .f32) (J : IVec S262144 32) : FVec Ideal S262144x3 .f32 :=
  Host.gather gather_S16384x3_S262144x1_S262144x3_1_0_n_n_0_1_13 P
    (broadcastInDim S262144x1 ![0] bcast_S262144_S262144x1_0
      (select (cmpi .slt J (broadcastInDim S262144 ![] bcast_S_S262144 (constantI S_ 32 0#32)))
        (addi J (broadcastInDim S262144 ![] bcast_S_S262144 (constantI S_ 32 16384#32))) J))

/-- The edges: each neighbour less its point. -/
def edges (P : FVec Ideal S8x2048x3 .f32) (J : IVec S262144 32) : FVec Ideal S8x2048x16x3 .f32 :=
  shapeCast S8x2048x16x3 (subf (rowsAt (shapeCast S16384x3 P shapeCasts_S8x2048x3_S16384x3) J)
    (rowsAt (shapeCast S16384x3 P shapeCasts_S8x2048x3_S16384x3) own)) shapeCasts_S262144x3_S8x2048x16x3

/-- The covariance matrix of each point's edges. -/
def covOf (P : FVec Ideal S8x2048x3 .f32) (J : IVec S262144 32) : FVec Ideal S8x2048x3x3 .f32 :=
  Host.dotGeneral dot_S8x2048x16x3_S8x2048x16x3_S8x2048x3x3_2_2_3_3_01_01 none (edges P J) (edges P J)

variable (X : Valuation τ sig (Elt Ideal))

/-- The neighbours' numbers in one row. -/
theorem sid_read : (after hostOps1 X main_v2 : IVec S262144 32)
    = shapeCast S262144 (X main_v1 : IVec S8x2048x16 32) shapeCasts_S8x2048x16_S262144 := by
  after_reads_simp
  rfl

/-- The points' own numbers. -/
theorem own_read : (after hostOps1 X main_v5 : IVec S262144 32) = own := by
  after_reads_simp
  rfl

/-- The covariance matrices before the eigenvalue call. -/
theorem cov_read : (after hostOps1 X main_v23 : FVec Ideal S8x2048x3x3 .f32)
    = covOf (X main_arg0) (after hostOps1 X main_v2 : IVec S262144 32) := by
  after_reads_simp
  rfl

/-- A gathered coordinate is one of the points'. -/
theorem rowsAt_mem (P : FVec Ideal S16384x3 .f32) (J : IVec S262144 32) (y : S262144x3.Idx) : ∃ k, rowsAt P J y = P k :=
  ⟨_, rfl⟩

/-- A reshape's element is one of its operand's. -/
theorem shapeCast_mem {s t : Shape} {α : Type} (x : s.Idx → α) (h : s.ShapeCasts t) (y : t.Idx) :
    ∃ k, shapeCast t x h y = x k := ⟨_, rfl⟩

/-- The edges of real points are real. -/
theorem edges_real (P : FVec Ideal S8x2048x3 .f32) (hP : Knn.Real P) (J : IVec S262144 32) (y : S8x2048x16x3.Idx) :
    ∃ r : ℝ, edges P J y = (r : EReal) := by
  obtain ⟨k, e⟩ := shapeCast_mem (subf (rowsAt (shapeCast S16384x3 P shapeCasts_S8x2048x3_S16384x3) J)
    (rowsAt (shapeCast S16384x3 P shapeCasts_S8x2048x3_S16384x3) own)) shapeCasts_S262144x3_S8x2048x16x3 y
  obtain ⟨k₁, e₁⟩ := rowsAt_mem (shapeCast S16384x3 P shapeCasts_S8x2048x3_S16384x3) J k
  obtain ⟨k₂, e₂⟩ := rowsAt_mem (shapeCast S16384x3 P shapeCasts_S8x2048x3_S16384x3) own k
  obtain ⟨l₁, f₁⟩ := shapeCast_mem P shapeCasts_S8x2048x3_S16384x3 k₁
  obtain ⟨l₂, f₂⟩ := shapeCast_mem P shapeCasts_S8x2048x3_S16384x3 k₂
  obtain ⟨a, ha⟩ := hP l₁
  obtain ⟨b, hb⟩ := hP l₂
  refine ⟨a - b, e.trans ?_⟩
  show rowsAt _ J k - rowsAt _ own k = ((a - b : ℝ) : EReal)
  rw [e₁, e₂, f₁, f₂, ha, hb, EReal.coe_sub]

/-- The covariance matrices of real points are real. -/
theorem cov_real (P : FVec Ideal S8x2048x3 .f32) (hP : Knn.Real P) (J : IVec S262144 32) (b : Fin 8) (n : Fin 2048)
    (i j : Fin 3) : ∃ r : ℝ, covOf P J (ix4 b n i j) = (r : EReal) := by
  choose f hf using edges_real P hP J
  have e : covOf P J (ix4 b n i j) = ∑ k : Fin 16, edges P J (ix4 b n k i) * edges P J (ix4 b n k j) := by
    unfold covOf
    generalize edges P J = E
    pointwise
    rfl
  rw [e]
  refine ⟨∑ k : Fin 16, f (ix4 b n k i) * f (ix4 b n k j), ?_⟩
  simp only [hf]
  push_cast
  rfl

end Cert.KernelIdeal.Whole
-- ==== Proof.RealEig.lean ====
/-
  The eigenvalues of a real matrix are real: a rotation is left out where the entry is zero, and elsewhere its divisors
  are not zero.
-/
module

public import proofs.«01_k».proof.Proof.Jacobi
public import Idealize.ShloMosaic.Lib.Pointwise

@[expose] public section

noncomputable section

namespace Cert.Jacobi

open Idealize.ShloMosaic

/-- A value that is a real number. -/
def IsR (x : Ideal .f32) : Prop := ∃ r : ℝ, x = (r : EReal)

/-- A matrix of real numbers. -/
def RealM (A : M3 Ideal) : Prop := ∀ i j, IsR (A i j)

/-- The constant zero. -/
theorem zeroC_eq : (zeroC : Ideal .f32) = ((0 : ℝ) : EReal) := by
  show Ideal.ofBits .f32 0x00000000#32 = _
  simp [Ideal.ofBits, Ideal.ieee]
/-- The constant one. -/
theorem oneC_eq : (oneC : Ideal .f32) = ((1 : ℝ) : EReal) := by
  show Ideal.ofBits .f32 0x3F800000#32 = _
  simp [Ideal.ofBits, Ideal.ieee, -EReal.coe_mul]
  try norm_num
/-- The constant two. -/
theorem twoC_eq : (twoC : Ideal .f32) = ((2 : ℝ) : EReal) := by
  show Ideal.ofBits .f32 0x40000000#32 = _
  simp [Ideal.ofBits, Ideal.ieee, -EReal.coe_mul]
  try norm_num

/-- The sum of two reals is real. -/
theorem isR_add {x y : Ideal .f32} (hx : IsR x) (hy : IsR y) : IsR (FloatOps.addf x y) := by
  obtain ⟨a, rfl⟩ := hx
  obtain ⟨b, rfl⟩ := hy
  exact ⟨a + b, (EReal.coe_add a b).symm⟩
/-- The difference of two reals is real. -/
theorem isR_sub {x y : Ideal .f32} (hx : IsR x) (hy : IsR y) : IsR (FloatOps.subf x y) := by
  obtain ⟨a, rfl⟩ := hx
  obtain ⟨b, rfl⟩ := hy
  exact ⟨a - b, (EReal.coe_sub a b).symm⟩
/-- The product of two reals is real. -/
theorem isR_mul {x y : Ideal .f32} (hx : IsR x) (hy : IsR y) : IsR (FloatOps.mulf x y) := by
  obtain ⟨a, rfl⟩ := hx
  obtain ⟨b, rfl⟩ := hy
  exact ⟨a * b, (EReal.coe_mul a b).symm⟩
/-- A choice between two reals is real. -/
theorem isR_select (c : BitVec 1) {x y : Ideal .f32} (hx : IsR x) (hy : IsR y) : IsR (Scalar.select c x y) := by
  unfold Scalar.select
  split <;> assumption

/-- A real divided by a real that is not zero. -/
theorem isR_div {x : Ideal .f32} (hx : IsR x) (b : ℝ) (hb : b ≠ 0) : IsR (FloatOps.divf x (b : EReal)) := by
  obtain ⟨a, rfl⟩ := hx
  refine ⟨a * (1 / b), ?_⟩
  show Ideal.div (a : EReal) (b : EReal) = _
  rw [Ideal.div_coe hb, EReal.coe_mul]

/-- The root of a real that is not negative. -/
theorem sqrt_real (a : ℝ) (ha : 0 ≤ a) : (FloatOps.sqrt ((a : EReal) : Ideal .f32) : Ideal .f32) = ((Real.sqrt a : ℝ) : EReal) := by
  show Ideal.sqrt (a : EReal) = _
  rw [Ideal.sqrt_coe, if_neg (not_lt.mpr ha)]

/-- The cotangent is real where the entry is not zero. -/
theorem isR_tau {app aqq apq : Ideal .f32} (h₁ : IsR app) (h₂ : IsR aqq) (h₃ : IsR apq) (h : apq ≠ ((0 : ℝ) : EReal)) :
    IsR (tau app aqq apq) := by
  obtain ⟨c, rfl⟩ := h₃
  have hc : c ≠ 0 := fun e => h (by rw [e])
  have e : (FloatOps.mulf (twoC : Ideal .f32) ((c : EReal) : Ideal .f32) : Ideal .f32) = ((2 * c : ℝ) : EReal) := by
    rw [twoC_eq]
    exact (EReal.coe_mul 2 c).symm
  unfold tau
  rw [e]
  exact isR_div (isR_sub h₂ h₁) _ (by simpa using hc)

/-- The tangent is real there. -/
theorem isR_tan {app aqq apq : Ideal .f32} (h : IsR (tau app aqq apq)) : IsR (tanOf app aqq apq) := by
  unfold tanOf
  obtain ⟨t, ht⟩ := h
  rw [ht]
  have e₁ : (FloatOps.absf ((t : EReal) : Ideal .f32) : Ideal .f32) = ((max t (-t) : ℝ) : EReal) := by
    show max (t : EReal) (-(t : EReal)) = _
    rw [← EReal.coe_neg]
    exact (EReal.coe_strictMono.monotone.map_max).symm
  have e₂ : (FloatOps.addf (oneC : Ideal .f32) (FloatOps.mulf ((t : EReal) : Ideal .f32) ((t : EReal) : Ideal .f32)) : Ideal .f32)
      = ((1 + t * t : ℝ) : EReal) := by
    rw [oneC_eq]
    show ((1 : ℝ) : EReal) + (t : EReal) * (t : EReal) = _
    rw [EReal.coe_add, EReal.coe_mul]
  rw [e₁, e₂, sqrt_real _ (by nlinarith [mul_self_nonneg t])]
  have e₃ : (FloatOps.addf (((max t (-t) : ℝ) : EReal) : Ideal .f32) ((Real.sqrt (1 + t * t) : ℝ) : EReal) : Ideal .f32)
      = ((max t (-t) + Real.sqrt (1 + t * t) : ℝ) : EReal) := (EReal.coe_add _ _).symm
  rw [e₃]
  refine isR_div (isR_select _ ⟨1, oneC_eq⟩ (isR_sub ⟨0, zeroC_eq⟩ ⟨1, oneC_eq⟩)) _ ?_
  have h₁ : 0 < Real.sqrt (1 + t * t) := Real.sqrt_pos.mpr (by nlinarith [mul_self_nonneg t])
  have h₂ : 0 ≤ max t (-t) := by
    rcases le_total 0 t with h | h
    · exact le_max_of_le_left h
    · exact le_max_of_le_right (by linarith)
  exact ne_of_gt (by linarith)

/-- The cosine is real there. -/
theorem isR_cosRaw {app aqq apq : Ideal .f32} (h : IsR (tanOf app aqq apq)) : IsR (cosRaw app aqq apq) := by
  unfold cosRaw
  obtain ⟨t, ht⟩ := h
  rw [ht]
  have e₂ : (FloatOps.addf (oneC : Ideal .f32) (FloatOps.mulf ((t : EReal) : Ideal .f32) ((t : EReal) : Ideal .f32)) : Ideal .f32)
      = ((1 + t * t : ℝ) : EReal) := by
    rw [oneC_eq]
    show ((1 : ℝ) : EReal) + (t : EReal) * (t : EReal) = _
    rw [EReal.coe_add, EReal.coe_mul]
  rw [e₂, sqrt_real _ (by nlinarith [mul_self_nonneg t])]
  exact isR_div ⟨1, oneC_eq⟩ _ (ne_of_gt (Real.sqrt_pos.mpr (by nlinarith [mul_self_nonneg t])))

/-- A rotation at a zero entry is left out. -/
theorem skip_zero (d : BitVec 1) {apq : Ideal .f32} (h : apq = ((0 : ℝ) : EReal)) : skip d apq = 1#1 := by
  unfold skip
  have e : (FloatOps.cmpf .oeq apq (zeroC : Ideal .f32) : BitVec 1) = 1#1 := by
    rw [h, zeroC_eq]
    show BitVec.ofBool (decide _) = _
    simp
  rw [e]
  revert d
  decide

/-- The cosine and the sine are real. -/
theorem isR_cos (d : BitVec 1) {app aqq apq : Ideal .f32} (h₁ : IsR app) (h₂ : IsR aqq) (h₃ : IsR apq) :
    IsR (cosOf d app aqq apq) := by
  unfold cosOf
  by_cases h : apq = ((0 : ℝ) : EReal)
  · rw [skip_zero d h]
    exact ⟨1, oneC_eq⟩
  · exact isR_select _ ⟨1, oneC_eq⟩ (isR_cosRaw (isR_tan (isR_tau h₁ h₂ h₃ h)))
/-- The sine is real. -/
theorem isR_sin (d : BitVec 1) {app aqq apq : Ideal .f32} (h₁ : IsR app) (h₂ : IsR aqq) (h₃ : IsR apq) :
    IsR (sinOf d app aqq apq) := by
  unfold sinOf
  by_cases h : apq = ((0 : ℝ) : EReal)
  · rw [skip_zero d h]
    exact ⟨0, zeroC_eq⟩
  · have ht := isR_tan (isR_tau h₁ h₂ h₃ h)
    exact isR_select _ ⟨0, zeroC_eq⟩ (isR_mul ht (isR_cosRaw ht))

/-- Turned rows and columns of a real matrix are real. -/
theorem realM_row (p q : Fin 3) {c s : Ideal .f32} (hc : IsR c) (hs : IsR s) {A : M3 Ideal} (hA : RealM A) :
    RealM (rowT p q c s A) := by
  intro i j
  unfold rowT
  split
  · exact isR_sub (isR_mul hc (hA _ _)) (isR_mul hs (hA _ _))
  · split
    · exact isR_add (isR_mul hs (hA _ _)) (isR_mul hc (hA _ _))
    · exact hA _ _
/-- Turned columns of a real matrix are real. -/
theorem realM_col (p q : Fin 3) {c s : Ideal .f32} (hc : IsR c) (hs : IsR s) {A : M3 Ideal} (hA : RealM A) :
    RealM (colT p q c s A) := by
  intro i j
  unfold colT
  split
  · exact isR_sub (isR_mul hc (hA _ _)) (isR_mul hs (hA _ _))
  · split
    · exact isR_add (isR_mul hs (hA _ _)) (isR_mul hc (hA _ _))
    · exact hA _ _

/-- A rotation of a real matrix is real. -/
theorem realM_turn (p q : Fin 3) (d : BitVec 1) {A : M3 Ideal} (hA : RealM A) : RealM (turnA p q d A) := by
  have hc := isR_cos d (hA p p) (hA q q) (hA p q)
  have hs := isR_sin d (hA p p) (hA q q) (hA p q)
  exact realM_col p q hc hs (realM_row p q hc hs hA)

/-- A sweep of a real matrix is real. -/
theorem realM_sweep (tol : Ideal .f32) {A : M3 Ideal} (hA : RealM A) : RealM (sweepA tol A) :=
  realM_turn 0 1 _ (realM_turn 1 2 _ (realM_turn 0 2 _ hA))

/-- The matrix after the sweeps is real. -/
theorem realM_jacobi {A : M3 Ideal} (hA : RealM A) : RealM (jacobi A).1 := by
  have h : ∀ k, RealM ((sweepS (tolOf A))^[k] (A, ident)).1 := fun k => by
    induction k with
    | zero => exact hA
    | succ k ih =>
      rw [Function.iterate_succ_apply']
      exact realM_sweep _ ih
  exact h 8

/-- Three real values. -/
def R3 (t : Ideal .f32 × Ideal .f32 × Ideal .f32) : Prop := IsR t.1 ∧ IsR t.2.1 ∧ IsR t.2.2

/-- Exchanging the first two of three reals leaves three reals. -/
theorem r3_step01 {s : (Ideal .f32 × Ideal .f32 × Ideal .f32) × (Ideal .f32 × Ideal .f32 × Ideal .f32)} (h : R3 s.1) : R3 (step01 s).1 :=
  ⟨isR_select _ h.2.1 h.1, isR_select _ h.1 h.2.1, h.2.2⟩
/-- Exchanging the last two of three reals leaves three reals. -/
theorem r3_step12 {s : (Ideal .f32 × Ideal .f32 × Ideal .f32) × (Ideal .f32 × Ideal .f32 × Ideal .f32)} (h : R3 s.1) : R3 (step12 s).1 :=
  ⟨h.1, isR_select _ h.2.2 h.2.1, isR_select _ h.2.1 h.2.2⟩

/-- THE EIGENVALUES OF A REAL MATRIX ARE REAL. -/
theorem isR_eigVals {A : M3 Ideal} (hA : RealM A) (k : Fin 3) : IsR (eigVals A k) := by
  have h : R3 (order ((A 0 0, A 1 1, A 2 2), (A 0 0, A 1 1, A 2 2))).1 :=
    r3_step01 (r3_step12 (r3_step01 ⟨hA 0 0, hA 1 1, hA 2 2⟩))
  unfold eigVals
  fin_cases k
  · exact h.1
  · exact h.2.1
  · exact h.2.2

end Cert.Jacobi

end
-- ==== Proof.KerFin.lean ====
/-
  What the kernel leaves in its results: the nearest points' numbers, the ordered eigenvalues and vectors of the
  covariance matrices, and the nearest of the eigenvalues.
-/
module

public import proofs.«01_k».proof.Proof.Near0
public import proofs.«01_k».proof.Proof.Near2
public import proofs.«01_k».proof.Proof.Arrays
public import proofs.«01_k».proof.Proof.Cov
public import proofs.«01_k».proof.Proof.RealEig

@[expose] public section

set_option maxRecDepth 16384

noncomputable section

namespace Cert.KernelIdeal.Whole

open Cert.KernelIdeal.Gen Cert.Jacobi
open Idealize.ShloMosaic.TcCoe
open Idealize.ShloMosaic hiding ix1 ix2 ix3 ix4
open Idealize.ShloMosaic.ValueIdx
open Idealize.ShloMosaic.StableHlo (after)

/-- The neighbours' numbers of an array of points, in one row. -/
def sidOf (P : FVec Ideal S8x2048x3 .f32) : IVec S262144 32 :=
  shapeCast S262144 (Knn.nearest P) shapeCasts_S8x2048x16_S262144

/-- The covariance matrix of a point among its nearest. -/
def covM (P : FVec Ideal S8x2048x3 .f32) (b : Fin 8) (n : Fin 2048) : M3 Ideal := fun i j =>
  covOf P (sidOf P) (ix4 b n i j)

/-- The ordered eigenvalues of the points' covariance matrices, and the eigenvectors. -/
def eigOf (P : FVec Ideal S8x2048x3 .f32) : FVec Ideal S8x2048x3 .f32 := fun y =>
  eigVals (jacobi (covM P (y 0) (y 1))).1 (y 2)
def vecOf (P : FVec Ideal S8x2048x3 .f32) : FVec Ideal S8x2048x3x3 .f32 := fun y =>
  eigVecs (jacobi (covM P (y 0) (y 1))).1 (jacobi (covM P (y 0) (y 1))).2 (y 2) (y 3)

/-- The eigenvalues of real points are real. -/
theorem eig_real (P : FVec Ideal S8x2048x3 .f32) (hP : Knn.Real P) : Knn.Real (eigOf P) := fun y =>
  isR_eigVals (realM_jacobi fun i j => cov_real P hP (sidOf P) (y 0) (y 1) i j) (y 2)

variable (m : (ℓ : Loc nD τ sig) → Buf (Elt Ideal) ℓ) (ρ : Dev nD → PrngReg) (c : Dev nD)

/-- The points. -/
abbrev pts : FVec Ideal S8x2048x3 .f32 := m ((c : Thread nD τ).loc main_arg0)

variable (hX : Knn.Real (pts m c))

include hX in
/-- The first search's array. -/
theorem first_search : (W2 m ρ c main_v1 : IVec S8x2048x16 32) = Knn.nearest (pts m c) := by
  refine (W2_arr m ρ c 2).trans (Near0.final (V1 m ρ) c (pts m c) hX (W1_args m ρ c main_arg0 (by decide)) fun b k j => ?_)
  have e : (W1 m ρ c main_v0 : FVec Ideal S8x3x2048 .f32)
      = transpose S8x3x2048 [0, 2, 1] (pts m c) transposes_S8x2048x3_S8x3x2048_0_2_1 := by
    unfold W1
    after_reads_simp
  refine (congrFun e (ix3 b k j)).trans ?_
  generalize pts m c = P
  pointwise
  rfl

include hX in
/-- The neighbours' numbers after the first host operations. -/
theorem sid_val : (W3 m ρ c main_v2 : IVec S262144 32) = sidOf (pts m c) := by
  refine (sid_read (W2 m ρ c)).trans ?_
  rw [first_search m ρ c hX]
  rfl

include hX in
/-- The covariance matrices the eigenvalue call is given. -/
theorem planes_val (b : Fin 8) (n : Fin 2048) :
    planeA (V3 m ρ c main_v27 : FVec Ideal S9x128x128 .f32) (pr b n) (pl b n) = covM (pts m c) b n := by
  funext i j
  refine (planes (W2 m ρ c) b n i j _ rfl).trans ?_
  rw [cov_read, show (W2 m ρ c main_arg0 : FVec Ideal S8x2048x3 .f32) = pts m c from W2_args m ρ c main_arg0 (by decide),
    show (after hostOps1 (W2 m ρ c) main_v2 : IVec S262144 32) = sidOf (pts m c) from sid_val m ρ c hX]
  rfl

include hX in
/-- The eigenvalues after the second host operations. -/
theorem eig_val : (W5 m ρ c main_v33 : FVec Ideal S8x2048x3 .f32) = eigOf (pts m c) := by
  funext y
  obtain ⟨b, n, k, rfl⟩ : ∃ (b : Fin 8) (n : Fin 2048) (k : Fin 3), y = ix3 b n k := ⟨_, _, _, ValueIdx.eq_ix3 y⟩
  refine (eig_read (W4 m ρ c) b n k).trans ?_
  rw [show (W4 m ρ c main_v28_0 : FVec Ideal S3x128x128 .f32) = valsOf (V3 m ρ c main_v27 : FVec Ideal S9x128x128 .f32) from
    (W4_arr m ρ c 1).trans (final1_1 (V3 m ρ) c)]
  show eigVals (jacobi (planeA (V3 m ρ c main_v27 : FVec Ideal S9x128x128 .f32) (pr b n) (pl b n))).1 k = _
  rw [planes_val m ρ c hX]
  rfl

include hX in
/-- The eigenvectors after the second host operations. -/
theorem vec_val : (W5 m ρ c main_v34 : FVec Ideal S8x2048x3x3 .f32) = vecOf (pts m c) := by
  funext y
  obtain ⟨b, n, i, j, rfl⟩ : ∃ (b : Fin 8) (n : Fin 2048) (i j : Fin 3), y = ix4 b n i j := ⟨_, _, _, _, ValueIdx.eq_ix4 y⟩
  refine (vec_read (W4 m ρ c) b n i j).trans ?_
  rw [show (W4 m ρ c main_v28_1 : FVec Ideal S9x128x128 .f32) = vecsOf (V3 m ρ c main_v27 : FVec Ideal S9x128x128 .f32) from
    (W4_arr m ρ c 2).trans (final1_2 (V3 m ρ) c)]
  have hi : (⟨(3 * i.val + j.val) / 3, by omega⟩ : Fin 3) = i := Fin.ext (show (3 * i.val + j.val) / 3 = i.val by omega)
  have hj : (⟨(3 * i.val + j.val) % 3, by omega⟩ : Fin 3) = j := Fin.ext (show (3 * i.val + j.val) % 3 = j.val by omega)
  show eigVecs (jacobi (planeA (V3 m ρ c main_v27 : FVec Ideal S9x128x128 .f32) (pr b n) (pl b n))).1
    (jacobi (planeA (V3 m ρ c main_v27 : FVec Ideal S9x128x128 .f32) (pr b n) (pl b n))).2
    (⟨(3 * i.val + j.val) / 3, by omega⟩ : Fin 3) (⟨(3 * i.val + j.val) % 3, by omega⟩ : Fin 3) = _
  rw [planes_val m ρ c hX, hi, hj]
  rfl

include hX in
/-- The second search's array. -/
theorem second_search : (W6 m ρ c main_v36 : IVec S8x2048x16 32) = Knn.nearest (eigOf (pts m c)) := by
  refine (W6_arr m ρ c 2).trans (Near2.final (V5 m ρ) c (eigOf (pts m c)) (eig_real _ hX) (eig_val m ρ c hX) fun b k j => ?_)
  refine (eigT_read (W4 m ρ c) b k j).trans ?_
  exact congrFun (eig_val m ρ c hX) (ix3 b j k)

/-! The six results when the program ends. -/

include hX in
/-- Result 1: the numbers of the nearest points. -/
theorem end_v2 : (W7 m ρ c main_v2 : IVec S262144 32) = sidOf (pts m c) := by
  refine Eq.trans ?_ (sid_val m ρ c hX)
  exact (W7_of m ρ c main_v2 (by decide)).trans <| (W6_of m ρ c main_v2 (by decide)).trans <|
    (W5_of m ρ c main_v2 (by decide)).trans (W4_of m ρ c main_v2 (by decide))

/-- Results 2 and 4: the points' own numbers. -/
theorem end_v5 : (W7 m ρ c main_v5 : IVec S262144 32) = own := by
  refine Eq.trans ?_ (own_read (W2 m ρ c))
  exact (W7_of m ρ c main_v5 (by decide)).trans <| (W6_of m ρ c main_v5 (by decide)).trans <|
    (W5_of m ρ c main_v5 (by decide)).trans (W4_of m ρ c main_v5 (by decide))

include hX in
/-- Result 3: the numbers of the nearest eigenvalues. -/
theorem end_v37 : (W7 m ρ c main_v37 : IVec S262144 32) = sidOf (eigOf (pts m c)) := by
  have e : (W7 m ρ c main_v37 : IVec S262144 32)
      = shapeCast S262144 (W6 m ρ c main_v36 : IVec S8x2048x16 32) shapeCasts_S8x2048x16_S262144 := by
    unfold W7
    generalize W6 m ρ c = X
    after_reads_simp
    rfl
  rw [e, second_search m ρ c hX]
  rfl

include hX in
/-- Result 5: the eigenvalues. -/
theorem end_v33 : (W7 m ρ c main_v33 : FVec Ideal S8x2048x3 .f32) = eigOf (pts m c) :=
  (W7_of m ρ c main_v33 (by decide)).trans <| (W6_of m ρ c main_v33 (by decide)).trans (eig_val m ρ c hX)

include hX in
/-- Result 6: the eigenvectors. -/
theorem end_v34 : (W7 m ρ c main_v34 : FVec Ideal S8x2048x3x3 .f32) = vecOf (pts m c) :=
  (W7_of m ρ c main_v34 (by decide)).trans <| (W6_of m ρ c main_v34 (by decide)).trans (vec_val m ρ c hX)

end Cert.KernelIdeal.Whole

end
-- ==== Proof.RefRun.lean ====
/-
  The reference's run: its host operations as lists, the loop over the eight sweeps as a counted loop of such lists,
  and from them what every buffer holds when the program ends (`run`), and the reference's frame.
-/
module

public import proofs.«01_k».proof.Proof.Gen.ReferenceIdeal
public import Idealize.ShloMosaic.Lib.StableHlo.RunLoop
public import Idealize.ShloMosaic.Lib.StableHlo.RunRead
public import Idealize.ShloMosaic.Lib.Scf.ExitTest

@[expose] public section

noncomputable section

namespace Cert.ReferenceIdeal.Jacobi

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo (after afterL Plain atTrip entryContents finalContents CondSpec)

variable {F : FTy → Type} [FloatOps F]

/-! ## The operations -/

/-- 60 host operations of the reference, in order. -/
abbrev preA : List (HloOp τ sig (Elt F)) :=
  [ StableHlo.nullary main_cst (fun i => FloatOps.ofBits .f32 (lit0 (S3x3.rowMajor i))),
    StableHlo.nullary main_cst_0 (fun i => FloatOps.ofBits .f32 (lit1 (S3x3.rowMajor i))),
    StableHlo.nullary main_cst_1 (fun i => FloatOps.ofBits .f32 (lit2 (S3x3.rowMajor i))),
    StableHlo.nullary main_cst_2 (fun i => FloatOps.ofBits .f32 (lit3 (S3x3.rowMajor i))),
    StableHlo.nullary main_cst_3 (fun i => FloatOps.ofBits .f32 (lit4 (S3x3.rowMajor i))),
    StableHlo.nullary main_cst_4 (fun i => FloatOps.ofBits .f32 (lit5 (S3x3.rowMajor i))),
    StableHlo.nullary main_cst_5 (fun i => FloatOps.ofBits .f32 (lit6 (S3x3.rowMajor i))),
    StableHlo.nullary main_cst_6 (fun i => FloatOps.ofBits .f32 (lit7 (S3x3.rowMajor i))),
    StableHlo.nullary main_cst_7 (fun i => FloatOps.ofBits .f32 (lit8 (S3x3.rowMajor i))),
    StableHlo.nullary main_cst_8 (fun i => FloatOps.ofBits .f32 (lit9 (S3x3.rowMajor i))),
    StableHlo.reshape main_arg0 main_v0 (rfl : (.f32 : EltTy) = .f32) shapeCasts_S8x2048x3_S16384x3,
    StableHlo.binary main_arg0 main_arg0 main_v1 (mulf : (⟨S8x2048x3, .f32⟩ : BufTy).Contents (Elt F) → (⟨S8x2048x3, .f32⟩ : BufTy).Contents (Elt F) → (⟨S8x2048x3, .f32⟩ : BufTy).Contents (Elt F)),
    StableHlo.nullary main_cst_9 (constant S_ .f32 0x00000000#32),
    StableHlo.binary main_v1 main_cst_9 main_v2 ((fun x v => Host.reduceAdd x v reducesTo_S8x2048x3_S8x2048_d2 h_S_) : (⟨S8x2048x3, .f32⟩ : BufTy).Contents (Elt F) → (⟨S_, .f32⟩ : BufTy).Contents (Elt F) → (⟨S8x2048, .f32⟩ : BufTy).Contents (Elt F)),
    StableHlo.unary main_v2 main_v3 (broadcastInDim S8x2048x1 ![0, 1] bcast_S8x2048_S8x2048x1_0_1 : (⟨S8x2048, .f32⟩ : BufTy).Contents (Elt F) → (⟨S8x2048x1, .f32⟩ : BufTy).Contents (Elt F)),
    StableHlo.unary main_v2 main_v4 (broadcastInDim S8x1x2048 ![0, 2] bcast_S8x2048_S8x1x2048_0_2 : (⟨S8x2048, .f32⟩ : BufTy).Contents (Elt F) → (⟨S8x1x2048, .f32⟩ : BufTy).Contents (Elt F)),
    StableHlo.unary main_v3 main_v5 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    StableHlo.unary main_v4 main_v6 (broadcastInDim S8x2048x2048 ![0, 1, 2] bcast_S8x1x2048_S8x2048x2048_0_1_2 : (⟨S8x1x2048, .f32⟩ : BufTy).Contents (Elt F) → (⟨S8x2048x2048, .f32⟩ : BufTy).Contents (Elt F)),
    StableHlo.binary main_v5 main_v6 main_v7 (addf : (⟨S8x2048x2048, .f32⟩ : BufTy).Contents (Elt F) → (⟨S8x2048x2048, .f32⟩ : BufTy).Contents (Elt F) → (⟨S8x2048x2048, .f32⟩ : BufTy).Contents (Elt F)),
    StableHlo.binary main_arg0 main_arg0 main_v8 ((fun l r => Host.dotGeneral dot_S8x2048x3_S8x2048x3_S8x2048x2048_2_2_1_1_0_0 none l r) : (⟨S8x2048x3, .f32⟩ : BufTy).Contents (Elt F) → (⟨S8x2048x3, .f32⟩ : BufTy).Contents (Elt F) → (⟨S8x2048x2048, .f32⟩ : BufTy).Contents (Elt F)),
    StableHlo.nullary main_cst_10 (constant S_ .f32 0x40000000#32),
    StableHlo.unary main_cst_10 main_v9 (broadcastInDim S8x2048x2048 ![] bcast_S_S8x2048x2048 : (⟨S_, .f32⟩ : BufTy).Contents (Elt F) → (⟨S8x2048x2048, .f32⟩ : BufTy).Contents (Elt F)),
    StableHlo.binary main_v9 main_v8 main_v10 (mulf : (⟨S8x2048x2048, .f32⟩ : BufTy).Contents (Elt F) → (⟨S8x2048x2048, .f32⟩ : BufTy).Contents (Elt F) → (⟨S8x2048x2048, .f32⟩ : BufTy).Contents (Elt F)),
    StableHlo.binary main_v7 main_v10 main_v11 (subf : (⟨S8x2048x2048, .f32⟩ : BufTy).Contents (Elt F) → (⟨S8x2048x2048, .f32⟩ : BufTy).Contents (Elt F) → (⟨S8x2048x2048, .f32⟩ : BufTy).Contents (Elt F)),
    StableHlo.nullary main_cst_11 (constant S_ .f32 0x00000000#32),
    StableHlo.unary main_cst_11 main_v12 (broadcastInDim S8x2048x2048 ![] bcast_S_S8x2048x2048 : (⟨S_, .f32⟩ : BufTy).Contents (Elt F) → (⟨S8x2048x2048, .f32⟩ : BufTy).Contents (Elt F)),
    StableHlo.binary main_v11 main_v12 main_v13 (maximumf : (⟨S8x2048x2048, .f32⟩ : BufTy).Contents (Elt F) → (⟨S8x2048x2048, .f32⟩ : BufTy).Contents (Elt F) → (⟨S8x2048x2048, .f32⟩ : BufTy).Contents (Elt F)),
    StableHlo.unary main_v13 main_v14 (Host.negf : (⟨S8x2048x2048, .f32⟩ : BufTy).Contents (Elt F) → (⟨S8x2048x2048, .f32⟩ : BufTy).Contents (Elt F)),
    StableHlo.unary main_v14 main_values ((fun x => (Host.topK S8x2048x16 2 (FloatOps.cmpfTotal .gt) x sliceFits_S8x2048x2048_S8x2048x16).1) : (⟨S8x2048x2048, .f32⟩ : BufTy).Contents (Elt F) → (⟨S8x2048x16, .f32⟩ : BufTy).Contents (Elt F)),
    StableHlo.unary main_v14 main_indices ((fun x => (Host.topK S8x2048x16 2 (FloatOps.cmpfTotal .gt) x sliceFits_S8x2048x2048_S8x2048x16).2) : (⟨S8x2048x2048, .f32⟩ : BufTy).Contents (Elt F) → (⟨S8x2048x16, .i32⟩ : BufTy).Contents (Elt F)),
    StableHlo.nullary main_v15 (iotaInDim S8 32 0),
    StableHlo.nullary main_c (constantI S_ 32 2048#32),
    StableHlo.unary main_c main_v16 (broadcastInDim S8 ![] bcast_S_S8 : (⟨S_, .i32⟩ : BufTy).Contents (Elt F) → (⟨S8, .i32⟩ : BufTy).Contents (Elt F)),
    StableHlo.binary main_v15 main_v16 main_v17 (muli : (⟨S8, .i32⟩ : BufTy).Contents (Elt F) → (⟨S8, .i32⟩ : BufTy).Contents (Elt F) → (⟨S8, .i32⟩ : BufTy).Contents (Elt F)),
    StableHlo.unary main_v17 main_v18 (broadcastInDim S8x1x1 ![0] bcast_S8_S8x1x1_0 : (⟨S8, .i32⟩ : BufTy).Contents (Elt F) → (⟨S8x1x1, .i32⟩ : BufTy).Contents (Elt F)),
    StableHlo.unary main_v18 main_v19 (broadcastInDim S8x2048x16 ![0, 1, 2] bcast_S8x1x1_S8x2048x16_0_1_2 : (⟨S8x1x1, .i32⟩ : BufTy).Contents (Elt F) → (⟨S8x2048x16, .i32⟩ : BufTy).Contents (Elt F)),
    StableHlo.binary main_indices main_v19 main_v20 (addi : (⟨S8x2048x16, .i32⟩ : BufTy).Contents (Elt F) → (⟨S8x2048x16, .i32⟩ : BufTy).Contents (Elt F) → (⟨S8x2048x16, .i32⟩ : BufTy).Contents (Elt F)),
    StableHlo.reshape main_v20 main_v21 (rfl : (.i32 : EltTy) = .i32) shapeCasts_S8x2048x16_S262144,
    StableHlo.nullary main_v22 (iotaInDim S16384 32 0),
    StableHlo.unary main_v22 main_v23 (broadcastInDim S16384x16 ![0] bcast_S16384_S16384x16_0 : (⟨S16384, .i32⟩ : BufTy).Contents (Elt F) → (⟨S16384x16, .i32⟩ : BufTy).Contents (Elt F)),
    StableHlo.reshape main_v23 main_v24 (rfl : (.i32 : EltTy) = .i32) shapeCasts_S16384x16_S262144,
    StableHlo.nullary main_c_12 (constantI S_ 32 0#32),
    StableHlo.unary main_c_12 main_v25 (broadcastInDim S262144 ![] bcast_S_S262144 : (⟨S_, .i32⟩ : BufTy).Contents (Elt F) → (⟨S262144, .i32⟩ : BufTy).Contents (Elt F)),
    StableHlo.binary main_v21 main_v25 main_v26 (cmpi .slt : (⟨S262144, .i32⟩ : BufTy).Contents (Elt F) → (⟨S262144, .i32⟩ : BufTy).Contents (Elt F) → (⟨S262144, .i1⟩ : BufTy).Contents (Elt F)),
    StableHlo.nullary main_c_13 (constantI S_ 32 16384#32),
    StableHlo.unary main_c_13 main_v27 (broadcastInDim S262144 ![] bcast_S_S262144 : (⟨S_, .i32⟩ : BufTy).Contents (Elt F) → (⟨S262144, .i32⟩ : BufTy).Contents (Elt F)),
    StableHlo.binary main_v21 main_v27 main_v28 (addi : (⟨S262144, .i32⟩ : BufTy).Contents (Elt F) → (⟨S262144, .i32⟩ : BufTy).Contents (Elt F) → (⟨S262144, .i32⟩ : BufTy).Contents (Elt F)),
    StableHlo.ternary main_v26 main_v28 main_v21 main_v29 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v29 main_v30 (broadcastInDim S262144x1 ![0] bcast_S262144_S262144x1_0 : (⟨S262144, .i32⟩ : BufTy).Contents (Elt F) → (⟨S262144x1, .i32⟩ : BufTy).Contents (Elt F)),
    StableHlo.binary main_v0 main_v30 main_v31 ((fun x i => Host.gather gather_S16384x3_S262144x1_S262144x3_1_0_n_n_0_1_13 x i) : (⟨S16384x3, .f32⟩ : BufTy).Contents (Elt F) → (⟨S262144x1, .i32⟩ : BufTy).Contents (Elt F) → (⟨S262144x3, .f32⟩ : BufTy).Contents (Elt F)),
    StableHlo.nullary main_c_14 (constantI S_ 32 0#32),
    StableHlo.unary main_c_14 main_v32 (broadcastInDim S262144 ![] bcast_S_S262144 : (⟨S_, .i32⟩ : BufTy).Contents (Elt F) → (⟨S262144, .i32⟩ : BufTy).Contents (Elt F)),
    StableHlo.binary main_v24 main_v32 main_v33 (cmpi .slt : (⟨S262144, .i32⟩ : BufTy).Contents (Elt F) → (⟨S262144, .i32⟩ : BufTy).Contents (Elt F) → (⟨S262144, .i1⟩ : BufTy).Contents (Elt F)),
    StableHlo.nullary main_c_15 (constantI S_ 32 16384#32),
    StableHlo.unary main_c_15 main_v34 (broadcastInDim S262144 ![] bcast_S_S262144 : (⟨S_, .i32⟩ : BufTy).Contents (Elt F) → (⟨S262144, .i32⟩ : BufTy).Contents (Elt F)),
    StableHlo.binary main_v24 main_v34 main_v35 (addi : (⟨S262144, .i32⟩ : BufTy).Contents (Elt F) → (⟨S262144, .i32⟩ : BufTy).Contents (Elt F) → (⟨S262144, .i32⟩ : BufTy).Contents (Elt F)),
    StableHlo.ternary main_v33 main_v35 main_v24 main_v36 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v36 main_v37 (broadcastInDim S262144x1 ![0] bcast_S262144_S262144x1_0 : (⟨S262144, .i32⟩ : BufTy).Contents (Elt F) → (⟨S262144x1, .i32⟩ : BufTy).Contents (Elt F)),
    StableHlo.binary main_v0 main_v37 main_v38 ((fun x i => Host.gather gather_S16384x3_S262144x1_S262144x3_1_0_n_n_0_1_13 x i) : (⟨S16384x3, .f32⟩ : BufTy).Contents (Elt F) → (⟨S262144x1, .i32⟩ : BufTy).Contents (Elt F) → (⟨S262144x3, .f32⟩ : BufTy).Contents (Elt F)),
    StableHlo.binary main_v31 main_v38 main_v39 (subf : (⟨S262144x3, .f32⟩ : BufTy).Contents (Elt F) → (⟨S262144x3, .f32⟩ : BufTy).Contents (Elt F) → (⟨S262144x3, .f32⟩ : BufTy).Contents (Elt F)) ]
/-- Each touches TensorCore references only. -/
theorem preA_sub : (preA : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.nullary_bufs_sub .., StableHlo.nullary_bufs_sub .., StableHlo.nullary_bufs_sub .., StableHlo.nullary_bufs_sub .., StableHlo.nullary_bufs_sub .., StableHlo.nullary_bufs_sub .., StableHlo.reshape_bufs_sub .., StableHlo.binary_bufs_sub .., StableHlo.nullary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub .., StableHlo.nullary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
/-- The buffers they write, in order. -/
abbrev preA_W : List (Ref sig .tc) := [main_cst, main_cst_0, main_cst_1, main_cst_2, main_cst_3, main_cst_4, main_cst_5, main_cst_6, main_cst_7, main_cst_8, main_v0, main_v1, main_cst_9, main_v2, main_v3, main_v4, main_v5, main_v6, main_v7, main_v8, main_cst_10, main_v9, main_v10, main_v11, main_cst_11, main_v12, main_v13, main_v14, main_values, main_indices, main_v15, main_c, main_v16, main_v17, main_v18, main_v19, main_v20, main_v21, main_v22, main_v23, main_v24, main_c_12, main_v25, main_v26, main_c_13, main_v27, main_v28, main_v29, main_v30, main_v31, main_c_14, main_v32, main_v33, main_c_15, main_v34, main_v35, main_v36, main_v37, main_v38, main_v39]
/-- The operations write those alone. -/
theorem preA_writes : (preA : List (HloOp τ sig (Elt F))).Forall fun op => op.writes ⊆ (preA_W.map (Proc.devRef (τ := τ) .tc)).toFinset :=
  StableHlo.forall_writes_sub_of_map rfl

/-- 27 host operations of the reference, in order. -/
abbrev preB : List (HloOp τ sig (Elt F)) :=
  [ StableHlo.reshape main_v39 main_v40 (rfl : (.f32 : EltTy) = .f32) shapeCasts_S262144x3_S8x2048x16x3,
    StableHlo.binary main_v40 main_v40 main_v41 ((fun l r => Host.dotGeneral dot_S8x2048x16x3_S8x2048x16x3_S8x2048x3x3_2_2_3_3_01_01 none l r) : (⟨S8x2048x16x3, .f32⟩ : BufTy).Contents (Elt F) → (⟨S8x2048x16x3, .f32⟩ : BufTy).Contents (Elt F) → (⟨S8x2048x3x3, .f32⟩ : BufTy).Contents (Elt F)),
    StableHlo.reshape main_v41 main_v42 (rfl : (.f32 : EltTy) = .f32) shapeCasts_S8x2048x3x3_S16384x3x3,
    StableHlo.binary main_v42 main_v42 main_v43 (mulf : (⟨S16384x3x3, .f32⟩ : BufTy).Contents (Elt F) → (⟨S16384x3x3, .f32⟩ : BufTy).Contents (Elt F) → (⟨S16384x3x3, .f32⟩ : BufTy).Contents (Elt F)),
    StableHlo.nullary main_cst_16 (constant S_ .f32 0x00000000#32),
    StableHlo.binary main_v43 main_cst_16 main_v44 ((fun x v => Host.reduceAdd x v reducesTo_S16384x3x3_S16384_d1_2 h_S_) : (⟨S16384x3x3, .f32⟩ : BufTy).Contents (Elt F) → (⟨S_, .f32⟩ : BufTy).Contents (Elt F) → (⟨S16384, .f32⟩ : BufTy).Contents (Elt F)),
    StableHlo.unary main_v44 main_v45 (Host.sqrt : (⟨S16384, .f32⟩ : BufTy).Contents (Elt F) → (⟨S16384, .f32⟩ : BufTy).Contents (Elt F)),
    StableHlo.nullary main_cst_17 (constant S_ .f32 0x3727C5AC#32),
    StableHlo.unary main_cst_17 main_v46 (broadcastInDim S16384 ![] bcast_S_S16384 : (⟨S_, .f32⟩ : BufTy).Contents (Elt F) → (⟨S16384, .f32⟩ : BufTy).Contents (Elt F)),
    StableHlo.binary main_v46 main_v45 main_v47 (mulf : (⟨S16384, .f32⟩ : BufTy).Contents (Elt F) → (⟨S16384, .f32⟩ : BufTy).Contents (Elt F) → (⟨S16384, .f32⟩ : BufTy).Contents (Elt F)),
    StableHlo.unary main_cst main_v48 (broadcastInDim S16384x3x3 ![1, 2] bcast_S3x3_S16384x3x3_1_2 : (⟨S3x3, .f32⟩ : BufTy).Contents (Elt F) → (⟨S16384x3x3, .f32⟩ : BufTy).Contents (Elt F)),
    StableHlo.nullary main_c_18 (constantI S_ 32 0#32),
    StableHlo.nullary main_c_19 (constantI S_ 32 0#32),
    StableHlo.unary main_v47 main_v49_0 id,
    StableHlo.unary main_cst_0 main_v49_1 id,
    StableHlo.unary main_cst_1 main_v49_2 id,
    StableHlo.unary main_cst_2 main_v49_3 id,
    StableHlo.unary main_cst_3 main_v49_4 id,
    StableHlo.unary main_cst_4 main_v49_5 id,
    StableHlo.unary main_cst_5 main_v49_6 id,
    StableHlo.unary main_cst_6 main_v49_7 id,
    StableHlo.unary main_cst_7 main_v49_8 id,
    StableHlo.unary main_cst_8 main_v49_9 id,
    StableHlo.unary main_c_19 main_v49_10 id,
    StableHlo.unary main_c_18 main_v49_11 id,
    StableHlo.unary main_v42 main_v49_12 id,
    StableHlo.unary main_v48 main_v49_13 id ]
/-- Each touches TensorCore references only. -/
theorem preB_sub : (preB : List (HloOp τ sig (Elt F))).Forall fun op => op.bufs ⊆ StableHlo.tcRefs τ sig :=
  ⟨StableHlo.reshape_bufs_sub .., StableHlo.binary_bufs_sub .., StableHlo.reshape_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- The buffers they write, in order. -/
abbrev preB_W : List (Ref sig .tc) := [main_v40, main_v41, main_v42, main_v43, main_cst_16, main_v44, main_v45, main_cst_17, main_v46, main_v47, main_v48, main_c_18, main_c_19, main_v49_0, main_v49_1, main_v49_2, main_v49_3, main_v49_4, main_v49_5, main_v49_6, main_v49_7, main_v49_8, main_v49_9, main_v49_10, main_v49_11, main_v49_12, main_v49_13]
/-- The operations write those alone. -/
theorem preB_writes : (preB : List (HloOp τ sig (Elt F))).Forall fun op => op.writes ⊆ (preB_W.map (Proc.devRef (τ := τ) .tc)).toFinset :=
  StableHlo.forall_writes_sub_of_map rfl

/-- 2 host operations of the reference, in order. -/
abbrev ctrOp : List (HloOp τ sig (Elt F)) :=
  [ StableHlo.nullary main_while0b_c_39 (constantI S_ 32 1#32),
    StableHlo.binary main_v49_11 main_while0b_c_39 main_while0b_v91 (addi : (⟨S_, .i32⟩ : BufTy).Contents (Elt F) → (⟨S_, .i32⟩ : BufTy).Contents (Elt F) → (⟨S_, .i32⟩ : BufTy).Contents (Elt F)) ]
/-- Each touches TensorCore references only. -/
theorem ctrOp_sub : (ctrOp : List (HloOp τ sig (Elt F))).Forall fun op => op.bufs ⊆ StableHlo.tcRefs τ sig :=
  ⟨StableHlo.nullary_bufs_sub .., StableHlo.binary_bufs_sub ..⟩
/-- The buffers they write, in order. -/
abbrev ctrOp_W : List (Ref sig .tc) := [main_while0b_c_39, main_while0b_v91]
/-- The operations write those alone. -/
theorem ctrOp_writes : (ctrOp : List (HloOp τ sig (Elt F))).Forall fun op => op.writes ⊆ (ctrOp_W.map (Proc.devRef (τ := τ) .tc)).toFinset :=
  StableHlo.forall_writes_sub_of_map rfl

/-- 58 host operations of the reference, in order. -/
abbrev ang1 : List (HloOp τ sig (Elt F)) :=
  [ StableHlo.unary main_v49_12 main_while0b_v92 ((extractStridedSlice S16384x1x1 ![0, 0, 1] · slices_S16384x3x3_S16384x1x1_0_0_1) : (⟨S16384x3x3, .f32⟩ : BufTy).Contents (Elt F) → (⟨S16384x1x1, .f32⟩ : BufTy).Contents (Elt F)),
    StableHlo.reshape main_while0b_v92 main_while0b_v93 (rfl : (.f32 : EltTy) = .f32) shapeCasts_S16384x1x1_S16384,
    StableHlo.unary main_v49_12 main_while0b_v94 ((extractStridedSlice S16384x1x1 ![0, 0, 2] · slices_S16384x3x3_S16384x1x1_0_0_2) : (⟨S16384x3x3, .f32⟩ : BufTy).Contents (Elt F) → (⟨S16384x1x1, .f32⟩ : BufTy).Contents (Elt F)),
    StableHlo.reshape main_while0b_v94 main_while0b_v95 (rfl : (.f32 : EltTy) = .f32) shapeCasts_S16384x1x1_S16384,
    StableHlo.unary main_v49_12 main_while0b_v96 ((extractStridedSlice S16384x1x1 ![0, 1, 2] · slices_S16384x3x3_S16384x1x1_0_1_2) : (⟨S16384x3x3, .f32⟩ : BufTy).Contents (Elt F) → (⟨S16384x1x1, .f32⟩ : BufTy).Contents (Elt F)),
    StableHlo.reshape main_while0b_v96 main_while0b_v97 (rfl : (.f32 : EltTy) = .f32) shapeCasts_S16384x1x1_S16384,
    StableHlo.binary main_while0b_v93 main_while0b_v93 main_while0b_v98 (mulf : (⟨S16384, .f32⟩ : BufTy).Contents (Elt F) → (⟨S16384, .f32⟩ : BufTy).Contents (Elt F) → (⟨S16384, .f32⟩ : BufTy).Contents (Elt F)),
    StableHlo.binary main_while0b_v95 main_while0b_v95 main_while0b_v99 (mulf : (⟨S16384, .f32⟩ : BufTy).Contents (Elt F) → (⟨S16384, .f32⟩ : BufTy).Contents (Elt F) → (⟨S16384, .f32⟩ : BufTy).Contents (Elt F)),
    StableHlo.binary main_while0b_v98 main_while0b_v99 main_while0b_v100 (addf : (⟨S16384, .f32⟩ : BufTy).Contents (Elt F) → (⟨S16384, .f32⟩ : BufTy).Contents (Elt F) → (⟨S16384, .f32⟩ : BufTy).Contents (Elt F)),
    StableHlo.binary main_while0b_v97 main_while0b_v97 main_while0b_v101 (mulf : (⟨S16384, .f32⟩ : BufTy).Contents (Elt F) → (⟨S16384, .f32⟩ : BufTy).Contents (Elt F) → (⟨S16384, .f32⟩ : BufTy).Contents (Elt F)),
    StableHlo.binary main_while0b_v100 main_while0b_v101 main_while0b_v102 (addf : (⟨S16384, .f32⟩ : BufTy).Contents (Elt F) → (⟨S16384, .f32⟩ : BufTy).Contents (Elt F) → (⟨S16384, .f32⟩ : BufTy).Contents (Elt F)),
    StableHlo.nullary main_while0b_cst_40 (constant S_ .f32 0x40000000#32),
    StableHlo.unary main_while0b_cst_40 main_while0b_v103 (broadcastInDim S16384 ![] bcast_S_S16384 : (⟨S_, .f32⟩ : BufTy).Contents (Elt F) → (⟨S16384, .f32⟩ : BufTy).Contents (Elt F)),
    StableHlo.binary main_while0b_v103 main_while0b_v102 main_while0b_v104 (mulf : (⟨S16384, .f32⟩ : BufTy).Contents (Elt F) → (⟨S16384, .f32⟩ : BufTy).Contents (Elt F) → (⟨S16384, .f32⟩ : BufTy).Contents (Elt F)),
    StableHlo.unary main_while0b_v104 main_while0b_v105 (Host.sqrt : (⟨S16384, .f32⟩ : BufTy).Contents (Elt F) → (⟨S16384, .f32⟩ : BufTy).Contents (Elt F)),
    StableHlo.binary main_while0b_v105 main_v49_0 main_while0b_v106 (cmpf .ole : (⟨S16384, .f32⟩ : BufTy).Contents (Elt F) → (⟨S16384, .f32⟩ : BufTy).Contents (Elt F) → (⟨S16384, .i1⟩ : BufTy).Contents (Elt F)),
    StableHlo.unary main_v49_12 main_while0b_v107 ((extractStridedSlice S16384x1x1 ![0, 0, 0] · slices_S16384x3x3_S16384x1x1_0_0_0) : (⟨S16384x3x3, .f32⟩ : BufTy).Contents (Elt F) → (⟨S16384x1x1, .f32⟩ : BufTy).Contents (Elt F)),
    StableHlo.reshape main_while0b_v107 main_while0b_v108 (rfl : (.f32 : EltTy) = .f32) shapeCasts_S16384x1x1_S16384,
    StableHlo.unary main_v49_12 main_while0b_v109 ((extractStridedSlice S16384x1x1 ![0, 2, 2] · slices_S16384x3x3_S16384x1x1_0_2_2) : (⟨S16384x3x3, .f32⟩ : BufTy).Contents (Elt F) → (⟨S16384x1x1, .f32⟩ : BufTy).Contents (Elt F)),
    StableHlo.reshape main_while0b_v109 main_while0b_v110 (rfl : (.f32 : EltTy) = .f32) shapeCasts_S16384x1x1_S16384,
    StableHlo.unary main_v49_12 main_while0b_v111 ((extractStridedSlice S16384x1x1 ![0, 0, 2] · slices_S16384x3x3_S16384x1x1_0_0_2) : (⟨S16384x3x3, .f32⟩ : BufTy).Contents (Elt F) → (⟨S16384x1x1, .f32⟩ : BufTy).Contents (Elt F)),
    StableHlo.reshape main_while0b_v111 main_while0b_v112 (rfl : (.f32 : EltTy) = .f32) shapeCasts_S16384x1x1_S16384,
    StableHlo.nullary main_while0b_cst_41 (constant S_ .f32 0x3F800000#32),
    StableHlo.unary main_while0b_cst_41 main_while0b_v113 (broadcastInDim S16384 ![] bcast_S_S16384 : (⟨S_, .f32⟩ : BufTy).Contents (Elt F) → (⟨S16384, .f32⟩ : BufTy).Contents (Elt F)),
    StableHlo.nullary main_while0b_cst_42 (constant S_ .f32 0x00000000#32),
    StableHlo.unary main_while0b_cst_42 main_while0b_v114 (broadcastInDim S16384 ![] bcast_S_S16384 : (⟨S_, .f32⟩ : BufTy).Contents (Elt F) → (⟨S16384, .f32⟩ : BufTy).Contents (Elt F)),
    StableHlo.nullary main_while0b_cst_43 (constant S_ .f32 0x00000000#32),
    StableHlo.unary main_while0b_cst_43 main_while0b_v115 (broadcastInDim S16384 ![] bcast_S_S16384 : (⟨S_, .f32⟩ : BufTy).Contents (Elt F) → (⟨S16384, .f32⟩ : BufTy).Contents (Elt F)),
    StableHlo.binary main_while0b_v112 main_while0b_v115 main_while0b_v116 (cmpf .oeq : (⟨S16384, .f32⟩ : BufTy).Contents (Elt F) → (⟨S16384, .f32⟩ : BufTy).Contents (Elt F) → (⟨S16384, .i1⟩ : BufTy).Contents (Elt F)),
    StableHlo.binary main_while0b_v106 main_while0b_v116 main_while0b_v117 (ori : (⟨S16384, .i1⟩ : BufTy).Contents (Elt F) → (⟨S16384, .i1⟩ : BufTy).Contents (Elt F) → (⟨S16384, .i1⟩ : BufTy).Contents (Elt F)),
    StableHlo.binary main_while0b_v110 main_while0b_v108 main_while0b_v118 (subf : (⟨S16384, .f32⟩ : BufTy).Contents (Elt F) → (⟨S16384, .f32⟩ : BufTy).Contents (Elt F) → (⟨S16384, .f32⟩ : BufTy).Contents (Elt F)),
    StableHlo.nullary main_while0b_cst_44 (constant S_ .f32 0x40000000#32),
    StableHlo.unary main_while0b_cst_44 main_while0b_v119 (broadcastInDim S16384 ![] bcast_S_S16384 : (⟨S_, .f32⟩ : BufTy).Contents (Elt F) → (⟨S16384, .f32⟩ : BufTy).Contents (Elt F)),
    StableHlo.binary main_while0b_v119 main_while0b_v112 main_while0b_v120 (mulf : (⟨S16384, .f32⟩ : BufTy).Contents (Elt F) → (⟨S16384, .f32⟩ : BufTy).Contents (Elt F) → (⟨S16384, .f32⟩ : BufTy).Contents (Elt F)),
    StableHlo.binary main_while0b_v118 main_while0b_v120 main_while0b_v121 (Host.divf : (⟨S16384, .f32⟩ : BufTy).Contents (Elt F) → (⟨S16384, .f32⟩ : BufTy).Contents (Elt F) → (⟨S16384, .f32⟩ : BufTy).Contents (Elt F)),
    StableHlo.nullary main_while0b_cst_45 (constant S_ .f32 0x00000000#32),
    StableHlo.unary main_while0b_cst_45 main_while0b_v122 (broadcastInDim S16384 ![] bcast_S_S16384 : (⟨S_, .f32⟩ : BufTy).Contents (Elt F) → (⟨S16384, .f32⟩ : BufTy).Contents (Elt F)),
    StableHlo.binary main_while0b_v121 main_while0b_v122 main_while0b_v123 (cmpf .oge : (⟨S16384, .f32⟩ : BufTy).Contents (Elt F) → (⟨S16384, .f32⟩ : BufTy).Contents (Elt F) → (⟨S16384, .i1⟩ : BufTy).Contents (Elt F)),
    StableHlo.unary main_while0b_v113 main_while0b_v124 (Host.negf : (⟨S16384, .f32⟩ : BufTy).Contents (Elt F) → (⟨S16384, .f32⟩ : BufTy).Contents (Elt F)),
    StableHlo.ternary main_while0b_v123 main_while0b_v113 main_while0b_v124 main_while0b_v125 (select : (⟨S16384, .i1⟩ : BufTy).Contents (Elt F) → (⟨S16384, .f32⟩ : BufTy).Contents (Elt F) → (⟨S16384, .f32⟩ : BufTy).Contents (Elt F) → (⟨S16384, .f32⟩ : BufTy).Contents (Elt F)),
    StableHlo.unary main_while0b_v121 main_while0b_v126 (Host.absf : (⟨S16384, .f32⟩ : BufTy).Contents (Elt F) → (⟨S16384, .f32⟩ : BufTy).Contents (Elt F)),
    StableHlo.binary main_while0b_v121 main_while0b_v121 main_while0b_v127 (mulf : (⟨S16384, .f32⟩ : BufTy).Contents (Elt F) → (⟨S16384, .f32⟩ : BufTy).Contents (Elt F) → (⟨S16384, .f32⟩ : BufTy).Contents (Elt F)),
    StableHlo.nullary main_while0b_cst_46 (constant S_ .f32 0x3F800000#32),
    StableHlo.unary main_while0b_cst_46 main_while0b_v128 (broadcastInDim S16384 ![] bcast_S_S16384 : (⟨S_, .f32⟩ : BufTy).Contents (Elt F) → (⟨S16384, .f32⟩ : BufTy).Contents (Elt F)),
    StableHlo.binary main_while0b_v128 main_while0b_v127 main_while0b_v129 (addf : (⟨S16384, .f32⟩ : BufTy).Contents (Elt F) → (⟨S16384, .f32⟩ : BufTy).Contents (Elt F) → (⟨S16384, .f32⟩ : BufTy).Contents (Elt F)),
    StableHlo.unary main_while0b_v129 main_while0b_v130 (Host.sqrt : (⟨S16384, .f32⟩ : BufTy).Contents (Elt F) → (⟨S16384, .f32⟩ : BufTy).Contents (Elt F)),
    StableHlo.binary main_while0b_v126 main_while0b_v130 main_while0b_v131 (addf : (⟨S16384, .f32⟩ : BufTy).Contents (Elt F) → (⟨S16384, .f32⟩ : BufTy).Contents (Elt F) → (⟨S16384, .f32⟩ : BufTy).Contents (Elt F)),
    StableHlo.binary main_while0b_v125 main_while0b_v131 main_while0b_v132 (Host.divf : (⟨S16384, .f32⟩ : BufTy).Contents (Elt F) → (⟨S16384, .f32⟩ : BufTy).Contents (Elt F) → (⟨S16384, .f32⟩ : BufTy).Contents (Elt F)),
    StableHlo.binary main_while0b_v132 main_while0b_v132 main_while0b_v133 (mulf : (⟨S16384, .f32⟩ : BufTy).Contents (Elt F) → (⟨S16384, .f32⟩ : BufTy).Contents (Elt F) → (⟨S16384, .f32⟩ : BufTy).Contents (Elt F)),
    StableHlo.nullary main_while0b_cst_47 (constant S_ .f32 0x3F800000#32),
    StableHlo.unary main_while0b_cst_47 main_while0b_v134 (broadcastInDim S16384 ![] bcast_S_S16384 : (⟨S_, .f32⟩ : BufTy).Contents (Elt F) → (⟨S16384, .f32⟩ : BufTy).Contents (Elt F)),
    StableHlo.binary main_while0b_v134 main_while0b_v133 main_while0b_v135 (addf : (⟨S16384, .f32⟩ : BufTy).Contents (Elt F) → (⟨S16384, .f32⟩ : BufTy).Contents (Elt F) → (⟨S16384, .f32⟩ : BufTy).Contents (Elt F)),
    StableHlo.unary main_while0b_v135 main_while0b_v136 (Host.sqrt : (⟨S16384, .f32⟩ : BufTy).Contents (Elt F) → (⟨S16384, .f32⟩ : BufTy).Contents (Elt F)),
    StableHlo.nullary main_while0b_cst_48 (constant S_ .f32 0x3F800000#32),
    StableHlo.unary main_while0b_cst_48 main_while0b_v137 (broadcastInDim S16384 ![] bcast_S_S16384 : (⟨S_, .f32⟩ : BufTy).Contents (Elt F) → (⟨S16384, .f32⟩ : BufTy).Contents (Elt F)),
    StableHlo.binary main_while0b_v137 main_while0b_v136 main_while0b_v138 (Host.divf : (⟨S16384, .f32⟩ : BufTy).Contents (Elt F) → (⟨S16384, .f32⟩ : BufTy).Contents (Elt F) → (⟨S16384, .f32⟩ : BufTy).Contents (Elt F)),
    StableHlo.binary main_while0b_v132 main_while0b_v138 main_while0b_v139 (mulf : (⟨S16384, .f32⟩ : BufTy).Contents (Elt F) → (⟨S16384, .f32⟩ : BufTy).Contents (Elt F) → (⟨S16384, .f32⟩ : BufTy).Contents (Elt F)),
    StableHlo.ternary main_while0b_v117 main_while0b_v113 main_while0b_v138 main_while0b_v140 (select : (⟨S16384, .i1⟩ : BufTy).Contents (Elt F) → (⟨S16384, .f32⟩ : BufTy).Contents (Elt F) → (⟨S16384, .f32⟩ : BufTy).Contents (Elt F) → (⟨S16384, .f32⟩ : BufTy).Contents (Elt F)) ]
/-- Each touches TensorCore references only. -/
theorem ang1_sub : (ang1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.ternary_bufs_sub ..⟩
/-- The buffers they write, in order. -/
abbrev ang1_W : List (Ref sig .tc) := [main_while0b_v92, main_while0b_v93, main_while0b_v94, main_while0b_v95, main_while0b_v96, main_while0b_v97, main_while0b_v98, main_while0b_v99, main_while0b_v100, main_while0b_v101, main_while0b_v102, main_while0b_cst_40, main_while0b_v103, main_while0b_v104, main_while0b_v105, main_while0b_v106, main_while0b_v107, main_while0b_v108, main_while0b_v109, main_while0b_v110, main_while0b_v111, main_while0b_v112, main_while0b_cst_41, main_while0b_v113, main_while0b_cst_42, main_while0b_v114, main_while0b_cst_43, main_while0b_v115, main_while0b_v116, main_while0b_v117, main_while0b_v118, main_while0b_cst_44, main_while0b_v119, main_while0b_v120, main_while0b_v121, main_while0b_cst_45, main_while0b_v122, main_while0b_v123, main_while0b_v124, main_while0b_v125, main_while0b_v126, main_while0b_v127, main_while0b_cst_46, main_while0b_v128, main_while0b_v129, main_while0b_v130, main_while0b_v131, main_while0b_v132, main_while0b_v133, main_while0b_cst_47, main_while0b_v134, main_while0b_v135, main_while0b_v136, main_while0b_cst_48, main_while0b_v137, main_while0b_v138, main_while0b_v139, main_while0b_v140]
/-- The operations write those alone. -/
theorem ang1_writes : (ang1 : List (HloOp τ sig (Elt F))).Forall fun op => op.writes ⊆ (ang1_W.map (Proc.devRef (τ := τ) .tc)).toFinset :=
  StableHlo.forall_writes_sub_of_map rfl

/-- 1 host operations of the reference, in order. -/
abbrev sin1 : List (HloOp τ sig (Elt F)) :=
  [ StableHlo.ternary main_while0b_v117 main_while0b_v114 main_while0b_v139 main_while0b_v141 (select : (⟨S16384, .i1⟩ : BufTy).Contents (Elt F) → (⟨S16384, .f32⟩ : BufTy).Contents (Elt F) → (⟨S16384, .f32⟩ : BufTy).Contents (Elt F) → (⟨S16384, .f32⟩ : BufTy).Contents (Elt F)) ]
/-- Each touches TensorCore references only. -/
theorem sin1_sub : (sin1 : List (HloOp τ sig (Elt F))).Forall fun op => op.bufs ⊆ StableHlo.tcRefs τ sig :=
  StableHlo.ternary_bufs_sub ..
/-- The buffers they write, in order. -/
abbrev sin1_W : List (Ref sig .tc) := [main_while0b_v141]
/-- The operations write those alone. -/
theorem sin1_writes : (sin1 : List (HloOp τ sig (Elt F))).Forall fun op => op.writes ⊆ (sin1_W.map (Proc.devRef (τ := τ) .tc)).toFinset :=
  StableHlo.forall_writes_sub_of_map rfl

/-- 17 host operations of the reference, in order. -/
abbrev mul1 : List (HloOp τ sig (Elt F)) :=
  [ StableHlo.unary main_while0b_v140 main_while0b_v142 (broadcastInDim S16384x1x1 ![0] bcast_S16384_S16384x1x1_0 : (⟨S16384, .f32⟩ : BufTy).Contents (Elt F) → (⟨S16384x1x1, .f32⟩ : BufTy).Contents (Elt F)),
    StableHlo.unary main_v49_1 main_while0b_v143 (broadcastInDim S1x3x3 ![1, 2] bcast_S3x3_S1x3x3_1_2 : (⟨S3x3, .f32⟩ : BufTy).Contents (Elt F) → (⟨S1x3x3, .f32⟩ : BufTy).Contents (Elt F)),
    StableHlo.unary main_while0b_v142 main_while0b_v144 (broadcastInDim S16384x3x3 ![0, 1, 2] bcast_S16384x1x1_S16384x3x3_0_1_2 : (⟨S16384x1x1, .f32⟩ : BufTy).Contents (Elt F) → (⟨S16384x3x3, .f32⟩ : BufTy).Contents (Elt F)),
    StableHlo.unary main_while0b_v143 main_while0b_v145 (broadcastInDim S16384x3x3 ![0, 1, 2] bcast_S1x3x3_S16384x3x3_0_1_2 : (⟨S1x3x3, .f32⟩ : BufTy).Contents (Elt F) → (⟨S16384x3x3, .f32⟩ : BufTy).Contents (Elt F)),
    StableHlo.binary main_while0b_v144 main_while0b_v145 main_while0b_v146 (mulf : (⟨S16384x3x3, .f32⟩ : BufTy).Contents (Elt F) → (⟨S16384x3x3, .f32⟩ : BufTy).Contents (Elt F) → (⟨S16384x3x3, .f32⟩ : BufTy).Contents (Elt F)),
    StableHlo.unary main_while0b_v141 main_while0b_v147 (broadcastInDim S16384x1x1 ![0] bcast_S16384_S16384x1x1_0 : (⟨S16384, .f32⟩ : BufTy).Contents (Elt F) → (⟨S16384x1x1, .f32⟩ : BufTy).Contents (Elt F)),
    StableHlo.unary main_v49_2 main_while0b_v148 (broadcastInDim S1x3x3 ![1, 2] bcast_S3x3_S1x3x3_1_2 : (⟨S3x3, .f32⟩ : BufTy).Contents (Elt F) → (⟨S1x3x3, .f32⟩ : BufTy).Contents (Elt F)),
    StableHlo.unary main_while0b_v147 main_while0b_v149 (broadcastInDim S16384x3x3 ![0, 1, 2] bcast_S16384x1x1_S16384x3x3_0_1_2 : (⟨S16384x1x1, .f32⟩ : BufTy).Contents (Elt F) → (⟨S16384x3x3, .f32⟩ : BufTy).Contents (Elt F)),
    StableHlo.unary main_while0b_v148 main_while0b_v150 (broadcastInDim S16384x3x3 ![0, 1, 2] bcast_S1x3x3_S16384x3x3_0_1_2 : (⟨S1x3x3, .f32⟩ : BufTy).Contents (Elt F) → (⟨S16384x3x3, .f32⟩ : BufTy).Contents (Elt F)),
    StableHlo.binary main_while0b_v149 main_while0b_v150 main_while0b_v151 (mulf : (⟨S16384x3x3, .f32⟩ : BufTy).Contents (Elt F) → (⟨S16384x3x3, .f32⟩ : BufTy).Contents (Elt F) → (⟨S16384x3x3, .f32⟩ : BufTy).Contents (Elt F)),
    StableHlo.binary main_while0b_v146 main_while0b_v151 main_while0b_v152 (addf : (⟨S16384x3x3, .f32⟩ : BufTy).Contents (Elt F) → (⟨S16384x3x3, .f32⟩ : BufTy).Contents (Elt F) → (⟨S16384x3x3, .f32⟩ : BufTy).Contents (Elt F)),
    StableHlo.unary main_v49_3 main_while0b_v153 (broadcastInDim S1x3x3 ![1, 2] bcast_S3x3_S1x3x3_1_2 : (⟨S3x3, .f32⟩ : BufTy).Contents (Elt F) → (⟨S1x3x3, .f32⟩ : BufTy).Contents (Elt F)),
    StableHlo.unary main_while0b_v153 main_while0b_v154 (broadcastInDim S16384x3x3 ![0, 1, 2] bcast_S1x3x3_S16384x3x3_0_1_2 : (⟨S1x3x3, .f32⟩ : BufTy).Contents (Elt F) → (⟨S16384x3x3, .f32⟩ : BufTy).Contents (Elt F)),
    StableHlo.binary main_while0b_v152 main_while0b_v154 main_while0b_v155 (addf : (⟨S16384x3x3, .f32⟩ : BufTy).Contents (Elt F) → (⟨S16384x3x3, .f32⟩ : BufTy).Contents (Elt F) → (⟨S16384x3x3, .f32⟩ : BufTy).Contents (Elt F)),
    StableHlo.binary main_while0b_v155 main_v49_12 main_while0b_v156 ((fun l r => Host.dotGeneral dot_S16384x3x3_S16384x3x3_S16384x3x3_1_1_2_2_0_0 none l r) : (⟨S16384x3x3, .f32⟩ : BufTy).Contents (Elt F) → (⟨S16384x3x3, .f32⟩ : BufTy).Contents (Elt F) → (⟨S16384x3x3, .f32⟩ : BufTy).Contents (Elt F)),
    StableHlo.binary main_while0b_v156 main_while0b_v155 main_while0b_v157 ((fun l r => Host.dotGeneral dot_S16384x3x3_S16384x3x3_S16384x3x3_2_1_1_2_0_0 none l r) : (⟨S16384x3x3, .f32⟩ : BufTy).Contents (Elt F) → (⟨S16384x3x3, .f32⟩ : BufTy).Contents (Elt F) → (⟨S16384x3x3, .f32⟩ : BufTy).Contents (Elt F)),
    StableHlo.binary main_v49_13 main_while0b_v155 main_while0b_v158 ((fun l r => Host.dotGeneral dot_S16384x3x3_S16384x3x3_S16384x3x3_2_1_1_2_0_0 none l r) : (⟨S16384x3x3, .f32⟩ : BufTy).Contents (Elt F) → (⟨S16384x3x3, .f32⟩ : BufTy).Contents (Elt F) → (⟨S16384x3x3, .f32⟩ : BufTy).Contents (Elt F)) ]
/-- Each touches TensorCore references only. -/
theorem mul1_sub : (mul1 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.binary_bufs_sub ..⟩
/-- The buffers they write, in order. -/
abbrev mul1_W : List (Ref sig .tc) := [main_while0b_v142, main_while0b_v143, main_while0b_v144, main_while0b_v145, main_while0b_v146, main_while0b_v147, main_while0b_v148, main_while0b_v149, main_while0b_v150, main_while0b_v151, main_while0b_v152, main_while0b_v153, main_while0b_v154, main_while0b_v155, main_while0b_v156, main_while0b_v157, main_while0b_v158]
/-- The operations write those alone. -/
theorem mul1_writes : (mul1 : List (HloOp τ sig (Elt F))).Forall fun op => op.writes ⊆ (mul1_W.map (Proc.devRef (τ := τ) .tc)).toFinset :=
  StableHlo.forall_writes_sub_of_map rfl

/-- 42 host operations of the reference, in order. -/
abbrev ang2 : List (HloOp τ sig (Elt F)) :=
  [ StableHlo.unary main_while0b_v157 main_while0b_v159 ((extractStridedSlice S16384x1x1 ![0, 1, 1] · slices_S16384x3x3_S16384x1x1_0_1_1) : (⟨S16384x3x3, .f32⟩ : BufTy).Contents (Elt F) → (⟨S16384x1x1, .f32⟩ : BufTy).Contents (Elt F)),
    StableHlo.reshape main_while0b_v159 main_while0b_v160 (rfl : (.f32 : EltTy) = .f32) shapeCasts_S16384x1x1_S16384,
    StableHlo.unary main_while0b_v157 main_while0b_v161 ((extractStridedSlice S16384x1x1 ![0, 2, 2] · slices_S16384x3x3_S16384x1x1_0_2_2) : (⟨S16384x3x3, .f32⟩ : BufTy).Contents (Elt F) → (⟨S16384x1x1, .f32⟩ : BufTy).Contents (Elt F)),
    StableHlo.reshape main_while0b_v161 main_while0b_v162 (rfl : (.f32 : EltTy) = .f32) shapeCasts_S16384x1x1_S16384,
    StableHlo.unary main_while0b_v157 main_while0b_v163 ((extractStridedSlice S16384x1x1 ![0, 1, 2] · slices_S16384x3x3_S16384x1x1_0_1_2) : (⟨S16384x3x3, .f32⟩ : BufTy).Contents (Elt F) → (⟨S16384x1x1, .f32⟩ : BufTy).Contents (Elt F)),
    StableHlo.reshape main_while0b_v163 main_while0b_v164 (rfl : (.f32 : EltTy) = .f32) shapeCasts_S16384x1x1_S16384,
    StableHlo.nullary main_while0b_cst_49 (constant S_ .f32 0x3F800000#32),
    StableHlo.unary main_while0b_cst_49 main_while0b_v165 (broadcastInDim S16384 ![] bcast_S_S16384 : (⟨S_, .f32⟩ : BufTy).Contents (Elt F) → (⟨S16384, .f32⟩ : BufTy).Contents (Elt F)),
    StableHlo.nullary main_while0b_cst_50 (constant S_ .f32 0x00000000#32),
    StableHlo.unary main_while0b_cst_50 main_while0b_v166 (broadcastInDim S16384 ![] bcast_S_S16384 : (⟨S_, .f32⟩ : BufTy).Contents (Elt F) → (⟨S16384, .f32⟩ : BufTy).Contents (Elt F)),
    StableHlo.nullary main_while0b_cst_51 (constant S_ .f32 0x00000000#32),
    StableHlo.unary main_while0b_cst_51 main_while0b_v167 (broadcastInDim S16384 ![] bcast_S_S16384 : (⟨S_, .f32⟩ : BufTy).Contents (Elt F) → (⟨S16384, .f32⟩ : BufTy).Contents (Elt F)),
    StableHlo.binary main_while0b_v164 main_while0b_v167 main_while0b_v168 (cmpf .oeq : (⟨S16384, .f32⟩ : BufTy).Contents (Elt F) → (⟨S16384, .f32⟩ : BufTy).Contents (Elt F) → (⟨S16384, .i1⟩ : BufTy).Contents (Elt F)),
    StableHlo.binary main_while0b_v106 main_while0b_v168 main_while0b_v169 (ori : (⟨S16384, .i1⟩ : BufTy).Contents (Elt F) → (⟨S16384, .i1⟩ : BufTy).Contents (Elt F) → (⟨S16384, .i1⟩ : BufTy).Contents (Elt F)),
    StableHlo.binary main_while0b_v162 main_while0b_v160 main_while0b_v170 (subf : (⟨S16384, .f32⟩ : BufTy).Contents (Elt F) → (⟨S16384, .f32⟩ : BufTy).Contents (Elt F) → (⟨S16384, .f32⟩ : BufTy).Contents (Elt F)),
    StableHlo.nullary main_while0b_cst_52 (constant S_ .f32 0x40000000#32),
    StableHlo.unary main_while0b_cst_52 main_while0b_v171 (broadcastInDim S16384 ![] bcast_S_S16384 : (⟨S_, .f32⟩ : BufTy).Contents (Elt F) → (⟨S16384, .f32⟩ : BufTy).Contents (Elt F)),
    StableHlo.binary main_while0b_v171 main_while0b_v164 main_while0b_v172 (mulf : (⟨S16384, .f32⟩ : BufTy).Contents (Elt F) → (⟨S16384, .f32⟩ : BufTy).Contents (Elt F) → (⟨S16384, .f32⟩ : BufTy).Contents (Elt F)),
    StableHlo.binary main_while0b_v170 main_while0b_v172 main_while0b_v173 (Host.divf : (⟨S16384, .f32⟩ : BufTy).Contents (Elt F) → (⟨S16384, .f32⟩ : BufTy).Contents (Elt F) → (⟨S16384, .f32⟩ : BufTy).Contents (Elt F)),
    StableHlo.nullary main_while0b_cst_53 (constant S_ .f32 0x00000000#32),
    StableHlo.unary main_while0b_cst_53 main_while0b_v174 (broadcastInDim S16384 ![] bcast_S_S16384 : (⟨S_, .f32⟩ : BufTy).Contents (Elt F) → (⟨S16384, .f32⟩ : BufTy).Contents (Elt F)),
    StableHlo.binary main_while0b_v173 main_while0b_v174 main_while0b_v175 (cmpf .oge : (⟨S16384, .f32⟩ : BufTy).Contents (Elt F) → (⟨S16384, .f32⟩ : BufTy).Contents (Elt F) → (⟨S16384, .i1⟩ : BufTy).Contents (Elt F)),
    StableHlo.unary main_while0b_v165 main_while0b_v176 (Host.negf : (⟨S16384, .f32⟩ : BufTy).Contents (Elt F) → (⟨S16384, .f32⟩ : BufTy).Contents (Elt F)),
    StableHlo.ternary main_while0b_v175 main_while0b_v165 main_while0b_v176 main_while0b_v177 (select : (⟨S16384, .i1⟩ : BufTy).Contents (Elt F) → (⟨S16384, .f32⟩ : BufTy).Contents (Elt F) → (⟨S16384, .f32⟩ : BufTy).Contents (Elt F) → (⟨S16384, .f32⟩ : BufTy).Contents (Elt F)),
    StableHlo.unary main_while0b_v173 main_while0b_v178 (Host.absf : (⟨S16384, .f32⟩ : BufTy).Contents (Elt F) → (⟨S16384, .f32⟩ : BufTy).Contents (Elt F)),
    StableHlo.binary main_while0b_v173 main_while0b_v173 main_while0b_v179 (mulf : (⟨S16384, .f32⟩ : BufTy).Contents (Elt F) → (⟨S16384, .f32⟩ : BufTy).Contents (Elt F) → (⟨S16384, .f32⟩ : BufTy).Contents (Elt F)),
    StableHlo.nullary main_while0b_cst_54 (constant S_ .f32 0x3F800000#32),
    StableHlo.unary main_while0b_cst_54 main_while0b_v180 (broadcastInDim S16384 ![] bcast_S_S16384 : (⟨S_, .f32⟩ : BufTy).Contents (Elt F) → (⟨S16384, .f32⟩ : BufTy).Contents (Elt F)),
    StableHlo.binary main_while0b_v180 main_while0b_v179 main_while0b_v181 (addf : (⟨S16384, .f32⟩ : BufTy).Contents (Elt F) → (⟨S16384, .f32⟩ : BufTy).Contents (Elt F) → (⟨S16384, .f32⟩ : BufTy).Contents (Elt F)),
    StableHlo.unary main_while0b_v181 main_while0b_v182 (Host.sqrt : (⟨S16384, .f32⟩ : BufTy).Contents (Elt F) → (⟨S16384, .f32⟩ : BufTy).Contents (Elt F)),
    StableHlo.binary main_while0b_v178 main_while0b_v182 main_while0b_v183 (addf : (⟨S16384, .f32⟩ : BufTy).Contents (Elt F) → (⟨S16384, .f32⟩ : BufTy).Contents (Elt F) → (⟨S16384, .f32⟩ : BufTy).Contents (Elt F)),
    StableHlo.binary main_while0b_v177 main_while0b_v183 main_while0b_v184 (Host.divf : (⟨S16384, .f32⟩ : BufTy).Contents (Elt F) → (⟨S16384, .f32⟩ : BufTy).Contents (Elt F) → (⟨S16384, .f32⟩ : BufTy).Contents (Elt F)),
    StableHlo.binary main_while0b_v184 main_while0b_v184 main_while0b_v185 (mulf : (⟨S16384, .f32⟩ : BufTy).Contents (Elt F) → (⟨S16384, .f32⟩ : BufTy).Contents (Elt F) → (⟨S16384, .f32⟩ : BufTy).Contents (Elt F)),
    StableHlo.nullary main_while0b_cst_55 (constant S_ .f32 0x3F800000#32),
    StableHlo.unary main_while0b_cst_55 main_while0b_v186 (broadcastInDim S16384 ![] bcast_S_S16384 : (⟨S_, .f32⟩ : BufTy).Contents (Elt F) → (⟨S16384, .f32⟩ : BufTy).Contents (Elt F)),
    StableHlo.binary main_while0b_v186 main_while0b_v185 main_while0b_v187 (addf : (⟨S16384, .f32⟩ : BufTy).Contents (Elt F) → (⟨S16384, .f32⟩ : BufTy).Contents (Elt F) → (⟨S16384, .f32⟩ : BufTy).Contents (Elt F)),
    StableHlo.unary main_while0b_v187 main_while0b_v188 (Host.sqrt : (⟨S16384, .f32⟩ : BufTy).Contents (Elt F) → (⟨S16384, .f32⟩ : BufTy).Contents (Elt F)),
    StableHlo.nullary main_while0b_cst_56 (constant S_ .f32 0x3F800000#32),
    StableHlo.unary main_while0b_cst_56 main_while0b_v189 (broadcastInDim S16384 ![] bcast_S_S16384 : (⟨S_, .f32⟩ : BufTy).Contents (Elt F) → (⟨S16384, .f32⟩ : BufTy).Contents (Elt F)),
    StableHlo.binary main_while0b_v189 main_while0b_v188 main_while0b_v190 (Host.divf : (⟨S16384, .f32⟩ : BufTy).Contents (Elt F) → (⟨S16384, .f32⟩ : BufTy).Contents (Elt F) → (⟨S16384, .f32⟩ : BufTy).Contents (Elt F)),
    StableHlo.binary main_while0b_v184 main_while0b_v190 main_while0b_v191 (mulf : (⟨S16384, .f32⟩ : BufTy).Contents (Elt F) → (⟨S16384, .f32⟩ : BufTy).Contents (Elt F) → (⟨S16384, .f32⟩ : BufTy).Contents (Elt F)),
    StableHlo.ternary main_while0b_v169 main_while0b_v165 main_while0b_v190 main_while0b_v192 (select : (⟨S16384, .i1⟩ : BufTy).Contents (Elt F) → (⟨S16384, .f32⟩ : BufTy).Contents (Elt F) → (⟨S16384, .f32⟩ : BufTy).Contents (Elt F) → (⟨S16384, .f32⟩ : BufTy).Contents (Elt F)) ]
/-- Each touches TensorCore references only. -/
theorem ang2_sub : (ang2 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.ternary_bufs_sub ..⟩
/-- The buffers they write, in order. -/
abbrev ang2_W : List (Ref sig .tc) := [main_while0b_v159, main_while0b_v160, main_while0b_v161, main_while0b_v162, main_while0b_v163, main_while0b_v164, main_while0b_cst_49, main_while0b_v165, main_while0b_cst_50, main_while0b_v166, main_while0b_cst_51, main_while0b_v167, main_while0b_v168, main_while0b_v169, main_while0b_v170, main_while0b_cst_52, main_while0b_v171, main_while0b_v172, main_while0b_v173, main_while0b_cst_53, main_while0b_v174, main_while0b_v175, main_while0b_v176, main_while0b_v177, main_while0b_v178, main_while0b_v179, main_while0b_cst_54, main_while0b_v180, main_while0b_v181, main_while0b_v182, main_while0b_v183, main_while0b_v184, main_while0b_v185, main_while0b_cst_55, main_while0b_v186, main_while0b_v187, main_while0b_v188, main_while0b_cst_56, main_while0b_v189, main_while0b_v190, main_while0b_v191, main_while0b_v192]
/-- The operations write those alone. -/
theorem ang2_writes : (ang2 : List (HloOp τ sig (Elt F))).Forall fun op => op.writes ⊆ (ang2_W.map (Proc.devRef (τ := τ) .tc)).toFinset :=
  StableHlo.forall_writes_sub_of_map rfl

/-- 1 host operations of the reference, in order. -/
abbrev sin2 : List (HloOp τ sig (Elt F)) :=
  [ StableHlo.ternary main_while0b_v169 main_while0b_v166 main_while0b_v191 main_while0b_v193 (select : (⟨S16384, .i1⟩ : BufTy).Contents (Elt F) → (⟨S16384, .f32⟩ : BufTy).Contents (Elt F) → (⟨S16384, .f32⟩ : BufTy).Contents (Elt F) → (⟨S16384, .f32⟩ : BufTy).Contents (Elt F)) ]
/-- Each touches TensorCore references only. -/
theorem sin2_sub : (sin2 : List (HloOp τ sig (Elt F))).Forall fun op => op.bufs ⊆ StableHlo.tcRefs τ sig :=
  StableHlo.ternary_bufs_sub ..
/-- The buffers they write, in order. -/
abbrev sin2_W : List (Ref sig .tc) := [main_while0b_v193]
/-- The operations write those alone. -/
theorem sin2_writes : (sin2 : List (HloOp τ sig (Elt F))).Forall fun op => op.writes ⊆ (sin2_W.map (Proc.devRef (τ := τ) .tc)).toFinset :=
  StableHlo.forall_writes_sub_of_map rfl

/-- 17 host operations of the reference, in order. -/
abbrev mul2 : List (HloOp τ sig (Elt F)) :=
  [ StableHlo.unary main_while0b_v192 main_while0b_v194 (broadcastInDim S16384x1x1 ![0] bcast_S16384_S16384x1x1_0 : (⟨S16384, .f32⟩ : BufTy).Contents (Elt F) → (⟨S16384x1x1, .f32⟩ : BufTy).Contents (Elt F)),
    StableHlo.unary main_v49_4 main_while0b_v195 (broadcastInDim S1x3x3 ![1, 2] bcast_S3x3_S1x3x3_1_2 : (⟨S3x3, .f32⟩ : BufTy).Contents (Elt F) → (⟨S1x3x3, .f32⟩ : BufTy).Contents (Elt F)),
    StableHlo.unary main_while0b_v194 main_while0b_v196 (broadcastInDim S16384x3x3 ![0, 1, 2] bcast_S16384x1x1_S16384x3x3_0_1_2 : (⟨S16384x1x1, .f32⟩ : BufTy).Contents (Elt F) → (⟨S16384x3x3, .f32⟩ : BufTy).Contents (Elt F)),
    StableHlo.unary main_while0b_v195 main_while0b_v197 (broadcastInDim S16384x3x3 ![0, 1, 2] bcast_S1x3x3_S16384x3x3_0_1_2 : (⟨S1x3x3, .f32⟩ : BufTy).Contents (Elt F) → (⟨S16384x3x3, .f32⟩ : BufTy).Contents (Elt F)),
    StableHlo.binary main_while0b_v196 main_while0b_v197 main_while0b_v198 (mulf : (⟨S16384x3x3, .f32⟩ : BufTy).Contents (Elt F) → (⟨S16384x3x3, .f32⟩ : BufTy).Contents (Elt F) → (⟨S16384x3x3, .f32⟩ : BufTy).Contents (Elt F)),
    StableHlo.unary main_while0b_v193 main_while0b_v199 (broadcastInDim S16384x1x1 ![0] bcast_S16384_S16384x1x1_0 : (⟨S16384, .f32⟩ : BufTy).Contents (Elt F) → (⟨S16384x1x1, .f32⟩ : BufTy).Contents (Elt F)),
    StableHlo.unary main_v49_5 main_while0b_v200 (broadcastInDim S1x3x3 ![1, 2] bcast_S3x3_S1x3x3_1_2 : (⟨S3x3, .f32⟩ : BufTy).Contents (Elt F) → (⟨S1x3x3, .f32⟩ : BufTy).Contents (Elt F)),
    StableHlo.unary main_while0b_v199 main_while0b_v201 (broadcastInDim S16384x3x3 ![0, 1, 2] bcast_S16384x1x1_S16384x3x3_0_1_2 : (⟨S16384x1x1, .f32⟩ : BufTy).Contents (Elt F) → (⟨S16384x3x3, .f32⟩ : BufTy).Contents (Elt F)),
    StableHlo.unary main_while0b_v200 main_while0b_v202 (broadcastInDim S16384x3x3 ![0, 1, 2] bcast_S1x3x3_S16384x3x3_0_1_2 : (⟨S1x3x3, .f32⟩ : BufTy).Contents (Elt F) → (⟨S16384x3x3, .f32⟩ : BufTy).Contents (Elt F)),
    StableHlo.binary main_while0b_v201 main_while0b_v202 main_while0b_v203 (mulf : (⟨S16384x3x3, .f32⟩ : BufTy).Contents (Elt F) → (⟨S16384x3x3, .f32⟩ : BufTy).Contents (Elt F) → (⟨S16384x3x3, .f32⟩ : BufTy).Contents (Elt F)),
    StableHlo.binary main_while0b_v198 main_while0b_v203 main_while0b_v204 (addf : (⟨S16384x3x3, .f32⟩ : BufTy).Contents (Elt F) → (⟨S16384x3x3, .f32⟩ : BufTy).Contents (Elt F) → (⟨S16384x3x3, .f32⟩ : BufTy).Contents (Elt F)),
    StableHlo.unary main_v49_6 main_while0b_v205 (broadcastInDim S1x3x3 ![1, 2] bcast_S3x3_S1x3x3_1_2 : (⟨S3x3, .f32⟩ : BufTy).Contents (Elt F) → (⟨S1x3x3, .f32⟩ : BufTy).Contents (Elt F)),
    StableHlo.unary main_while0b_v205 main_while0b_v206 (broadcastInDim S16384x3x3 ![0, 1, 2] bcast_S1x3x3_S16384x3x3_0_1_2 : (⟨S1x3x3, .f32⟩ : BufTy).Contents (Elt F) → (⟨S16384x3x3, .f32⟩ : BufTy).Contents (Elt F)),
    StableHlo.binary main_while0b_v204 main_while0b_v206 main_while0b_v207 (addf : (⟨S16384x3x3, .f32⟩ : BufTy).Contents (Elt F) → (⟨S16384x3x3, .f32⟩ : BufTy).Contents (Elt F) → (⟨S16384x3x3, .f32⟩ : BufTy).Contents (Elt F)),
    StableHlo.binary main_while0b_v207 main_while0b_v157 main_while0b_v208 ((fun l r => Host.dotGeneral dot_S16384x3x3_S16384x3x3_S16384x3x3_1_1_2_2_0_0 none l r) : (⟨S16384x3x3, .f32⟩ : BufTy).Contents (Elt F) → (⟨S16384x3x3, .f32⟩ : BufTy).Contents (Elt F) → (⟨S16384x3x3, .f32⟩ : BufTy).Contents (Elt F)),
    StableHlo.binary main_while0b_v208 main_while0b_v207 main_while0b_v209 ((fun l r => Host.dotGeneral dot_S16384x3x3_S16384x3x3_S16384x3x3_2_1_1_2_0_0 none l r) : (⟨S16384x3x3, .f32⟩ : BufTy).Contents (Elt F) → (⟨S16384x3x3, .f32⟩ : BufTy).Contents (Elt F) → (⟨S16384x3x3, .f32⟩ : BufTy).Contents (Elt F)),
    StableHlo.binary main_while0b_v158 main_while0b_v207 main_while0b_v210 ((fun l r => Host.dotGeneral dot_S16384x3x3_S16384x3x3_S16384x3x3_2_1_1_2_0_0 none l r) : (⟨S16384x3x3, .f32⟩ : BufTy).Contents (Elt F) → (⟨S16384x3x3, .f32⟩ : BufTy).Contents (Elt F) → (⟨S16384x3x3, .f32⟩ : BufTy).Contents (Elt F)) ]
/-- Each touches TensorCore references only. -/
theorem mul2_sub : (mul2 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.binary_bufs_sub ..⟩
/-- The buffers they write, in order. -/
abbrev mul2_W : List (Ref sig .tc) := [main_while0b_v194, main_while0b_v195, main_while0b_v196, main_while0b_v197, main_while0b_v198, main_while0b_v199, main_while0b_v200, main_while0b_v201, main_while0b_v202, main_while0b_v203, main_while0b_v204, main_while0b_v205, main_while0b_v206, main_while0b_v207, main_while0b_v208, main_while0b_v209, main_while0b_v210]
/-- The operations write those alone. -/
theorem mul2_writes : (mul2 : List (HloOp τ sig (Elt F))).Forall fun op => op.writes ⊆ (mul2_W.map (Proc.devRef (τ := τ) .tc)).toFinset :=
  StableHlo.forall_writes_sub_of_map rfl

/-- 42 host operations of the reference, in order. -/
abbrev ang3 : List (HloOp τ sig (Elt F)) :=
  [ StableHlo.unary main_while0b_v209 main_while0b_v211 ((extractStridedSlice S16384x1x1 ![0, 0, 0] · slices_S16384x3x3_S16384x1x1_0_0_0) : (⟨S16384x3x3, .f32⟩ : BufTy).Contents (Elt F) → (⟨S16384x1x1, .f32⟩ : BufTy).Contents (Elt F)),
    StableHlo.reshape main_while0b_v211 main_while0b_v212 (rfl : (.f32 : EltTy) = .f32) shapeCasts_S16384x1x1_S16384,
    StableHlo.unary main_while0b_v209 main_while0b_v213 ((extractStridedSlice S16384x1x1 ![0, 1, 1] · slices_S16384x3x3_S16384x1x1_0_1_1) : (⟨S16384x3x3, .f32⟩ : BufTy).Contents (Elt F) → (⟨S16384x1x1, .f32⟩ : BufTy).Contents (Elt F)),
    StableHlo.reshape main_while0b_v213 main_while0b_v214 (rfl : (.f32 : EltTy) = .f32) shapeCasts_S16384x1x1_S16384,
    StableHlo.unary main_while0b_v209 main_while0b_v215 ((extractStridedSlice S16384x1x1 ![0, 0, 1] · slices_S16384x3x3_S16384x1x1_0_0_1) : (⟨S16384x3x3, .f32⟩ : BufTy).Contents (Elt F) → (⟨S16384x1x1, .f32⟩ : BufTy).Contents (Elt F)),
    StableHlo.reshape main_while0b_v215 main_while0b_v216 (rfl : (.f32 : EltTy) = .f32) shapeCasts_S16384x1x1_S16384,
    StableHlo.nullary main_while0b_cst_57 (constant S_ .f32 0x3F800000#32),
    StableHlo.unary main_while0b_cst_57 main_while0b_v217 (broadcastInDim S16384 ![] bcast_S_S16384 : (⟨S_, .f32⟩ : BufTy).Contents (Elt F) → (⟨S16384, .f32⟩ : BufTy).Contents (Elt F)),
    StableHlo.nullary main_while0b_cst_58 (constant S_ .f32 0x00000000#32),
    StableHlo.unary main_while0b_cst_58 main_while0b_v218 (broadcastInDim S16384 ![] bcast_S_S16384 : (⟨S_, .f32⟩ : BufTy).Contents (Elt F) → (⟨S16384, .f32⟩ : BufTy).Contents (Elt F)),
    StableHlo.nullary main_while0b_cst_59 (constant S_ .f32 0x00000000#32),
    StableHlo.unary main_while0b_cst_59 main_while0b_v219 (broadcastInDim S16384 ![] bcast_S_S16384 : (⟨S_, .f32⟩ : BufTy).Contents (Elt F) → (⟨S16384, .f32⟩ : BufTy).Contents (Elt F)),
    StableHlo.binary main_while0b_v216 main_while0b_v219 main_while0b_v220 (cmpf .oeq : (⟨S16384, .f32⟩ : BufTy).Contents (Elt F) → (⟨S16384, .f32⟩ : BufTy).Contents (Elt F) → (⟨S16384, .i1⟩ : BufTy).Contents (Elt F)),
    StableHlo.binary main_while0b_v106 main_while0b_v220 main_while0b_v221 (ori : (⟨S16384, .i1⟩ : BufTy).Contents (Elt F) → (⟨S16384, .i1⟩ : BufTy).Contents (Elt F) → (⟨S16384, .i1⟩ : BufTy).Contents (Elt F)),
    StableHlo.binary main_while0b_v214 main_while0b_v212 main_while0b_v222 (subf : (⟨S16384, .f32⟩ : BufTy).Contents (Elt F) → (⟨S16384, .f32⟩ : BufTy).Contents (Elt F) → (⟨S16384, .f32⟩ : BufTy).Contents (Elt F)),
    StableHlo.nullary main_while0b_cst_60 (constant S_ .f32 0x40000000#32),
    StableHlo.unary main_while0b_cst_60 main_while0b_v223 (broadcastInDim S16384 ![] bcast_S_S16384 : (⟨S_, .f32⟩ : BufTy).Contents (Elt F) → (⟨S16384, .f32⟩ : BufTy).Contents (Elt F)),
    StableHlo.binary main_while0b_v223 main_while0b_v216 main_while0b_v224 (mulf : (⟨S16384, .f32⟩ : BufTy).Contents (Elt F) → (⟨S16384, .f32⟩ : BufTy).Contents (Elt F) → (⟨S16384, .f32⟩ : BufTy).Contents (Elt F)),
    StableHlo.binary main_while0b_v222 main_while0b_v224 main_while0b_v225 (Host.divf : (⟨S16384, .f32⟩ : BufTy).Contents (Elt F) → (⟨S16384, .f32⟩ : BufTy).Contents (Elt F) → (⟨S16384, .f32⟩ : BufTy).Contents (Elt F)),
    StableHlo.nullary main_while0b_cst_61 (constant S_ .f32 0x00000000#32),
    StableHlo.unary main_while0b_cst_61 main_while0b_v226 (broadcastInDim S16384 ![] bcast_S_S16384 : (⟨S_, .f32⟩ : BufTy).Contents (Elt F) → (⟨S16384, .f32⟩ : BufTy).Contents (Elt F)),
    StableHlo.binary main_while0b_v225 main_while0b_v226 main_while0b_v227 (cmpf .oge : (⟨S16384, .f32⟩ : BufTy).Contents (Elt F) → (⟨S16384, .f32⟩ : BufTy).Contents (Elt F) → (⟨S16384, .i1⟩ : BufTy).Contents (Elt F)),
    StableHlo.unary main_while0b_v217 main_while0b_v228 (Host.negf : (⟨S16384, .f32⟩ : BufTy).Contents (Elt F) → (⟨S16384, .f32⟩ : BufTy).Contents (Elt F)),
    StableHlo.ternary main_while0b_v227 main_while0b_v217 main_while0b_v228 main_while0b_v229 (select : (⟨S16384, .i1⟩ : BufTy).Contents (Elt F) → (⟨S16384, .f32⟩ : BufTy).Contents (Elt F) → (⟨S16384, .f32⟩ : BufTy).Contents (Elt F) → (⟨S16384, .f32⟩ : BufTy).Contents (Elt F)),
    StableHlo.unary main_while0b_v225 main_while0b_v230 (Host.absf : (⟨S16384, .f32⟩ : BufTy).Contents (Elt F) → (⟨S16384, .f32⟩ : BufTy).Contents (Elt F)),
    StableHlo.binary main_while0b_v225 main_while0b_v225 main_while0b_v231 (mulf : (⟨S16384, .f32⟩ : BufTy).Contents (Elt F) → (⟨S16384, .f32⟩ : BufTy).Contents (Elt F) → (⟨S16384, .f32⟩ : BufTy).Contents (Elt F)),
    StableHlo.nullary main_while0b_cst_62 (constant S_ .f32 0x3F800000#32),
    StableHlo.unary main_while0b_cst_62 main_while0b_v232 (broadcastInDim S16384 ![] bcast_S_S16384 : (⟨S_, .f32⟩ : BufTy).Contents (Elt F) → (⟨S16384, .f32⟩ : BufTy).Contents (Elt F)),
    StableHlo.binary main_while0b_v232 main_while0b_v231 main_while0b_v233 (addf : (⟨S16384, .f32⟩ : BufTy).Contents (Elt F) → (⟨S16384, .f32⟩ : BufTy).Contents (Elt F) → (⟨S16384, .f32⟩ : BufTy).Contents (Elt F)),
    StableHlo.unary main_while0b_v233 main_while0b_v234 (Host.sqrt : (⟨S16384, .f32⟩ : BufTy).Contents (Elt F) → (⟨S16384, .f32⟩ : BufTy).Contents (Elt F)),
    StableHlo.binary main_while0b_v230 main_while0b_v234 main_while0b_v235 (addf : (⟨S16384, .f32⟩ : BufTy).Contents (Elt F) → (⟨S16384, .f32⟩ : BufTy).Contents (Elt F) → (⟨S16384, .f32⟩ : BufTy).Contents (Elt F)),
    StableHlo.binary main_while0b_v229 main_while0b_v235 main_while0b_v236 (Host.divf : (⟨S16384, .f32⟩ : BufTy).Contents (Elt F) → (⟨S16384, .f32⟩ : BufTy).Contents (Elt F) → (⟨S16384, .f32⟩ : BufTy).Contents (Elt F)),
    StableHlo.binary main_while0b_v236 main_while0b_v236 main_while0b_v237 (mulf : (⟨S16384, .f32⟩ : BufTy).Contents (Elt F) → (⟨S16384, .f32⟩ : BufTy).Contents (Elt F) → (⟨S16384, .f32⟩ : BufTy).Contents (Elt F)),
    StableHlo.nullary main_while0b_cst_63 (constant S_ .f32 0x3F800000#32),
    StableHlo.unary main_while0b_cst_63 main_while0b_v238 (broadcastInDim S16384 ![] bcast_S_S16384 : (⟨S_, .f32⟩ : BufTy).Contents (Elt F) → (⟨S16384, .f32⟩ : BufTy).Contents (Elt F)),
    StableHlo.binary main_while0b_v238 main_while0b_v237 main_while0b_v239 (addf : (⟨S16384, .f32⟩ : BufTy).Contents (Elt F) → (⟨S16384, .f32⟩ : BufTy).Contents (Elt F) → (⟨S16384, .f32⟩ : BufTy).Contents (Elt F)),
    StableHlo.unary main_while0b_v239 main_while0b_v240 (Host.sqrt : (⟨S16384, .f32⟩ : BufTy).Contents (Elt F) → (⟨S16384, .f32⟩ : BufTy).Contents (Elt F)),
    StableHlo.nullary main_while0b_cst_64 (constant S_ .f32 0x3F800000#32),
    StableHlo.unary main_while0b_cst_64 main_while0b_v241 (broadcastInDim S16384 ![] bcast_S_S16384 : (⟨S_, .f32⟩ : BufTy).Contents (Elt F) → (⟨S16384, .f32⟩ : BufTy).Contents (Elt F)),
    StableHlo.binary main_while0b_v241 main_while0b_v240 main_while0b_v242 (Host.divf : (⟨S16384, .f32⟩ : BufTy).Contents (Elt F) → (⟨S16384, .f32⟩ : BufTy).Contents (Elt F) → (⟨S16384, .f32⟩ : BufTy).Contents (Elt F)),
    StableHlo.binary main_while0b_v236 main_while0b_v242 main_while0b_v243 (mulf : (⟨S16384, .f32⟩ : BufTy).Contents (Elt F) → (⟨S16384, .f32⟩ : BufTy).Contents (Elt F) → (⟨S16384, .f32⟩ : BufTy).Contents (Elt F)),
    StableHlo.ternary main_while0b_v221 main_while0b_v217 main_while0b_v242 main_while0b_v244 (select : (⟨S16384, .i1⟩ : BufTy).Contents (Elt F) → (⟨S16384, .f32⟩ : BufTy).Contents (Elt F) → (⟨S16384, .f32⟩ : BufTy).Contents (Elt F) → (⟨S16384, .f32⟩ : BufTy).Contents (Elt F)) ]
/-- Each touches TensorCore references only. -/
theorem ang3_sub : (ang3 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.ternary_bufs_sub ..⟩
/-- The buffers they write, in order. -/
abbrev ang3_W : List (Ref sig .tc) := [main_while0b_v211, main_while0b_v212, main_while0b_v213, main_while0b_v214, main_while0b_v215, main_while0b_v216, main_while0b_cst_57, main_while0b_v217, main_while0b_cst_58, main_while0b_v218, main_while0b_cst_59, main_while0b_v219, main_while0b_v220, main_while0b_v221, main_while0b_v222, main_while0b_cst_60, main_while0b_v223, main_while0b_v224, main_while0b_v225, main_while0b_cst_61, main_while0b_v226, main_while0b_v227, main_while0b_v228, main_while0b_v229, main_while0b_v230, main_while0b_v231, main_while0b_cst_62, main_while0b_v232, main_while0b_v233, main_while0b_v234, main_while0b_v235, main_while0b_v236, main_while0b_v237, main_while0b_cst_63, main_while0b_v238, main_while0b_v239, main_while0b_v240, main_while0b_cst_64, main_while0b_v241, main_while0b_v242, main_while0b_v243, main_while0b_v244]
/-- The operations write those alone. -/
theorem ang3_writes : (ang3 : List (HloOp τ sig (Elt F))).Forall fun op => op.writes ⊆ (ang3_W.map (Proc.devRef (τ := τ) .tc)).toFinset :=
  StableHlo.forall_writes_sub_of_map rfl

/-- 1 host operations of the reference, in order. -/
abbrev sin3 : List (HloOp τ sig (Elt F)) :=
  [ StableHlo.ternary main_while0b_v221 main_while0b_v218 main_while0b_v243 main_while0b_v245 (select : (⟨S16384, .i1⟩ : BufTy).Contents (Elt F) → (⟨S16384, .f32⟩ : BufTy).Contents (Elt F) → (⟨S16384, .f32⟩ : BufTy).Contents (Elt F) → (⟨S16384, .f32⟩ : BufTy).Contents (Elt F)) ]
/-- Each touches TensorCore references only. -/
theorem sin3_sub : (sin3 : List (HloOp τ sig (Elt F))).Forall fun op => op.bufs ⊆ StableHlo.tcRefs τ sig :=
  StableHlo.ternary_bufs_sub ..
/-- The buffers they write, in order. -/
abbrev sin3_W : List (Ref sig .tc) := [main_while0b_v245]
/-- The operations write those alone. -/
theorem sin3_writes : (sin3 : List (HloOp τ sig (Elt F))).Forall fun op => op.writes ⊆ (sin3_W.map (Proc.devRef (τ := τ) .tc)).toFinset :=
  StableHlo.forall_writes_sub_of_map rfl

/-- 17 host operations of the reference, in order. -/
abbrev mul3 : List (HloOp τ sig (Elt F)) :=
  [ StableHlo.unary main_while0b_v244 main_while0b_v246 (broadcastInDim S16384x1x1 ![0] bcast_S16384_S16384x1x1_0 : (⟨S16384, .f32⟩ : BufTy).Contents (Elt F) → (⟨S16384x1x1, .f32⟩ : BufTy).Contents (Elt F)),
    StableHlo.unary main_v49_7 main_while0b_v247 (broadcastInDim S1x3x3 ![1, 2] bcast_S3x3_S1x3x3_1_2 : (⟨S3x3, .f32⟩ : BufTy).Contents (Elt F) → (⟨S1x3x3, .f32⟩ : BufTy).Contents (Elt F)),
    StableHlo.unary main_while0b_v246 main_while0b_v248 (broadcastInDim S16384x3x3 ![0, 1, 2] bcast_S16384x1x1_S16384x3x3_0_1_2 : (⟨S16384x1x1, .f32⟩ : BufTy).Contents (Elt F) → (⟨S16384x3x3, .f32⟩ : BufTy).Contents (Elt F)),
    StableHlo.unary main_while0b_v247 main_while0b_v249 (broadcastInDim S16384x3x3 ![0, 1, 2] bcast_S1x3x3_S16384x3x3_0_1_2 : (⟨S1x3x3, .f32⟩ : BufTy).Contents (Elt F) → (⟨S16384x3x3, .f32⟩ : BufTy).Contents (Elt F)),
    StableHlo.binary main_while0b_v248 main_while0b_v249 main_while0b_v250 (mulf : (⟨S16384x3x3, .f32⟩ : BufTy).Contents (Elt F) → (⟨S16384x3x3, .f32⟩ : BufTy).Contents (Elt F) → (⟨S16384x3x3, .f32⟩ : BufTy).Contents (Elt F)),
    StableHlo.unary main_while0b_v245 main_while0b_v251 (broadcastInDim S16384x1x1 ![0] bcast_S16384_S16384x1x1_0 : (⟨S16384, .f32⟩ : BufTy).Contents (Elt F) → (⟨S16384x1x1, .f32⟩ : BufTy).Contents (Elt F)),
    StableHlo.unary main_v49_8 main_while0b_v252 (broadcastInDim S1x3x3 ![1, 2] bcast_S3x3_S1x3x3_1_2 : (⟨S3x3, .f32⟩ : BufTy).Contents (Elt F) → (⟨S1x3x3, .f32⟩ : BufTy).Contents (Elt F)),
    StableHlo.unary main_while0b_v251 main_while0b_v253 (broadcastInDim S16384x3x3 ![0, 1, 2] bcast_S16384x1x1_S16384x3x3_0_1_2 : (⟨S16384x1x1, .f32⟩ : BufTy).Contents (Elt F) → (⟨S16384x3x3, .f32⟩ : BufTy).Contents (Elt F)),
    StableHlo.unary main_while0b_v252 main_while0b_v254 (broadcastInDim S16384x3x3 ![0, 1, 2] bcast_S1x3x3_S16384x3x3_0_1_2 : (⟨S1x3x3, .f32⟩ : BufTy).Contents (Elt F) → (⟨S16384x3x3, .f32⟩ : BufTy).Contents (Elt F)),
    StableHlo.binary main_while0b_v253 main_while0b_v254 main_while0b_v255 (mulf : (⟨S16384x3x3, .f32⟩ : BufTy).Contents (Elt F) → (⟨S16384x3x3, .f32⟩ : BufTy).Contents (Elt F) → (⟨S16384x3x3, .f32⟩ : BufTy).Contents (Elt F)),
    StableHlo.binary main_while0b_v250 main_while0b_v255 main_while0b_v256 (addf : (⟨S16384x3x3, .f32⟩ : BufTy).Contents (Elt F) → (⟨S16384x3x3, .f32⟩ : BufTy).Contents (Elt F) → (⟨S16384x3x3, .f32⟩ : BufTy).Contents (Elt F)),
    StableHlo.unary main_v49_9 main_while0b_v257 (broadcastInDim S1x3x3 ![1, 2] bcast_S3x3_S1x3x3_1_2 : (⟨S3x3, .f32⟩ : BufTy).Contents (Elt F) → (⟨S1x3x3, .f32⟩ : BufTy).Contents (Elt F)),
    StableHlo.unary main_while0b_v257 main_while0b_v258 (broadcastInDim S16384x3x3 ![0, 1, 2] bcast_S1x3x3_S16384x3x3_0_1_2 : (⟨S1x3x3, .f32⟩ : BufTy).Contents (Elt F) → (⟨S16384x3x3, .f32⟩ : BufTy).Contents (Elt F)),
    StableHlo.binary main_while0b_v256 main_while0b_v258 main_while0b_v259 (addf : (⟨S16384x3x3, .f32⟩ : BufTy).Contents (Elt F) → (⟨S16384x3x3, .f32⟩ : BufTy).Contents (Elt F) → (⟨S16384x3x3, .f32⟩ : BufTy).Contents (Elt F)),
    StableHlo.binary main_while0b_v259 main_while0b_v209 main_while0b_v260 ((fun l r => Host.dotGeneral dot_S16384x3x3_S16384x3x3_S16384x3x3_1_1_2_2_0_0 none l r) : (⟨S16384x3x3, .f32⟩ : BufTy).Contents (Elt F) → (⟨S16384x3x3, .f32⟩ : BufTy).Contents (Elt F) → (⟨S16384x3x3, .f32⟩ : BufTy).Contents (Elt F)),
    StableHlo.binary main_while0b_v260 main_while0b_v259 main_while0b_v261 ((fun l r => Host.dotGeneral dot_S16384x3x3_S16384x3x3_S16384x3x3_2_1_1_2_0_0 none l r) : (⟨S16384x3x3, .f32⟩ : BufTy).Contents (Elt F) → (⟨S16384x3x3, .f32⟩ : BufTy).Contents (Elt F) → (⟨S16384x3x3, .f32⟩ : BufTy).Contents (Elt F)),
    StableHlo.binary main_while0b_v210 main_while0b_v259 main_while0b_v262 ((fun l r => Host.dotGeneral dot_S16384x3x3_S16384x3x3_S16384x3x3_2_1_1_2_0_0 none l r) : (⟨S16384x3x3, .f32⟩ : BufTy).Contents (Elt F) → (⟨S16384x3x3, .f32⟩ : BufTy).Contents (Elt F) → (⟨S16384x3x3, .f32⟩ : BufTy).Contents (Elt F)) ]
/-- Each touches TensorCore references only. -/
theorem mul3_sub : (mul3 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.binary_bufs_sub ..⟩
/-- The buffers they write, in order. -/
abbrev mul3_W : List (Ref sig .tc) := [main_while0b_v246, main_while0b_v247, main_while0b_v248, main_while0b_v249, main_while0b_v250, main_while0b_v251, main_while0b_v252, main_while0b_v253, main_while0b_v254, main_while0b_v255, main_while0b_v256, main_while0b_v257, main_while0b_v258, main_while0b_v259, main_while0b_v260, main_while0b_v261, main_while0b_v262]
/-- The operations write those alone. -/
theorem mul3_writes : (mul3 : List (HloOp τ sig (Elt F))).Forall fun op => op.writes ⊆ (mul3_W.map (Proc.devRef (τ := τ) .tc)).toFinset :=
  StableHlo.forall_writes_sub_of_map rfl

/-- 6 host operations of the reference, in order. -/
abbrev tailOps : List (HloOp τ sig (Elt F)) :=
  [ StableHlo.nullary main_while0b_c_65 (constantI S_ 32 1#32),
    StableHlo.binary main_v49_10 main_while0b_c_65 main_while0b_v263 (addi : (⟨S_, .i32⟩ : BufTy).Contents (Elt F) → (⟨S_, .i32⟩ : BufTy).Contents (Elt F) → (⟨S_, .i32⟩ : BufTy).Contents (Elt F)),
    StableHlo.unary main_while0b_v263 main_v49_10 id,
    StableHlo.unary main_while0b_v91 main_v49_11 id,
    StableHlo.unary main_while0b_v261 main_v49_12 id,
    StableHlo.unary main_while0b_v262 main_v49_13 id ]
/-- Each touches TensorCore references only. -/
theorem tailOps_sub : (tailOps : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- The buffers they write, in order. -/
abbrev tailOps_W : List (Ref sig .tc) := [main_while0b_c_65, main_while0b_v263, main_v49_10, main_v49_11, main_v49_12, main_v49_13]
/-- The operations write those alone. -/
theorem tailOps_writes : (tailOps : List (HloOp τ sig (Elt F))).Forall fun op => op.writes ⊆ (tailOps_W.map (Proc.devRef (τ := τ) .tc)).toFinset :=
  StableHlo.forall_writes_sub_of_map rfl

/-- 32 host operations of the reference, in order. -/
abbrev postA : List (HloOp τ sig (Elt F)) :=
  [ StableHlo.unary main_v49_12 main_v50 ((extractStridedSlice S16384x1x1 ![0, 0, 0] · slices_S16384x3x3_S16384x1x1_0_0_0) : (⟨S16384x3x3, .f32⟩ : BufTy).Contents (Elt F) → (⟨S16384x1x1, .f32⟩ : BufTy).Contents (Elt F)),
    StableHlo.reshape main_v50 main_v51 (rfl : (.f32 : EltTy) = .f32) shapeCasts_S16384x1x1_S16384,
    StableHlo.unary main_v49_12 main_v52 ((extractStridedSlice S16384x1x1 ![0, 1, 1] · slices_S16384x3x3_S16384x1x1_0_1_1) : (⟨S16384x3x3, .f32⟩ : BufTy).Contents (Elt F) → (⟨S16384x1x1, .f32⟩ : BufTy).Contents (Elt F)),
    StableHlo.reshape main_v52 main_v53 (rfl : (.f32 : EltTy) = .f32) shapeCasts_S16384x1x1_S16384,
    StableHlo.unary main_v49_12 main_v54 ((extractStridedSlice S16384x1x1 ![0, 2, 2] · slices_S16384x3x3_S16384x1x1_0_2_2) : (⟨S16384x3x3, .f32⟩ : BufTy).Contents (Elt F) → (⟨S16384x1x1, .f32⟩ : BufTy).Contents (Elt F)),
    StableHlo.reshape main_v54 main_v55 (rfl : (.f32 : EltTy) = .f32) shapeCasts_S16384x1x1_S16384,
    StableHlo.unary main_v51 main_v56 (broadcastInDim S16384x1 ![0] bcast_S16384_S16384x1_0 : (⟨S16384, .f32⟩ : BufTy).Contents (Elt F) → (⟨S16384x1, .f32⟩ : BufTy).Contents (Elt F)),
    StableHlo.unary main_v53 main_v57 (broadcastInDim S16384x1 ![0] bcast_S16384_S16384x1_0 : (⟨S16384, .f32⟩ : BufTy).Contents (Elt F) → (⟨S16384x1, .f32⟩ : BufTy).Contents (Elt F)),
    StableHlo.unary main_v55 main_v58 (broadcastInDim S16384x1 ![0] bcast_S16384_S16384x1_0 : (⟨S16384, .f32⟩ : BufTy).Contents (Elt F) → (⟨S16384x1, .f32⟩ : BufTy).Contents (Elt F)),
    StableHlo.nary ![main_v56, main_v57, main_v58] main_v59 (fun u => (concatenate S16384x3 1 [⟨S16384x1, (u 0 : (⟨S16384x1, .f32⟩ : BufTy).Contents (Elt F))⟩, ⟨S16384x1, (u 1 : (⟨S16384x1, .f32⟩ : BufTy).Contents (Elt F))⟩, ⟨S16384x1, (u 2 : (⟨S16384x1, .f32⟩ : BufTy).Contents (Elt F))⟩] concatenates_S16384x1_S16384x1_S16384x1_S16384x3_d1 : (⟨S16384x3, .f32⟩ : BufTy).Contents (Elt F))),
    StableHlo.unary main_v59 main_v60 (broadcastInDim S16384x1x3 ![0, 2] bcast_S16384x3_S16384x1x3_0_2 : (⟨S16384x3, .f32⟩ : BufTy).Contents (Elt F) → (⟨S16384x1x3, .f32⟩ : BufTy).Contents (Elt F)),
    StableHlo.unary main_v60 main_v61 (broadcastInDim S16384x3x3 ![0, 1, 2] bcast_S16384x1x3_S16384x3x3_0_1_2 : (⟨S16384x1x3, .f32⟩ : BufTy).Contents (Elt F) → (⟨S16384x3x3, .f32⟩ : BufTy).Contents (Elt F)),
    StableHlo.binary main_v61 main_v49_13 main_v62_0 ((fun x y => (Host.sort2 S16384x3x3 2 comparator_f32_f32_d2 x y).1) : (⟨S16384x3x3, .f32⟩ : BufTy).Contents (Elt F) → (⟨S16384x3x3, .f32⟩ : BufTy).Contents (Elt F) → (⟨S16384x3x3, .f32⟩ : BufTy).Contents (Elt F)),
    StableHlo.binary main_v61 main_v49_13 main_v62_1 ((fun x y => (Host.sort2 S16384x3x3 2 comparator_f32_f32_d2 x y).2) : (⟨S16384x3x3, .f32⟩ : BufTy).Contents (Elt F) → (⟨S16384x3x3, .f32⟩ : BufTy).Contents (Elt F) → (⟨S16384x3x3, .f32⟩ : BufTy).Contents (Elt F)),
    StableHlo.unary main_v62_0 main_v63 ((extractStridedSlice S16384x1x3 ![0, 0, 0] · slices_S16384x3x3_S16384x1x3_0_0_0) : (⟨S16384x3x3, .f32⟩ : BufTy).Contents (Elt F) → (⟨S16384x1x3, .f32⟩ : BufTy).Contents (Elt F)),
    StableHlo.reshape main_v63 main_v64 (rfl : (.f32 : EltTy) = .f32) shapeCasts_S16384x1x3_S16384x3,
    StableHlo.reshape main_v64 main_v65 (rfl : (.f32 : EltTy) = .f32) shapeCasts_S16384x3_S8x2048x3,
    StableHlo.reshape main_v62_1 main_v66 (rfl : (.f32 : EltTy) = .f32) shapeCasts_S16384x3x3_S8x2048x3x3,
    StableHlo.binary main_v65 main_v65 main_v67 (mulf : (⟨S8x2048x3, .f32⟩ : BufTy).Contents (Elt F) → (⟨S8x2048x3, .f32⟩ : BufTy).Contents (Elt F) → (⟨S8x2048x3, .f32⟩ : BufTy).Contents (Elt F)),
    StableHlo.nullary main_cst_20 (constant S_ .f32 0x00000000#32),
    StableHlo.binary main_v67 main_cst_20 main_v68 ((fun x v => Host.reduceAdd x v reducesTo_S8x2048x3_S8x2048_d2 h_S_) : (⟨S8x2048x3, .f32⟩ : BufTy).Contents (Elt F) → (⟨S_, .f32⟩ : BufTy).Contents (Elt F) → (⟨S8x2048, .f32⟩ : BufTy).Contents (Elt F)),
    StableHlo.unary main_v68 main_v69 (broadcastInDim S8x2048x1 ![0, 1] bcast_S8x2048_S8x2048x1_0_1 : (⟨S8x2048, .f32⟩ : BufTy).Contents (Elt F) → (⟨S8x2048x1, .f32⟩ : BufTy).Contents (Elt F)),
    StableHlo.unary main_v68 main_v70 (broadcastInDim S8x1x2048 ![0, 2] bcast_S8x2048_S8x1x2048_0_2 : (⟨S8x2048, .f32⟩ : BufTy).Contents (Elt F) → (⟨S8x1x2048, .f32⟩ : BufTy).Contents (Elt F)),
    StableHlo.unary main_v69 main_v71 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    StableHlo.unary main_v70 main_v72 (broadcastInDim S8x2048x2048 ![0, 1, 2] bcast_S8x1x2048_S8x2048x2048_0_1_2 : (⟨S8x1x2048, .f32⟩ : BufTy).Contents (Elt F) → (⟨S8x2048x2048, .f32⟩ : BufTy).Contents (Elt F)),
    StableHlo.binary main_v71 main_v72 main_v73 (addf : (⟨S8x2048x2048, .f32⟩ : BufTy).Contents (Elt F) → (⟨S8x2048x2048, .f32⟩ : BufTy).Contents (Elt F) → (⟨S8x2048x2048, .f32⟩ : BufTy).Contents (Elt F)),
    StableHlo.binary main_v65 main_v65 main_v74 ((fun l r => Host.dotGeneral dot_S8x2048x3_S8x2048x3_S8x2048x2048_2_2_1_1_0_0 none l r) : (⟨S8x2048x3, .f32⟩ : BufTy).Contents (Elt F) → (⟨S8x2048x3, .f32⟩ : BufTy).Contents (Elt F) → (⟨S8x2048x2048, .f32⟩ : BufTy).Contents (Elt F)),
    StableHlo.nullary main_cst_21 (constant S_ .f32 0x40000000#32),
    StableHlo.unary main_cst_21 main_v75 (broadcastInDim S8x2048x2048 ![] bcast_S_S8x2048x2048 : (⟨S_, .f32⟩ : BufTy).Contents (Elt F) → (⟨S8x2048x2048, .f32⟩ : BufTy).Contents (Elt F)),
    StableHlo.binary main_v75 main_v74 main_v76 (mulf : (⟨S8x2048x2048, .f32⟩ : BufTy).Contents (Elt F) → (⟨S8x2048x2048, .f32⟩ : BufTy).Contents (Elt F) → (⟨S8x2048x2048, .f32⟩ : BufTy).Contents (Elt F)),
    StableHlo.binary main_v73 main_v76 main_v77 (subf : (⟨S8x2048x2048, .f32⟩ : BufTy).Contents (Elt F) → (⟨S8x2048x2048, .f32⟩ : BufTy).Contents (Elt F) → (⟨S8x2048x2048, .f32⟩ : BufTy).Contents (Elt F)),
    StableHlo.nullary main_cst_22 (constant S_ .f32 0x00000000#32) ]
/-- Each touches TensorCore references only. -/
theorem postA_sub : (postA : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.nary_bufs_sub .., StableHlo.unary_bufs_sub .., StableHlo.unary_bufs_sub .., StableHlo.binary_bufs_sub .., StableHlo.binary_bufs_sub .., StableHlo.unary_bufs_sub .., StableHlo.reshape_bufs_sub .., StableHlo.reshape_bufs_sub .., StableHlo.reshape_bufs_sub .., StableHlo.binary_bufs_sub .., StableHlo.nullary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub ..⟩
/-- The buffers they write, in order. -/
abbrev postA_W : List (Ref sig .tc) := [main_v50, main_v51, main_v52, main_v53, main_v54, main_v55, main_v56, main_v57, main_v58, main_v59, main_v60, main_v61, main_v62_0, main_v62_1, main_v63, main_v64, main_v65, main_v66, main_v67, main_cst_20, main_v68, main_v69, main_v70, main_v71, main_v72, main_v73, main_v74, main_cst_21, main_v75, main_v76, main_v77, main_cst_22]
/-- The operations write those alone. -/
theorem postA_writes : (postA : List (HloOp τ sig (Elt F))).Forall fun op => op.writes ⊆ (postA_W.map (Proc.devRef (τ := τ) .tc)).toFinset :=
  StableHlo.forall_writes_sub_of_map rfl

/-- 16 host operations of the reference, in order. -/
abbrev postB : List (HloOp τ sig (Elt F)) :=
  [ StableHlo.unary main_cst_22 main_v78 (broadcastInDim S8x2048x2048 ![] bcast_S_S8x2048x2048 : (⟨S_, .f32⟩ : BufTy).Contents (Elt F) → (⟨S8x2048x2048, .f32⟩ : BufTy).Contents (Elt F)),
    StableHlo.binary main_v77 main_v78 main_v79 (maximumf : (⟨S8x2048x2048, .f32⟩ : BufTy).Contents (Elt F) → (⟨S8x2048x2048, .f32⟩ : BufTy).Contents (Elt F) → (⟨S8x2048x2048, .f32⟩ : BufTy).Contents (Elt F)),
    StableHlo.unary main_v79 main_v80 (Host.negf : (⟨S8x2048x2048, .f32⟩ : BufTy).Contents (Elt F) → (⟨S8x2048x2048, .f32⟩ : BufTy).Contents (Elt F)),
    StableHlo.unary main_v80 main_values_23 ((fun x => (Host.topK S8x2048x16 2 (FloatOps.cmpfTotal .gt) x sliceFits_S8x2048x2048_S8x2048x16).1) : (⟨S8x2048x2048, .f32⟩ : BufTy).Contents (Elt F) → (⟨S8x2048x16, .f32⟩ : BufTy).Contents (Elt F)),
    StableHlo.unary main_v80 main_indices_24 ((fun x => (Host.topK S8x2048x16 2 (FloatOps.cmpfTotal .gt) x sliceFits_S8x2048x2048_S8x2048x16).2) : (⟨S8x2048x2048, .f32⟩ : BufTy).Contents (Elt F) → (⟨S8x2048x16, .i32⟩ : BufTy).Contents (Elt F)),
    StableHlo.nullary main_v81 (iotaInDim S8 32 0),
    StableHlo.nullary main_c_25 (constantI S_ 32 2048#32),
    StableHlo.unary main_c_25 main_v82 (broadcastInDim S8 ![] bcast_S_S8 : (⟨S_, .i32⟩ : BufTy).Contents (Elt F) → (⟨S8, .i32⟩ : BufTy).Contents (Elt F)),
    StableHlo.binary main_v81 main_v82 main_v83 (muli : (⟨S8, .i32⟩ : BufTy).Contents (Elt F) → (⟨S8, .i32⟩ : BufTy).Contents (Elt F) → (⟨S8, .i32⟩ : BufTy).Contents (Elt F)),
    StableHlo.unary main_v83 main_v84 (broadcastInDim S8x1x1 ![0] bcast_S8_S8x1x1_0 : (⟨S8, .i32⟩ : BufTy).Contents (Elt F) → (⟨S8x1x1, .i32⟩ : BufTy).Contents (Elt F)),
    StableHlo.unary main_v84 main_v85 (broadcastInDim S8x2048x16 ![0, 1, 2] bcast_S8x1x1_S8x2048x16_0_1_2 : (⟨S8x1x1, .i32⟩ : BufTy).Contents (Elt F) → (⟨S8x2048x16, .i32⟩ : BufTy).Contents (Elt F)),
    StableHlo.binary main_indices_24 main_v85 main_v86 (addi : (⟨S8x2048x16, .i32⟩ : BufTy).Contents (Elt F) → (⟨S8x2048x16, .i32⟩ : BufTy).Contents (Elt F) → (⟨S8x2048x16, .i32⟩ : BufTy).Contents (Elt F)),
    StableHlo.reshape main_v86 main_v87 (rfl : (.i32 : EltTy) = .i32) shapeCasts_S8x2048x16_S262144,
    StableHlo.nullary main_v88 (iotaInDim S16384 32 0),
    StableHlo.unary main_v88 main_v89 (broadcastInDim S16384x16 ![0] bcast_S16384_S16384x16_0 : (⟨S16384, .i32⟩ : BufTy).Contents (Elt F) → (⟨S16384x16, .i32⟩ : BufTy).Contents (Elt F)),
    StableHlo.reshape main_v89 main_v90 (rfl : (.i32 : EltTy) = .i32) shapeCasts_S16384x16_S262144 ]
/-- Each touches TensorCore references only. -/
theorem postB_sub : (postB : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub .., StableHlo.nullary_bufs_sub .., StableHlo.unary_bufs_sub .., StableHlo.reshape_bufs_sub ..⟩
/-- The buffers they write, in order. -/
abbrev postB_W : List (Ref sig .tc) := [main_v78, main_v79, main_v80, main_values_23, main_indices_24, main_v81, main_c_25, main_v82, main_v83, main_v84, main_v85, main_v86, main_v87, main_v88, main_v89, main_v90]
/-- The operations write those alone. -/
theorem postB_writes : (postB : List (HloOp τ sig (Elt F))).Forall fun op => op.writes ⊆ (postB_W.map (Proc.devRef (τ := τ) .tc)).toFinset :=
  StableHlo.forall_writes_sub_of_map rfl

/-! ## The program as a chain of the lists -/

/-- One window of the program as its lists. -/
theorem body0_chain : main_while0_body_part0 (F := F) = (Pipeline.chainK [StableHlo.seq ctrOp] (StableHlo.seq ang1) : Prog (TpuEff nD τ sig (Elt F) (HostLoop.Sig (Pipeline.Sig Λ₀ (Fin 0) fun p => (pcfgs (F := F) p).Adm) 1) .tc) PUnit) := by
  rewrite [StableHlo.chainK_seq_cons]
  chain_rfl

/-- One window of the program as its lists. -/
theorem body1_chain : main_while0_body_part1 (F := F) = (Pipeline.chainK [StableHlo.seq sin1, StableHlo.seq mul1] (StableHlo.seq ang2) : Prog (TpuEff nD τ sig (Elt F) (HostLoop.Sig (Pipeline.Sig Λ₀ (Fin 0) fun p => (pcfgs (F := F) p).Adm) 1) .tc) PUnit) := by
  rewrite [StableHlo.chainK_seq_cons, StableHlo.chainK_seq_cons]
  chain_rfl

/-- One window of the program as its lists. -/
theorem body2_chain : main_while0_body_part2 (F := F) = (Pipeline.chainK [StableHlo.seq sin2, StableHlo.seq mul2] (StableHlo.seq ang3) : Prog (TpuEff nD τ sig (Elt F) (HostLoop.Sig (Pipeline.Sig Λ₀ (Fin 0) fun p => (pcfgs (F := F) p).Adm) 1) .tc) PUnit) := by
  rewrite [StableHlo.chainK_seq_cons, StableHlo.chainK_seq_cons]
  chain_rfl

/-- One window of the program as its lists. -/
theorem body3_chain : main_while0_body_part3 (F := F) = (Pipeline.chain [StableHlo.seq sin3, StableHlo.seq mul3, StableHlo.seq tailOps] : Prog (TpuEff nD τ sig (Elt F) (HostLoop.Sig (Pipeline.Sig Λ₀ (Fin 0) fun p => (pcfgs (F := F) p).Adm) 1) .tc) PUnit) := by
  rewrite [StableHlo.chain_seq_cons, StableHlo.chain_seq_cons, StableHlo.chain_seq_cons]
  chain_rfl

/-- One window of the program as its lists. -/
theorem main0_chain (c : Dev nD) : main_part0 (F := F) c = (Pipeline.chainK [] (StableHlo.seq preA) : Prog (TpuEff nD τ sig (Elt F) (HostLoop.Sig (Pipeline.Sig Λ₀ (Fin 0) fun p => (pcfgs (F := F) p).Adm) 1) .tc) PUnit) := by
  chain_rfl

/-- One window of the program as its lists. -/
theorem main1_chain (c : Dev nD) : main_part1 (F := F) c = (Pipeline.chainK [StableHlo.seq preB, HostLoop.enter 0] (StableHlo.seq postA) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons]
  chain_rfl

/-- One window of the program as its lists. -/
theorem main2_chain (c : Dev nD) : main_part2 (F := F) c = (Pipeline.chain [StableHlo.seq postB] : Prog (TpuEff nD τ sig (Elt F) (HostLoop.Sig (Pipeline.Sig Λ₀ (Fin 0) fun p => (pcfgs (F := F) p).Adm) 1) .tc) PUnit) := by
  rewrite [StableHlo.chain_seq_cons]
  chain_rfl

/-- The lists before the loop, one trip's lists, the lists after the loop, and the condition's operations. -/
abbrev preI : List (List (HloOp τ sig (Elt F))) := [preA, preB]
abbrev bodyI : List (List (HloOp τ sig (Elt F))) := [ctrOp, ang1, sin1, mul1, ang2, sin2, mul2, ang3, sin3, mul3, tailOps]
abbrev postI : List (List (HloOp τ sig (Elt F))) := [postA, postB]
abbrev condOps : List (HloOp τ sig (Elt F)) :=
  [ StableHlo.nullary main_while0c_c_39 (constantI S_ 32 8#32),
    StableHlo.binary main_v49_10 main_while0c_c_39 main_while0c_v91 (cmpi .slt) ]

/-- The loop's body is the chain of its lists. -/
theorem body_chain : main_while0_body (F := F) = (Pipeline.chain (bodyI.map fun ops => StableHlo.seq ops) : Prog (TpuEff nD τ sig (Elt F) (HostLoop.Sig (Pipeline.Sig Λ₀ (Fin 0) fun p => (pcfgs (F := F) p).Adm) 1) .tc) PUnit) := by
  show (main_while0_body_part0 >>= fun _ => main_while0_body_part1 >>= fun _ => main_while0_body_part2 >>= fun _ => main_while0_body_part3) = _
  rw [body3_chain, body2_chain, Pipeline.chainK_bind_chain, body1_chain, Pipeline.chainK_bind_chain, body0_chain, Pipeline.chainK_bind_chain]
  rfl

/-- The program is the chain of the lists before the loop, the loop, and the lists after it. -/
theorem main_chain (c : Dev nD) : main (F := F) c = (Pipeline.chain ((preI.map fun ops => StableHlo.seq ops) ++ HostLoop.enter 0 :: postI.map fun ops => StableHlo.seq ops) : Prog (TpuEff nD τ sig (Elt F) (HostLoop.Sig (Pipeline.Sig Λ₀ (Fin 0) fun p => (pcfgs (F := F) p).Adm) 1) .tc) PUnit) := by
  show (main_part0 c >>= fun _ => main_part1 c >>= fun _ => main_part2 c) = _
  rw [main2_chain, main1_chain, Pipeline.chainK_bind_chain, main0_chain, Pipeline.chainK_bind_chain]
  rfl

/-- The lists touch plain buffers only. -/
theorem preI_plain : Plain (preI : List (List (HloOp τ sig (Elt F)))) :=
  .cons preA_sub (.cons preB_sub .nil)

/-- The lists touch plain buffers only. -/
theorem bodyI_plain : Plain (bodyI : List (List (HloOp τ sig (Elt F)))) :=
  .cons ctrOp_sub (.cons ang1_sub (.cons sin1_sub (.cons mul1_sub (.cons ang2_sub (.cons sin2_sub (.cons mul2_sub (.cons ang3_sub (.cons sin3_sub (.cons mul3_sub (.cons tailOps_sub .nil))))))))))

/-- The lists touch plain buffers only. -/
theorem postI_plain : Plain (postI : List (List (HloOp τ sig (Elt F)))) :=
  .cons postA_sub (.cons postB_sub .nil)

/-! ## The counter and the condition -/

/-- One trip of the body over any contents. -/
abbrev trip (X : Valuation τ sig (Elt F)) : Valuation τ sig (Elt F) := afterL bodyI (after condOps X)

/-- A buffer the loop's test does not write keeps its contents. -/
theorem condOps_unwritten (X : Valuation τ sig (Elt F)) (r : Ref sig .tc) (h : r ∉ ([main_while0c_c_39, main_while0c_v91] : List (Ref sig .tc))) :
    after condOps X r = X r := StableHlo.after_of_writes_sub (W := [main_while0c_c_39, main_while0c_v91]) condOps _ (StableHlo.forall_writes_sub_of_map rfl) h

/-- The last list leaves the counter one more than it found it. -/
theorem ctr_tail (X : Valuation τ sig (Elt F)) : after tailOps X main_v49_10 = addi (X main_v49_10) (constantI S_ 32 1#32) := by
  after_reads_simp
  rfl

/-- A trip leaves the counter one more than it found it. -/
theorem ctr_trip (X : Valuation τ sig (Elt F)) : trip X main_v49_10 = addi (X main_v49_10) (constantI S_ 32 1#32) := by
  dsimp only [trip, afterL]
  rw [ctr_tail, StableHlo.after_of_writes_sub mul3 _ mul3_writes (by decide), StableHlo.after_of_writes_sub sin3 _ sin3_writes (by decide), StableHlo.after_of_writes_sub ang3 _ ang3_writes (by decide), StableHlo.after_of_writes_sub mul2 _ mul2_writes (by decide), StableHlo.after_of_writes_sub sin2 _ sin2_writes (by decide), StableHlo.after_of_writes_sub ang2 _ ang2_writes (by decide), StableHlo.after_of_writes_sub mul1 _ mul1_writes (by decide), StableHlo.after_of_writes_sub sin1 _ sin1_writes (by decide), StableHlo.after_of_writes_sub ang1 _ ang1_writes (by decide), StableHlo.after_of_writes_sub ctrOp _ ctrOp_writes (by decide), condOps_unwritten _ _ (by decide)]

/-- The counter is zero at the loop's entry. -/
theorem ctr_entry (m : (ℓ : Loc nD τ sig) → Buf (Elt F) ℓ) (c : Dev nD) : entryContents preI m c main_v49_10 = fun _ => (0#32 : BitVec 32) := by
  dsimp only [entryContents, afterL]
  after_reads_simp
  rfl

/-- Before the `k`-th run of the condition the counter is `k`. -/
theorem ctr_at (m : (ℓ : Loc nD τ sig) → Buf (Elt F) ℓ) (c : Dev nD) :
    ∀ k, atTrip condOps bodyI (entryContents preI m) k c main_v49_10 = fun _ => (BitVec.ofNat 32 k : BitVec 32)
  | 0 => ctr_entry m c
  | k + 1 => by
    show trip (atTrip condOps bodyI (entryContents preI m) k c) main_v49_10 = _
    rw [ctr_trip, ctr_at m c k]
    funext i
    show BitVec.ofNat 32 k + 1#32 = BitVec.ofNat 32 (k + 1)
    rw [BitVec.ofNat_add]

/-- For at most eight trips the comparison reads `1` exactly before the eighth. -/
theorem pred_iff : ∀ k : ℕ, k ≤ 8 → (IntOp.cmpi .slt (BitVec.ofNat 32 k) 8#32 = 1#1 ↔ k < 8)
  | 0, _ => by decide
  | 1, _ => by decide
  | 2, _ => by decide
  | 3, _ => by decide
  | 4, _ => by decide
  | 5, _ => by decide
  | 6, _ => by decide
  | 7, _ => by decide
  | 8, _ => by decide
  | _ + 9, h => absurd h (by omega)

set_option backward.isDefEq.respectTransparency.types false in
/-- The loop's condition before the `k`-th trip. -/
theorem cond_spec (m : (ℓ : Loc nD τ sig) → Buf (Elt F) ℓ) :
    CondSpec pcfgs defs₀ loops main_while0_cond condOps bodyI (entryContents (F := F) preI m) 8 := by
  intro k hk c bd
  have hctr := ctr_at m c k
  unfold main_while0_cond
  simp only [bind_pure]
  rw [wp_bind]
  iintro ⟨Hb, Hh⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps bodyI (entryContents preI m) k c) main_v49_10 HostLoop.idx0)
        (HloOp.result _ (atTrip condOps bodyI (entryContents preI m) k c) main_while0c_c_39 HostLoop.idx0) = 1#1) (k < 8)
    rw [StableHlo.nullary_result_ne _ _ _ _ (by decide), StableHlo.nullary_result, hctr]
    exact pred_iff k hk
  isplitl [Hb]; · iexact Hb
  rw [StableHlo.after_cons, StableHlo.after_cons, StableHlo.after_nil]; iexact Hh

/-! ## The run -/

/-- Core `c`'s buffers when the program ends. -/
abbrev fin (m : (ℓ : Loc nD τ sig) → Buf (Elt F) ℓ) (c : Dev nD) : Valuation τ sig (Elt F) := finalContents condOps preI bodyI postI 8 m c

/-- From any memory with zero counters every execution ends, with each buffer at `fin`. -/
theorem run [∀ e, Nonempty (Elt F e)] (m : (ℓ : Loc nD τ sig) → Buf (Elt F) ℓ) (ρ : Dev nD → PrngReg) :
    θ_run (defs (F := F)) (onTc (τ := τ) main) ⟨m, fun _ => 0, ρ⟩
      (fun r => ∀ (c : Dev nD) (b : Ref sig .tc), (Proc.devRef .tc b : DevRef τ sig).isScoped = false →
        r.2.mem ((c.tc : Thread nD τ).loc b) = fin m c b) :=
  StableHlo.run_loop pcfgs defs₀ loops main 0 main_while0_cond main_while0_body rfl preI bodyI postI condOps preI_plain bodyI_plain postI_plain
    main_chain body_chain 8 m ρ (cond_spec m)

/-- A buffer no list writes is as launched when the program ends. -/
theorem fin_unwritten (m : (ℓ : Loc nD τ sig) → Buf (Elt F) ℓ) (c : Dev nD) : fin m c main_arg0 = m ((c.tc : Thread nD τ).loc main_arg0) := by
  have hb : ∀ X : Valuation τ sig (Elt F), trip X main_arg0 = X main_arg0 := fun X => by
    dsimp only [trip, afterL]
    rw [StableHlo.after_of_writes_sub tailOps _ tailOps_writes (by decide), StableHlo.after_of_writes_sub mul3 _ mul3_writes (by decide), StableHlo.after_of_writes_sub sin3 _ sin3_writes (by decide), StableHlo.after_of_writes_sub ang3 _ ang3_writes (by decide), StableHlo.after_of_writes_sub mul2 _ mul2_writes (by decide), StableHlo.after_of_writes_sub sin2 _ sin2_writes (by decide), StableHlo.after_of_writes_sub ang2 _ ang2_writes (by decide), StableHlo.after_of_writes_sub mul1 _ mul1_writes (by decide), StableHlo.after_of_writes_sub sin1 _ sin1_writes (by decide), StableHlo.after_of_writes_sub ang1 _ ang1_writes (by decide), StableHlo.after_of_writes_sub ctrOp _ ctrOp_writes (by decide), condOps_unwritten _ _ (by decide)]
  have hk : ∀ k, atTrip condOps bodyI (entryContents preI m) k c main_arg0 = entryContents preI m c main_arg0 := fun k => by
    induction k with
    | zero => rfl
    | succ k ih => exact (hb _).trans ih
  dsimp only [fin, finalContents, afterL]
  rw [StableHlo.after_of_writes_sub postB _ postB_writes (by decide), StableHlo.after_of_writes_sub postA _ postA_writes (by decide),
    condOps_unwritten _ _ (by decide), hk]
  dsimp only [entryContents, afterL]
  rw [StableHlo.after_of_writes_sub preB _ preB_writes (by decide), StableHlo.after_of_writes_sub preA _ preA_writes (by decide)]

end Cert.ReferenceIdeal.Jacobi

end
-- ==== Proof.RefVal.lean ====
/-
  The reference's sweep: what one trip of its loop makes of the carried matrices and vectors is, at each of the 16384
  matrices, the scalar sweep of Jacobi.lean. The products with the rotation matrices become the turned rows and columns.
-/
module

public import proofs.«01_k».proof.Proof.RefRun
public import proofs.«01_k».proof.Proof.Jacobi
public import Idealize.ShloMosaic.Lib.StableHlo.ReadAt
public import Idealize.ShloMosaic.Lib.Pipeline.ValueKit

@[expose] public section

set_option maxRecDepth 16384

noncomputable section

namespace Cert.ReferenceIdeal.Jacobi

open Cert.ReferenceIdeal.Gen Cert.Jacobi
open Idealize.ShloMosaic.TcCoe
open Idealize.ShloMosaic hiding ix1 ix2 ix3 ix4
open Idealize.ShloMosaic.ValueIdx
open Idealize.ShloMosaic.StableHlo (after afterL)

/-- Matrix `m` of a stack. -/
abbrev mat (a : FVec Ideal S16384x3x3 .f32) (m : Fin 16384) : M3 Ideal := fun i j => a (ix3 m i j)

/-- Zero minus one is minus one. -/
theorem minus_one : (Scalar.subf (zeroC (F := Ideal)) oneC : EReal) = -1 := by
  show (Ideal.ofBits .f32 0x00000000#32 : EReal) - Ideal.ofBits .f32 0x3F800000#32 = -1
  pointwise
  exact zero_sub _

/-- A stack of products, the left matrices transposed. -/
theorem dotT_apply (l r : FVec Ideal S16384x3x3 .f32) (m : Fin 16384) (i j : Fin 3) :
    Host.dotGeneral dot_S16384x3x3_S16384x3x3_S16384x3x3_1_1_2_2_0_0 none l r (ix3 m i j) = (∑ k : Fin 3, l (ix3 m k i) * r (ix3 m k j) : EReal) := by
  pointwise
  rfl

/-- A stack of products. -/
theorem dot_apply (l r : FVec Ideal S16384x3x3 .f32) (m : Fin 16384) (i j : Fin 3) :
    Host.dotGeneral dot_S16384x3x3_S16384x3x3_S16384x3x3_2_1_1_2_0_0 none l r (ix3 m i j) = (∑ k : Fin 3, l (ix3 m i k) * r (ix3 m k j) : EReal) := by
  pointwise
  rfl

/-- The three constant matrices of the rotation of axes `p` and `q`. -/
def jc (p q k i : Fin 3) : EReal := if k = i ∧ (k = p ∨ k = q) then 1 else 0
def js (p q k i : Fin 3) : EReal := if k = p ∧ i = q then 1 else if k = q ∧ i = p then -1 else 0
def jr (p q k i : Fin 3) : EReal := if k = i ∧ k ≠ p ∧ k ≠ q then 1 else 0
/-- The rotation matrix. -/
def jm (p q : Fin 3) (c s : EReal) (k i : Fin 3) : EReal := c * jc p q k i + s * js p q k i + jr p q k i

/-- The transposed rotation matrix turns the rows. -/
theorem jm_row02 (c s : EReal) (A : M3 Ideal) (i j : Fin 3) :
    (∑ k : Fin 3, jm 0 2 c s k i * A k j : EReal) = rowT 0 2 c s A i j := by
  fin_cases i <;> simp [Fin.sum_univ_three, jm, jc, js, jr, rowT, sub_eq_add_neg, neg_mul, mul_neg, add_comm]

/-- The rotation matrix turns the columns. -/
theorem jm_col02 (c s : EReal) (A : M3 Ideal) (i j : Fin 3) :
    (∑ k : Fin 3, A i k * jm 0 2 c s k j : EReal) = colT 0 2 c s A i j := by
  fin_cases j <;> simp [Fin.sum_univ_three, jm, jc, js, jr, colT, sub_eq_add_neg, neg_mul, mul_neg, mul_comm, add_comm]

/-- The transposed rotation matrix turns the rows. -/
theorem jm_row12 (c s : EReal) (A : M3 Ideal) (i j : Fin 3) :
    (∑ k : Fin 3, jm 1 2 c s k i * A k j : EReal) = rowT 1 2 c s A i j := by
  fin_cases i <;> simp [Fin.sum_univ_three, jm, jc, js, jr, rowT, sub_eq_add_neg, neg_mul, mul_neg, add_comm]

/-- The rotation matrix turns the columns. -/
theorem jm_col12 (c s : EReal) (A : M3 Ideal) (i j : Fin 3) :
    (∑ k : Fin 3, A i k * jm 1 2 c s k j : EReal) = colT 1 2 c s A i j := by
  fin_cases j <;> simp [Fin.sum_univ_three, jm, jc, js, jr, colT, sub_eq_add_neg, neg_mul, mul_neg, mul_comm, add_comm]

/-- The transposed rotation matrix turns the rows. -/
theorem jm_row01 (c s : EReal) (A : M3 Ideal) (i j : Fin 3) :
    (∑ k : Fin 3, jm 0 1 c s k i * A k j : EReal) = rowT 0 1 c s A i j := by
  fin_cases i <;> simp [Fin.sum_univ_three, jm, jc, js, jr, rowT, sub_eq_add_neg, neg_mul, mul_neg, add_comm]

/-- The rotation matrix turns the columns. -/
theorem jm_col01 (c s : EReal) (A : M3 Ideal) (i j : Fin 3) :
    (∑ k : Fin 3, A i k * jm 0 1 c s k j : EReal) = colT 0 1 c s A i j := by
  fin_cases j <;> simp [Fin.sum_univ_three, jm, jc, js, jr, colT, sub_eq_add_neg, neg_mul, mul_neg, mul_comm, add_comm]

/-- A buffer `ctrOp` does not write keeps its contents. -/
theorem ctrOp_keep (X : Valuation τ sig (Elt Ideal)) (r : Ref sig .tc) (h : r ∉ ctrOp_W) : after ctrOp X r = X r :=
  StableHlo.after_of_writes_sub ctrOp _ ctrOp_writes h

/-- A buffer `ang1` does not write keeps its contents. -/
theorem ang1_keep (X : Valuation τ sig (Elt Ideal)) (r : Ref sig .tc) (h : r ∉ ang1_W) : after ang1 X r = X r :=
  StableHlo.after_of_writes_sub ang1 _ ang1_writes h

/-- A buffer `sin1` does not write keeps its contents. -/
theorem sin1_keep (X : Valuation τ sig (Elt Ideal)) (r : Ref sig .tc) (h : r ∉ sin1_W) : after sin1 X r = X r :=
  StableHlo.after_of_writes_sub sin1 _ sin1_writes h

/-- A buffer `mul1` does not write keeps its contents. -/
theorem mul1_keep (X : Valuation τ sig (Elt Ideal)) (r : Ref sig .tc) (h : r ∉ mul1_W) : after mul1 X r = X r :=
  StableHlo.after_of_writes_sub mul1 _ mul1_writes h

/-- A buffer `ang2` does not write keeps its contents. -/
theorem ang2_keep (X : Valuation τ sig (Elt Ideal)) (r : Ref sig .tc) (h : r ∉ ang2_W) : after ang2 X r = X r :=
  StableHlo.after_of_writes_sub ang2 _ ang2_writes h

/-- A buffer `sin2` does not write keeps its contents. -/
theorem sin2_keep (X : Valuation τ sig (Elt Ideal)) (r : Ref sig .tc) (h : r ∉ sin2_W) : after sin2 X r = X r :=
  StableHlo.after_of_writes_sub sin2 _ sin2_writes h

/-- A buffer `mul2` does not write keeps its contents. -/
theorem mul2_keep (X : Valuation τ sig (Elt Ideal)) (r : Ref sig .tc) (h : r ∉ mul2_W) : after mul2 X r = X r :=
  StableHlo.after_of_writes_sub mul2 _ mul2_writes h

/-- A buffer `ang3` does not write keeps its contents. -/
theorem ang3_keep (X : Valuation τ sig (Elt Ideal)) (r : Ref sig .tc) (h : r ∉ ang3_W) : after ang3 X r = X r :=
  StableHlo.after_of_writes_sub ang3 _ ang3_writes h

/-- A buffer `sin3` does not write keeps its contents. -/
theorem sin3_keep (X : Valuation τ sig (Elt Ideal)) (r : Ref sig .tc) (h : r ∉ sin3_W) : after sin3 X r = X r :=
  StableHlo.after_of_writes_sub sin3 _ sin3_writes h

/-- A buffer `mul3` does not write keeps its contents. -/
theorem mul3_keep (X : Valuation τ sig (Elt Ideal)) (r : Ref sig .tc) (h : r ∉ mul3_W) : after mul3 X r = X r :=
  StableHlo.after_of_writes_sub mul3 _ mul3_writes h

/-- A buffer `tailOps` does not write keeps its contents. -/
theorem tailOps_keep (X : Valuation τ sig (Elt Ideal)) (r : Ref sig .tc) (h : r ∉ tailOps_W) : after tailOps X r = X r :=
  StableHlo.after_of_writes_sub tailOps _ tailOps_writes h

/-- A buffer `preA` does not write keeps its contents. -/
theorem preA_keep (X : Valuation τ sig (Elt Ideal)) (r : Ref sig .tc) (h : r ∉ preA_W) : after preA X r = X r :=
  StableHlo.after_of_writes_sub preA _ preA_writes h

/-- A buffer `preB` does not write keeps its contents. -/
theorem preB_keep (X : Valuation τ sig (Elt Ideal)) (r : Ref sig .tc) (h : r ∉ preB_W) : after preB X r = X r :=
  StableHlo.after_of_writes_sub preB _ preB_writes h

/-- A buffer `postA` does not write keeps its contents. -/
theorem postA_keep (X : Valuation τ sig (Elt Ideal)) (r : Ref sig .tc) (h : r ∉ postA_W) : after postA X r = X r :=
  StableHlo.after_of_writes_sub postA _ postA_writes h

/-- A buffer `postB` does not write keeps its contents. -/
theorem postB_keep (X : Valuation τ sig (Elt Ideal)) (r : Ref sig .tc) (h : r ∉ postB_W) : after postB X r = X r :=
  StableHlo.after_of_writes_sub postB _ postB_writes h

/-- The carried constants are the rotations' matrices. -/
structure Consts (X : Valuation τ sig (Elt Ideal)) : Prop where
  k1 (k i : Fin 3) : X main_v49_1 (ix2 k i) = jc 0 2 k i
  k2 (k i : Fin 3) : X main_v49_2 (ix2 k i) = js 0 2 k i
  k3 (k i : Fin 3) : X main_v49_3 (ix2 k i) = jr 0 2 k i
  k4 (k i : Fin 3) : X main_v49_4 (ix2 k i) = jc 1 2 k i
  k5 (k i : Fin 3) : X main_v49_5 (ix2 k i) = js 1 2 k i
  k6 (k i : Fin 3) : X main_v49_6 (ix2 k i) = jr 1 2 k i
  k7 (k i : Fin 3) : X main_v49_7 (ix2 k i) = jc 0 1 k i
  k8 (k i : Fin 3) : X main_v49_8 (ix2 k i) = js 0 1 k i
  k9 (k i : Fin 3) : X main_v49_9 (ix2 k i) = jr 0 1 k i

/-- The first rotation's test. -/
theorem done_ref (X : Valuation τ sig (Elt Ideal)) (m : Fin 16384) :
    after ang1 X main_while0b_v106 (ix1 m) = done (X main_v49_0 (ix1 m)) (mat (X main_v49_12) m) := by
  after_reads_at
  simp only [done, mat]
  pointwise
  rfl

/-! ### Rotation 1 -/

/-- The cosine. -/
theorem cos1_ref (X : Valuation τ sig (Elt Ideal)) (m : Fin 16384) :
    after ang1 X main_while0b_v140 (ix1 m) = cosA 0 2 (done (X main_v49_0 (ix1 m)) (mat (X main_v49_12) m)) (mat (X main_v49_12) m) := by
  after_reads_at
  simp only [cosA, cosOf, cosRaw, tanOf, tau, skip, done, mat, minus_one]
  pointwise
  rfl

/-- The sine. -/
theorem sin1_ref (X : Valuation τ sig (Elt Ideal)) (m : Fin 16384) :
    after sin1 (after ang1 X) main_while0b_v141 (ix1 m) = sinA 0 2 (done (X main_v49_0 (ix1 m)) (mat (X main_v49_12) m)) (mat (X main_v49_12) m) := by
  after_reads_at
  simp only [sinA, sinOf, cosRaw, tanOf, tau, skip, done, mat, minus_one]
  pointwise
  rfl

/-- The rotation matrix. -/
theorem J1_ref (X : Valuation τ sig (Elt Ideal)) (hK : Consts X) (m : Fin 16384) (k i : Fin 3) :
    after mul1 X main_while0b_v155 (ix3 m k i) = jm 0 2 (X main_while0b_v140 (ix1 m)) (X main_while0b_v141 (ix1 m)) k i := by
  unfold jm
  rw [← hK.k1 k i, ← hK.k2 k i, ← hK.k3 k i]
  after_reads_at
  rfl

/-- The products. -/
theorem A1_mul (X : Valuation τ sig (Elt Ideal)) :
    after mul1 X main_while0b_v157 = Host.dotGeneral (F := Ideal) (φ₁ := .f32) (φ₂ := .f32) dot_S16384x3x3_S16384x3x3_S16384x3x3_2_1_1_2_0_0 none
      (Host.dotGeneral (F := Ideal) (φ₁ := .f32) (φ₂ := .f32) dot_S16384x3x3_S16384x3x3_S16384x3x3_1_1_2_2_0_0 none (after mul1 X main_while0b_v155) (X main_v49_12))
      (after mul1 X main_while0b_v155) := by
  after_reads_simp

/-- The vectors after the first rotation. -/
theorem V1_mul (X : Valuation τ sig (Elt Ideal)) :
    after mul1 X main_while0b_v158 = Host.dotGeneral (F := Ideal) (φ₁ := .f32) (φ₂ := .f32) dot_S16384x3x3_S16384x3x3_S16384x3x3_2_1_1_2_0_0 none (X main_v49_13)
      (after mul1 X main_while0b_v155) := by
  after_reads_simp

/-- The three lists of the rotation in a row. -/
def rot1 (X : Valuation τ sig (Elt Ideal)) : Valuation τ sig (Elt Ideal) := after mul1 (after sin1 (after ang1 X))

/-- What the rotation leaves alone. -/
theorem rot1_keep (X : Valuation τ sig (Elt Ideal)) (r : Ref sig .tc) (h₁ : r ∉ mul1_W) (h₂ : r ∉ sin1_W) (h₃ : r ∉ ang1_W) :
    rot1 X r = X r := by
  unfold rot1
  rw [mul1_keep _ r h₁, sin1_keep _ r h₂, ang1_keep _ r h₃]

/-- The constants before the products. -/
theorem consts_sin1 (X : Valuation τ sig (Elt Ideal)) (hK : Consts X) : Consts (after sin1 (after ang1 X)) := by
  constructor <;> intro k i
  · rw [sin1_keep _ main_v49_1 (by decide), ang1_keep _ main_v49_1 (by decide)]; exact hK.k1 k i
  · rw [sin1_keep _ main_v49_2 (by decide), ang1_keep _ main_v49_2 (by decide)]; exact hK.k2 k i
  · rw [sin1_keep _ main_v49_3 (by decide), ang1_keep _ main_v49_3 (by decide)]; exact hK.k3 k i
  · rw [sin1_keep _ main_v49_4 (by decide), ang1_keep _ main_v49_4 (by decide)]; exact hK.k4 k i
  · rw [sin1_keep _ main_v49_5 (by decide), ang1_keep _ main_v49_5 (by decide)]; exact hK.k5 k i
  · rw [sin1_keep _ main_v49_6 (by decide), ang1_keep _ main_v49_6 (by decide)]; exact hK.k6 k i
  · rw [sin1_keep _ main_v49_7 (by decide), ang1_keep _ main_v49_7 (by decide)]; exact hK.k7 k i
  · rw [sin1_keep _ main_v49_8 (by decide), ang1_keep _ main_v49_8 (by decide)]; exact hK.k8 k i
  · rw [sin1_keep _ main_v49_9 (by decide), ang1_keep _ main_v49_9 (by decide)]; exact hK.k9 k i

/-- The constants after the rotation. -/
theorem consts_rot1 (X : Valuation τ sig (Elt Ideal)) (hK : Consts X) : Consts (rot1 X) := by
  constructor <;> intro k i
  · rw [rot1_keep _ main_v49_1 (by decide) (by decide) (by decide)]; exact hK.k1 k i
  · rw [rot1_keep _ main_v49_2 (by decide) (by decide) (by decide)]; exact hK.k2 k i
  · rw [rot1_keep _ main_v49_3 (by decide) (by decide) (by decide)]; exact hK.k3 k i
  · rw [rot1_keep _ main_v49_4 (by decide) (by decide) (by decide)]; exact hK.k4 k i
  · rw [rot1_keep _ main_v49_5 (by decide) (by decide) (by decide)]; exact hK.k5 k i
  · rw [rot1_keep _ main_v49_6 (by decide) (by decide) (by decide)]; exact hK.k6 k i
  · rw [rot1_keep _ main_v49_7 (by decide) (by decide) (by decide)]; exact hK.k7 k i
  · rw [rot1_keep _ main_v49_8 (by decide) (by decide) (by decide)]; exact hK.k8 k i
  · rw [rot1_keep _ main_v49_9 (by decide) (by decide) (by decide)]; exact hK.k9 k i

/-- The matrix after the rotation. -/
theorem rot1_A (X : Valuation τ sig (Elt Ideal)) (hK : Consts X) (m : Fin 16384) :
    mat (rot1 X main_while0b_v157) m = turnA 0 2 (done (X main_v49_0 (ix1 m)) (mat (X main_v49_12) m)) (mat (X main_v49_12) m) := by
  have hc : after sin1 (after ang1 X) main_while0b_v140 (ix1 m) = cosA 0 2 (done (X main_v49_0 (ix1 m)) (mat (X main_v49_12) m)) (mat (X main_v49_12) m) := by
    rw [sin1_keep _ main_while0b_v140 (by decide)]; exact cos1_ref X m
  have hs := sin1_ref X m
  have hA : after sin1 (after ang1 X) main_v49_12 = X main_v49_12 := by
    rw [sin1_keep _ main_v49_12 (by decide), ang1_keep _ main_v49_12 (by decide)]
  have hJ : ∀ k i, after mul1 (after sin1 (after ang1 X)) main_while0b_v155 (ix3 m k i)
      = jm 0 2 (cosA 0 2 (done (X main_v49_0 (ix1 m)) (mat (X main_v49_12) m)) (mat (X main_v49_12) m)) (sinA 0 2 (done (X main_v49_0 (ix1 m)) (mat (X main_v49_12) m)) (mat (X main_v49_12) m)) k i := fun k i => by
    rw [J1_ref _ (consts_sin1 X hK) m k i, hc, hs]
  funext i j
  show rot1 X main_while0b_v157 (ix3 m i j) = _
  unfold rot1
  rw [A1_mul, hA]
  refine (dot_apply _ _ m i j).trans ?_
  simp only [dotT_apply, hJ]
  refine (jm_col02 _ _ (fun i k => ∑ l : Fin 3, jm 0 2 _ _ l i * X main_v49_12 (ix3 m l k)) i j).trans ?_
  exact congrFun (congrFun (congrArg (colT 0 2 _ _) (funext fun i => funext fun k => jm_row02 _ _ (mat (X main_v49_12) m) i k)) i) j

/-- The vectors after the rotation. -/
theorem rot1_V (X : Valuation τ sig (Elt Ideal)) (hK : Consts X) (m : Fin 16384) :
    mat (rot1 X main_while0b_v158) m = turnV 0 2 (done (X main_v49_0 (ix1 m)) (mat (X main_v49_12) m)) (mat (X main_v49_12) m) (mat (X main_v49_13) m) := by
  have hc : after sin1 (after ang1 X) main_while0b_v140 (ix1 m) = cosA 0 2 (done (X main_v49_0 (ix1 m)) (mat (X main_v49_12) m)) (mat (X main_v49_12) m) := by
    rw [sin1_keep _ main_while0b_v140 (by decide)]; exact cos1_ref X m
  have hs := sin1_ref X m
  have hV : after sin1 (after ang1 X) main_v49_13 = X main_v49_13 := by
    rw [sin1_keep _ main_v49_13 (by decide), ang1_keep _ main_v49_13 (by decide)]
  have hJ : ∀ k i, after mul1 (after sin1 (after ang1 X)) main_while0b_v155 (ix3 m k i)
      = jm 0 2 (cosA 0 2 (done (X main_v49_0 (ix1 m)) (mat (X main_v49_12) m)) (mat (X main_v49_12) m)) (sinA 0 2 (done (X main_v49_0 (ix1 m)) (mat (X main_v49_12) m)) (mat (X main_v49_12) m)) k i := fun k i => by
    rw [J1_ref _ (consts_sin1 X hK) m k i, hc, hs]
  funext i j
  show rot1 X main_while0b_v158 (ix3 m i j) = _
  unfold rot1
  rw [V1_mul, hV]
  refine (dot_apply _ _ m i j).trans ?_
  simp only [hJ]
  exact jm_col02 _ _ (mat (X main_v49_13) m) i j

/-! ### Rotation 2 -/

/-- The cosine. -/
theorem cos2_ref (X : Valuation τ sig (Elt Ideal)) (m : Fin 16384) :
    after ang2 X main_while0b_v192 (ix1 m) = cosA 1 2 (X main_while0b_v106 (ix1 m)) (mat (X main_while0b_v157) m) := by
  after_reads_at
  simp only [cosA, cosOf, cosRaw, tanOf, tau, skip, done, mat, minus_one]
  pointwise
  rfl

/-- The sine. -/
theorem sin2_ref (X : Valuation τ sig (Elt Ideal)) (m : Fin 16384) :
    after sin2 (after ang2 X) main_while0b_v193 (ix1 m) = sinA 1 2 (X main_while0b_v106 (ix1 m)) (mat (X main_while0b_v157) m) := by
  after_reads_at
  simp only [sinA, sinOf, cosRaw, tanOf, tau, skip, done, mat, minus_one]
  pointwise
  rfl

/-- The rotation matrix. -/
theorem J2_ref (X : Valuation τ sig (Elt Ideal)) (hK : Consts X) (m : Fin 16384) (k i : Fin 3) :
    after mul2 X main_while0b_v207 (ix3 m k i) = jm 1 2 (X main_while0b_v192 (ix1 m)) (X main_while0b_v193 (ix1 m)) k i := by
  unfold jm
  rw [← hK.k4 k i, ← hK.k5 k i, ← hK.k6 k i]
  after_reads_at
  rfl

/-- The products. -/
theorem A2_mul (X : Valuation τ sig (Elt Ideal)) :
    after mul2 X main_while0b_v209 = Host.dotGeneral (F := Ideal) (φ₁ := .f32) (φ₂ := .f32) dot_S16384x3x3_S16384x3x3_S16384x3x3_2_1_1_2_0_0 none
      (Host.dotGeneral (F := Ideal) (φ₁ := .f32) (φ₂ := .f32) dot_S16384x3x3_S16384x3x3_S16384x3x3_1_1_2_2_0_0 none (after mul2 X main_while0b_v207) (X main_while0b_v157))
      (after mul2 X main_while0b_v207) := by
  after_reads_simp

/-- The vectors after the second rotation. -/
theorem V2_mul (X : Valuation τ sig (Elt Ideal)) :
    after mul2 X main_while0b_v210 = Host.dotGeneral (F := Ideal) (φ₁ := .f32) (φ₂ := .f32) dot_S16384x3x3_S16384x3x3_S16384x3x3_2_1_1_2_0_0 none (X main_while0b_v158)
      (after mul2 X main_while0b_v207) := by
  after_reads_simp

/-- The three lists of the rotation in a row. -/
def rot2 (X : Valuation τ sig (Elt Ideal)) : Valuation τ sig (Elt Ideal) := after mul2 (after sin2 (after ang2 X))

/-- What the rotation leaves alone. -/
theorem rot2_keep (X : Valuation τ sig (Elt Ideal)) (r : Ref sig .tc) (h₁ : r ∉ mul2_W) (h₂ : r ∉ sin2_W) (h₃ : r ∉ ang2_W) :
    rot2 X r = X r := by
  unfold rot2
  rw [mul2_keep _ r h₁, sin2_keep _ r h₂, ang2_keep _ r h₃]

/-- The constants before the products. -/
theorem consts_sin2 (X : Valuation τ sig (Elt Ideal)) (hK : Consts X) : Consts (after sin2 (after ang2 X)) := by
  constructor <;> intro k i
  · rw [sin2_keep _ main_v49_1 (by decide), ang2_keep _ main_v49_1 (by decide)]; exact hK.k1 k i
  · rw [sin2_keep _ main_v49_2 (by decide), ang2_keep _ main_v49_2 (by decide)]; exact hK.k2 k i
  · rw [sin2_keep _ main_v49_3 (by decide), ang2_keep _ main_v49_3 (by decide)]; exact hK.k3 k i
  · rw [sin2_keep _ main_v49_4 (by decide), ang2_keep _ main_v49_4 (by decide)]; exact hK.k4 k i
  · rw [sin2_keep _ main_v49_5 (by decide), ang2_keep _ main_v49_5 (by decide)]; exact hK.k5 k i
  · rw [sin2_keep _ main_v49_6 (by decide), ang2_keep _ main_v49_6 (by decide)]; exact hK.k6 k i
  · rw [sin2_keep _ main_v49_7 (by decide), ang2_keep _ main_v49_7 (by decide)]; exact hK.k7 k i
  · rw [sin2_keep _ main_v49_8 (by decide), ang2_keep _ main_v49_8 (by decide)]; exact hK.k8 k i
  · rw [sin2_keep _ main_v49_9 (by decide), ang2_keep _ main_v49_9 (by decide)]; exact hK.k9 k i

/-- The constants after the rotation. -/
theorem consts_rot2 (X : Valuation τ sig (Elt Ideal)) (hK : Consts X) : Consts (rot2 X) := by
  constructor <;> intro k i
  · rw [rot2_keep _ main_v49_1 (by decide) (by decide) (by decide)]; exact hK.k1 k i
  · rw [rot2_keep _ main_v49_2 (by decide) (by decide) (by decide)]; exact hK.k2 k i
  · rw [rot2_keep _ main_v49_3 (by decide) (by decide) (by decide)]; exact hK.k3 k i
  · rw [rot2_keep _ main_v49_4 (by decide) (by decide) (by decide)]; exact hK.k4 k i
  · rw [rot2_keep _ main_v49_5 (by decide) (by decide) (by decide)]; exact hK.k5 k i
  · rw [rot2_keep _ main_v49_6 (by decide) (by decide) (by decide)]; exact hK.k6 k i
  · rw [rot2_keep _ main_v49_7 (by decide) (by decide) (by decide)]; exact hK.k7 k i
  · rw [rot2_keep _ main_v49_8 (by decide) (by decide) (by decide)]; exact hK.k8 k i
  · rw [rot2_keep _ main_v49_9 (by decide) (by decide) (by decide)]; exact hK.k9 k i

/-- The matrix after the rotation. -/
theorem rot2_A (X : Valuation τ sig (Elt Ideal)) (hK : Consts X) (m : Fin 16384) :
    mat (rot2 X main_while0b_v209) m = turnA 1 2 (X main_while0b_v106 (ix1 m)) (mat (X main_while0b_v157) m) := by
  have hc : after sin2 (after ang2 X) main_while0b_v192 (ix1 m) = cosA 1 2 (X main_while0b_v106 (ix1 m)) (mat (X main_while0b_v157) m) := by
    rw [sin2_keep _ main_while0b_v192 (by decide)]; exact cos2_ref X m
  have hs := sin2_ref X m
  have hA : after sin2 (after ang2 X) main_while0b_v157 = X main_while0b_v157 := by
    rw [sin2_keep _ main_while0b_v157 (by decide), ang2_keep _ main_while0b_v157 (by decide)]
  have hJ : ∀ k i, after mul2 (after sin2 (after ang2 X)) main_while0b_v207 (ix3 m k i)
      = jm 1 2 (cosA 1 2 (X main_while0b_v106 (ix1 m)) (mat (X main_while0b_v157) m)) (sinA 1 2 (X main_while0b_v106 (ix1 m)) (mat (X main_while0b_v157) m)) k i := fun k i => by
    rw [J2_ref _ (consts_sin2 X hK) m k i, hc, hs]
  funext i j
  show rot2 X main_while0b_v209 (ix3 m i j) = _
  unfold rot2
  rw [A2_mul, hA]
  refine (dot_apply _ _ m i j).trans ?_
  simp only [dotT_apply, hJ]
  refine (jm_col12 _ _ (fun i k => ∑ l : Fin 3, jm 1 2 _ _ l i * X main_while0b_v157 (ix3 m l k)) i j).trans ?_
  exact congrFun (congrFun (congrArg (colT 1 2 _ _) (funext fun i => funext fun k => jm_row12 _ _ (mat (X main_while0b_v157) m) i k)) i) j

/-- The vectors after the rotation. -/
theorem rot2_V (X : Valuation τ sig (Elt Ideal)) (hK : Consts X) (m : Fin 16384) :
    mat (rot2 X main_while0b_v210) m = turnV 1 2 (X main_while0b_v106 (ix1 m)) (mat (X main_while0b_v157) m) (mat (X main_while0b_v158) m) := by
  have hc : after sin2 (after ang2 X) main_while0b_v192 (ix1 m) = cosA 1 2 (X main_while0b_v106 (ix1 m)) (mat (X main_while0b_v157) m) := by
    rw [sin2_keep _ main_while0b_v192 (by decide)]; exact cos2_ref X m
  have hs := sin2_ref X m
  have hV : after sin2 (after ang2 X) main_while0b_v158 = X main_while0b_v158 := by
    rw [sin2_keep _ main_while0b_v158 (by decide), ang2_keep _ main_while0b_v158 (by decide)]
  have hJ : ∀ k i, after mul2 (after sin2 (after ang2 X)) main_while0b_v207 (ix3 m k i)
      = jm 1 2 (cosA 1 2 (X main_while0b_v106 (ix1 m)) (mat (X main_while0b_v157) m)) (sinA 1 2 (X main_while0b_v106 (ix1 m)) (mat (X main_while0b_v157) m)) k i := fun k i => by
    rw [J2_ref _ (consts_sin2 X hK) m k i, hc, hs]
  funext i j
  show rot2 X main_while0b_v210 (ix3 m i j) = _
  unfold rot2
  rw [V2_mul, hV]
  refine (dot_apply _ _ m i j).trans ?_
  simp only [hJ]
  exact jm_col12 _ _ (mat (X main_while0b_v158) m) i j

/-! ### Rotation 3 -/

/-- The cosine. -/
theorem cos3_ref (X : Valuation τ sig (Elt Ideal)) (m : Fin 16384) :
    after ang3 X main_while0b_v244 (ix1 m) = cosA 0 1 (X main_while0b_v106 (ix1 m)) (mat (X main_while0b_v209) m) := by
  after_reads_at
  simp only [cosA, cosOf, cosRaw, tanOf, tau, skip, done, mat, minus_one]
  pointwise
  rfl

/-- The sine. -/
theorem sin3_ref (X : Valuation τ sig (Elt Ideal)) (m : Fin 16384) :
    after sin3 (after ang3 X) main_while0b_v245 (ix1 m) = sinA 0 1 (X main_while0b_v106 (ix1 m)) (mat (X main_while0b_v209) m) := by
  after_reads_at
  simp only [sinA, sinOf, cosRaw, tanOf, tau, skip, done, mat, minus_one]
  pointwise
  rfl

/-- The rotation matrix. -/
theorem J3_ref (X : Valuation τ sig (Elt Ideal)) (hK : Consts X) (m : Fin 16384) (k i : Fin 3) :
    after mul3 X main_while0b_v259 (ix3 m k i) = jm 0 1 (X main_while0b_v244 (ix1 m)) (X main_while0b_v245 (ix1 m)) k i := by
  unfold jm
  rw [← hK.k7 k i, ← hK.k8 k i, ← hK.k9 k i]
  after_reads_at
  rfl

/-- The products. -/
theorem A3_mul (X : Valuation τ sig (Elt Ideal)) :
    after mul3 X main_while0b_v261 = Host.dotGeneral (F := Ideal) (φ₁ := .f32) (φ₂ := .f32) dot_S16384x3x3_S16384x3x3_S16384x3x3_2_1_1_2_0_0 none
      (Host.dotGeneral (F := Ideal) (φ₁ := .f32) (φ₂ := .f32) dot_S16384x3x3_S16384x3x3_S16384x3x3_1_1_2_2_0_0 none (after mul3 X main_while0b_v259) (X main_while0b_v209))
      (after mul3 X main_while0b_v259) := by
  after_reads_simp

/-- The vectors after the third rotation. -/
theorem V3_mul (X : Valuation τ sig (Elt Ideal)) :
    after mul3 X main_while0b_v262 = Host.dotGeneral (F := Ideal) (φ₁ := .f32) (φ₂ := .f32) dot_S16384x3x3_S16384x3x3_S16384x3x3_2_1_1_2_0_0 none (X main_while0b_v210)
      (after mul3 X main_while0b_v259) := by
  after_reads_simp

/-- The three lists of the rotation in a row. -/
def rot3 (X : Valuation τ sig (Elt Ideal)) : Valuation τ sig (Elt Ideal) := after mul3 (after sin3 (after ang3 X))

/-- What the rotation leaves alone. -/
theorem rot3_keep (X : Valuation τ sig (Elt Ideal)) (r : Ref sig .tc) (h₁ : r ∉ mul3_W) (h₂ : r ∉ sin3_W) (h₃ : r ∉ ang3_W) :
    rot3 X r = X r := by
  unfold rot3
  rw [mul3_keep _ r h₁, sin3_keep _ r h₂, ang3_keep _ r h₃]

/-- The constants before the products. -/
theorem consts_sin3 (X : Valuation τ sig (Elt Ideal)) (hK : Consts X) : Consts (after sin3 (after ang3 X)) := by
  constructor <;> intro k i
  · rw [sin3_keep _ main_v49_1 (by decide), ang3_keep _ main_v49_1 (by decide)]; exact hK.k1 k i
  · rw [sin3_keep _ main_v49_2 (by decide), ang3_keep _ main_v49_2 (by decide)]; exact hK.k2 k i
  · rw [sin3_keep _ main_v49_3 (by decide), ang3_keep _ main_v49_3 (by decide)]; exact hK.k3 k i
  · rw [sin3_keep _ main_v49_4 (by decide), ang3_keep _ main_v49_4 (by decide)]; exact hK.k4 k i
  · rw [sin3_keep _ main_v49_5 (by decide), ang3_keep _ main_v49_5 (by decide)]; exact hK.k5 k i
  · rw [sin3_keep _ main_v49_6 (by decide), ang3_keep _ main_v49_6 (by decide)]; exact hK.k6 k i
  · rw [sin3_keep _ main_v49_7 (by decide), ang3_keep _ main_v49_7 (by decide)]; exact hK.k7 k i
  · rw [sin3_keep _ main_v49_8 (by decide), ang3_keep _ main_v49_8 (by decide)]; exact hK.k8 k i
  · rw [sin3_keep _ main_v49_9 (by decide), ang3_keep _ main_v49_9 (by decide)]; exact hK.k9 k i

/-- The constants after the rotation. -/
theorem consts_rot3 (X : Valuation τ sig (Elt Ideal)) (hK : Consts X) : Consts (rot3 X) := by
  constructor <;> intro k i
  · rw [rot3_keep _ main_v49_1 (by decide) (by decide) (by decide)]; exact hK.k1 k i
  · rw [rot3_keep _ main_v49_2 (by decide) (by decide) (by decide)]; exact hK.k2 k i
  · rw [rot3_keep _ main_v49_3 (by decide) (by decide) (by decide)]; exact hK.k3 k i
  · rw [rot3_keep _ main_v49_4 (by decide) (by decide) (by decide)]; exact hK.k4 k i
  · rw [rot3_keep _ main_v49_5 (by decide) (by decide) (by decide)]; exact hK.k5 k i
  · rw [rot3_keep _ main_v49_6 (by decide) (by decide) (by decide)]; exact hK.k6 k i
  · rw [rot3_keep _ main_v49_7 (by decide) (by decide) (by decide)]; exact hK.k7 k i
  · rw [rot3_keep _ main_v49_8 (by decide) (by decide) (by decide)]; exact hK.k8 k i
  · rw [rot3_keep _ main_v49_9 (by decide) (by decide) (by decide)]; exact hK.k9 k i

/-- The matrix after the rotation. -/
theorem rot3_A (X : Valuation τ sig (Elt Ideal)) (hK : Consts X) (m : Fin 16384) :
    mat (rot3 X main_while0b_v261) m = turnA 0 1 (X main_while0b_v106 (ix1 m)) (mat (X main_while0b_v209) m) := by
  have hc : after sin3 (after ang3 X) main_while0b_v244 (ix1 m) = cosA 0 1 (X main_while0b_v106 (ix1 m)) (mat (X main_while0b_v209) m) := by
    rw [sin3_keep _ main_while0b_v244 (by decide)]; exact cos3_ref X m
  have hs := sin3_ref X m
  have hA : after sin3 (after ang3 X) main_while0b_v209 = X main_while0b_v209 := by
    rw [sin3_keep _ main_while0b_v209 (by decide), ang3_keep _ main_while0b_v209 (by decide)]
  have hJ : ∀ k i, after mul3 (after sin3 (after ang3 X)) main_while0b_v259 (ix3 m k i)
      = jm 0 1 (cosA 0 1 (X main_while0b_v106 (ix1 m)) (mat (X main_while0b_v209) m)) (sinA 0 1 (X main_while0b_v106 (ix1 m)) (mat (X main_while0b_v209) m)) k i := fun k i => by
    rw [J3_ref _ (consts_sin3 X hK) m k i, hc, hs]
  funext i j
  show rot3 X main_while0b_v261 (ix3 m i j) = _
  unfold rot3
  rw [A3_mul, hA]
  refine (dot_apply _ _ m i j).trans ?_
  simp only [dotT_apply, hJ]
  refine (jm_col01 _ _ (fun i k => ∑ l : Fin 3, jm 0 1 _ _ l i * X main_while0b_v209 (ix3 m l k)) i j).trans ?_
  exact congrFun (congrFun (congrArg (colT 0 1 _ _) (funext fun i => funext fun k => jm_row01 _ _ (mat (X main_while0b_v209) m) i k)) i) j

/-- The vectors after the rotation. -/
theorem rot3_V (X : Valuation τ sig (Elt Ideal)) (hK : Consts X) (m : Fin 16384) :
    mat (rot3 X main_while0b_v262) m = turnV 0 1 (X main_while0b_v106 (ix1 m)) (mat (X main_while0b_v209) m) (mat (X main_while0b_v210) m) := by
  have hc : after sin3 (after ang3 X) main_while0b_v244 (ix1 m) = cosA 0 1 (X main_while0b_v106 (ix1 m)) (mat (X main_while0b_v209) m) := by
    rw [sin3_keep _ main_while0b_v244 (by decide)]; exact cos3_ref X m
  have hs := sin3_ref X m
  have hV : after sin3 (after ang3 X) main_while0b_v210 = X main_while0b_v210 := by
    rw [sin3_keep _ main_while0b_v210 (by decide), ang3_keep _ main_while0b_v210 (by decide)]
  have hJ : ∀ k i, after mul3 (after sin3 (after ang3 X)) main_while0b_v259 (ix3 m k i)
      = jm 0 1 (cosA 0 1 (X main_while0b_v106 (ix1 m)) (mat (X main_while0b_v209) m)) (sinA 0 1 (X main_while0b_v106 (ix1 m)) (mat (X main_while0b_v209) m)) k i := fun k i => by
    rw [J3_ref _ (consts_sin3 X hK) m k i, hc, hs]
  funext i j
  show rot3 X main_while0b_v262 (ix3 m i j) = _
  unfold rot3
  rw [V3_mul, hV]
  refine (dot_apply _ _ m i j).trans ?_
  simp only [hJ]
  exact jm_col01 _ _ (mat (X main_while0b_v210) m) i j

/-! ### The whole trip -/

/-- The trip, rotation by rotation. -/
theorem trip_eq (X : Valuation τ sig (Elt Ideal)) :
    trip X = after tailOps (rot3 (rot2 (rot1 (after ctrOp (after condOps X))))) := rfl

/-- What the copies at the trip's end carry. -/
theorem tail_A (X : Valuation τ sig (Elt Ideal)) : after tailOps X main_v49_12 = X main_while0b_v261 := by
  after_reads_simp
  rfl
/-- What the copies at the trip's end carry of the vectors. -/
theorem tail_V (X : Valuation τ sig (Elt Ideal)) : after tailOps X main_v49_13 = X main_while0b_v262 := by
  after_reads_simp
  rfl

/-- Before the first rotation a carried buffer is as it was. -/
theorem start_keep (X : Valuation τ sig (Elt Ideal)) (r : Ref sig .tc) (h₁ : r ∉ ctrOp_W)
    (h₂ : r ∉ ([main_while0c_c_39, main_while0c_v91] : List (Ref sig .tc))) : after ctrOp (after condOps X) r = X r := by
  rw [ctrOp_keep _ r h₁, condOps_unwritten X r h₂]

/-- The constants and the tolerance are carried unchanged. -/
theorem trip_keep (X : Valuation τ sig (Elt Ideal)) (r : Ref sig .tc) (h : r ∈ ([main_v49_0, main_v49_1, main_v49_2, main_v49_3, main_v49_4, main_v49_5, main_v49_6, main_v49_7, main_v49_8, main_v49_9] : List (Ref sig .tc))) :
    trip X r = X r := by
  rw [trip_eq]
  simp only [List.mem_cons, List.not_mem_nil, or_false] at h
  rcases h with rfl | rfl | rfl | rfl | rfl | rfl | rfl | rfl | rfl | rfl <;>
  · rw [tailOps_keep _ _ (by decide), rot3_keep _ _ (by decide) (by decide) (by decide), rot2_keep _ _ (by decide) (by decide) (by decide),
      rot1_keep _ _ (by decide) (by decide) (by decide), start_keep _ _ (by decide) (by decide)]

/-- The constants hold after a trip. -/
theorem consts_trip (X : Valuation τ sig (Elt Ideal)) (hK : Consts X) : Consts (trip X) := by
  constructor <;> intro k i
  · rw [trip_keep X main_v49_1 (by decide)]; exact hK.k1 k i
  · rw [trip_keep X main_v49_2 (by decide)]; exact hK.k2 k i
  · rw [trip_keep X main_v49_3 (by decide)]; exact hK.k3 k i
  · rw [trip_keep X main_v49_4 (by decide)]; exact hK.k4 k i
  · rw [trip_keep X main_v49_5 (by decide)]; exact hK.k5 k i
  · rw [trip_keep X main_v49_6 (by decide)]; exact hK.k6 k i
  · rw [trip_keep X main_v49_7 (by decide)]; exact hK.k7 k i
  · rw [trip_keep X main_v49_8 (by decide)]; exact hK.k8 k i
  · rw [trip_keep X main_v49_9 (by decide)]; exact hK.k9 k i

/-- The constants hold behind the trip's first operations. -/
theorem consts_start (X : Valuation τ sig (Elt Ideal)) (hK : Consts X) : Consts (after ctrOp (after condOps X)) := by
  constructor <;> intro k i
  · rw [start_keep X main_v49_1 (by decide) (by decide)]; exact hK.k1 k i
  · rw [start_keep X main_v49_2 (by decide) (by decide)]; exact hK.k2 k i
  · rw [start_keep X main_v49_3 (by decide) (by decide)]; exact hK.k3 k i
  · rw [start_keep X main_v49_4 (by decide) (by decide)]; exact hK.k4 k i
  · rw [start_keep X main_v49_5 (by decide) (by decide)]; exact hK.k5 k i
  · rw [start_keep X main_v49_6 (by decide) (by decide)]; exact hK.k6 k i
  · rw [start_keep X main_v49_7 (by decide) (by decide)]; exact hK.k7 k i
  · rw [start_keep X main_v49_8 (by decide) (by decide)]; exact hK.k8 k i
  · rw [start_keep X main_v49_9 (by decide) (by decide)]; exact hK.k9 k i

/-- One trip is one sweep of every matrix. -/
theorem trip_sweep (X : Valuation τ sig (Elt Ideal)) (hK : Consts X) (m : Fin 16384) :
    (mat (trip X main_v49_12) m, mat (trip X main_v49_13) m)
      = sweepS (X main_v49_0 (ix1 m)) (mat (X main_v49_12) m, mat (X main_v49_13) m) := by
  rw [trip_eq, tail_A, tail_V]
  have h0 := consts_start X hK
  have h1 := consts_rot1 _ h0
  have h2 := consts_rot2 _ h1
  have e0 : after ctrOp (after condOps X) main_v49_0 = X main_v49_0 := start_keep X _ (by decide) (by decide)
  have eA : after ctrOp (after condOps X) main_v49_12 = X main_v49_12 := start_keep X _ (by decide) (by decide)
  have eV : after ctrOp (after condOps X) main_v49_13 = X main_v49_13 := start_keep X _ (by decide) (by decide)
  generalize after ctrOp (after condOps X) = Y at *
  have d1 : rot1 Y main_while0b_v106 (ix1 m) = done (Y main_v49_0 (ix1 m)) (mat (Y main_v49_12) m) := by
    unfold rot1
    rw [mul1_keep _ main_while0b_v106 (by decide), sin1_keep _ main_while0b_v106 (by decide)]
    exact done_ref Y m
  have d2 : rot2 (rot1 Y) main_while0b_v106 = rot1 Y main_while0b_v106 := rot2_keep _ _ (by decide) (by decide) (by decide)
  rw [rot3_A _ h2 m, rot3_V _ h2 m, rot2_A _ h1 m, rot2_V _ h1 m, rot1_A _ h0 m, rot1_V _ h0 m, d2, d1, e0, eA, eV]
  rfl

end Cert.ReferenceIdeal.Jacobi

end
-- ==== Proof.Sort.lean ====
/-
  Three keys in order: the kernel's three exchanges and a stable sort give the same order.
-/
module

public import proofs.«01_k».proof.Proof.Jacobi
public import Idealize.ShloMosaic.Lib.Pipeline.ValueKit

@[expose] public section

set_option maxRecDepth 8192

noncomputable section

namespace Cert.Jacobi

open Idealize.ShloMosaic

/-- A relation on three places, by its six values off the diagonal. -/
def table (b01 b02 b10 b12 b20 b21 : Bool) (a b : Fin 3) : Bool :=
  (![![false, b01, b02], ![b10, false, b12], ![b20, b21, false]] : Fin 3 → Fin 3 → Bool) a b

/-- The exchanges on places. -/
def swap01 (T : Fin 3 → Fin 3 → Bool) (p : Fin 3 × Fin 3 × Fin 3) : Fin 3 × Fin 3 × Fin 3 :=
  if T p.2.1 p.1 then (p.2.1, p.1, p.2.2) else p
def swap12 (T : Fin 3 → Fin 3 → Bool) (p : Fin 3 × Fin 3 × Fin 3) : Fin 3 × Fin 3 × Fin 3 :=
  if T p.2.2 p.2.1 then (p.1, p.2.2, p.2.1) else p
def places (T : Fin 3 → Fin 3 → Bool) : Fin 3 × Fin 3 × Fin 3 := swap01 T (swap12 T (swap01 T (0, 1, 2)))
def place (p : Fin 3 × Fin 3 × Fin 3) (k : Fin 3) : Fin 3 := (![p.1, p.2.1, p.2.2] : Fin 3 → Fin 3) k

/-- For a strict order the exchanges find the stable sort's places. -/
theorem sorted_places : ∀ b01 b02 b10 b12 b20 b21 : Bool,
    (∀ i j k, table b01 b02 b10 b12 b20 b21 i j = true → table b01 b02 b10 b12 b20 b21 j k = true → table b01 b02 b10 b12 b20 b21 i k = true) →
    (∀ i j k, table b01 b02 b10 b12 b20 b21 i j = false → table b01 b02 b10 b12 b20 b21 j k = false → table b01 b02 b10 b12 b20 b21 i k = false) →
    ∀ k, sortedFrom (table b01 b02 b10 b12 b20 b21) k = place (places (table b01 b02 b10 b12 b20 b21)) k := by
  decide

/-- The order of three keys, by place. -/
theorem sorted_keys (f : Fin 3 → EReal) (k : Fin 3) :
    sortedFrom (fun a b : Fin 3 => decide (f a < f b)) k = place (places fun a b => decide (f a < f b)) k := by
  have e : (fun a b : Fin 3 => decide (f a < f b)) = table (decide (f 0 < f 1)) (decide (f 0 < f 2)) (decide (f 1 < f 0))
      (decide (f 1 < f 2)) (decide (f 2 < f 0)) (decide (f 2 < f 1)) := by
    funext a b
    fin_cases a <;> fin_cases b <;> simp [table]
  have h1 : ∀ i j k : Fin 3, decide (f i < f j) = true → decide (f j < f k) = true → decide (f i < f k) = true := by
    intro i j k h h'
    simp only [decide_eq_true_eq] at *
    exact h.trans h'
  have h2 : ∀ i j k : Fin 3, decide (f i < f j) = false → decide (f j < f k) = false → decide (f i < f k) = false := by
    intro i j k h h'
    simp only [decide_eq_false_iff_not, not_lt] at *
    exact h'.trans h
  have e' : ∀ a b, decide (f a < f b) = table (decide (f 0 < f 1)) (decide (f 0 < f 2)) (decide (f 1 < f 0))
      (decide (f 1 < f 2)) (decide (f 2 < f 0)) (decide (f 2 < f 1)) a b := fun a b => congrFun (congrFun e a) b
  rw [e]
  refine sorted_places _ _ _ _ _ _ ?_ ?_ k
  · intro i j k; rw [← e', ← e', ← e']; exact h1 i j k
  · intro i j k; rw [← e', ← e', ← e']; exact h2 i j k

/-- A choice by a comparison. -/
theorem select_lt {α : Type} (x y : EReal) (a b : α) :
    Scalar.select (exch (F := Ideal) x y) a b = if y < x then a else b := by
  show (if BitVec.ofBool (decide (y < x)) = 1#1 then a else b) = _
  by_cases h : y < x <;> simp [h]

/-- The followers in the keys' order. -/
theorem order_followers (f g : Fin 3 → EReal) (k : Fin 3) :
    w3 (F := Ideal) (order (F := Ideal) ((f 0, f 1, f 2), (g 0, g 1, g 2))).2 k
      = g (place (places fun a b => decide (f a < f b)) k) := by
  simp only [order, step01, step12, select_lt, places, swap01, swap12]
  by_cases h10 : f 1 < f 0 <;> by_cases h20 : f 2 < f 0 <;> by_cases h21 : f 2 < f 1 <;> by_cases h01 : f 0 < f 1 <;>
    simp [h10, h20, h21, h01] <;> fin_cases k <;> rfl

/-- The keys in their order. -/
theorem order_keys (f : Fin 3 → EReal) (k : Fin 3) :
    w3 (F := Ideal) (order (F := Ideal) ((f 0, f 1, f 2), (f 0, f 1, f 2))).1 k
      = f (place (places fun a b => decide (f a < f b)) k) := by
  simp only [order, step01, step12, select_lt, places, swap01, swap12]
  by_cases h10 : f 1 < f 0 <;> by_cases h20 : f 2 < f 0 <;> by_cases h21 : f 2 < f 1 <;> by_cases h01 : f 0 < f 1 <;>
    simp [h10, h20, h21, h01] <;> fin_cases k <;> rfl

/-- A stable sort of three followers by their keys, and of the keys. -/
theorem sorted_followers (A V : M3 Ideal) (i k : Fin 3) :
    V i (sortedFrom (fun a b : Fin 3 => decide (A a a < A b b)) k) = eigVecs A V i k := by
  rw [sorted_keys (fun a => A a a)]
  exact (order_followers (fun a => A a a) (V i) k).symm
/-- The sorted keys are the values in order. -/
theorem sorted_values (A : M3 Ideal) (k : Fin 3) :
    A (sortedFrom (fun a b : Fin 3 => decide (A a a < A b b)) k) (sortedFrom (fun a b : Fin 3 => decide (A a a < A b b)) k) = eigVals A k := by
  rw [sorted_keys (fun a => A a a)]
  exact (order_keys (fun a => A a a) k).symm

end Cert.Jacobi
end
-- ==== Proof.RefEnd.lean ====
/-
  The reference before and after its loop: what the loop starts from, and what the sort after it makes of the matrices
  and vectors.
-/
module

public import proofs.«01_k».proof.Proof.RefVal
public import proofs.«01_k».proof.Proof.Sort

@[expose] public section

set_option maxRecDepth 16384

noncomputable section

namespace Cert.ReferenceIdeal.Jacobi

open Cert.ReferenceIdeal.Gen Cert.Jacobi
open Idealize.ShloMosaic.TcCoe
open Idealize.ShloMosaic hiding ix1 ix2 ix3 ix4
open Idealize.ShloMosaic.ValueIdx
open Idealize.ShloMosaic.StableHlo (after afterL)

/-! ## Before the loop -/

/-- The word of minus one. -/
theorem ofBits_neg_one : (Ideal.ofBits .f32 0xBF800000#32 : EReal) = -1 := by
  have h : (Ideal.ofBits .f32 0xBF800000#32 : EReal) = ((-(1 : ℝ) : ℝ) : EReal) := by
    simp [Ideal.ofBits, Ideal.ieee, -EReal.coe_mul, -EReal.coe_neg]; norm_num
  rw [h]; rfl

/-- The entries of the program's literal matrix 1. -/
theorem lit1_apply (k i : Fin 3) : (FloatOps.ofBits (F := Ideal) .f32 (lit1 (S3x3.rowMajor (ix2 k i))) : EReal) = jc 0 2 k i := by
  match k, i with
  | 0, 0 => show (Ideal.ofBits .f32 0x3F800000#32 : EReal) = _; pointwise; simp [jc]
  | 0, 1 => show (Ideal.ofBits .f32 0x00000000#32 : EReal) = _; pointwise; simp [jc]
  | 0, 2 => show (Ideal.ofBits .f32 0x00000000#32 : EReal) = _; pointwise; simp [jc]
  | 1, 0 => show (Ideal.ofBits .f32 0x00000000#32 : EReal) = _; pointwise; simp [jc]
  | 1, 1 => show (Ideal.ofBits .f32 0x00000000#32 : EReal) = _; pointwise; simp [jc]
  | 1, 2 => show (Ideal.ofBits .f32 0x00000000#32 : EReal) = _; pointwise; simp [jc]
  | 2, 0 => show (Ideal.ofBits .f32 0x00000000#32 : EReal) = _; pointwise; simp [jc]
  | 2, 1 => show (Ideal.ofBits .f32 0x00000000#32 : EReal) = _; pointwise; simp [jc]
  | 2, 2 => show (Ideal.ofBits .f32 0x3F800000#32 : EReal) = _; pointwise; simp [jc]
/-- The entries of the program's literal matrix 2. -/
theorem lit2_apply (k i : Fin 3) : (FloatOps.ofBits (F := Ideal) .f32 (lit2 (S3x3.rowMajor (ix2 k i))) : EReal) = js 0 2 k i := by
  match k, i with
  | 0, 0 => show (Ideal.ofBits .f32 0x00000000#32 : EReal) = _; (first | rw [ofBits_neg_one] | pointwise); simp [js]
  | 0, 1 => show (Ideal.ofBits .f32 0x00000000#32 : EReal) = _; (first | rw [ofBits_neg_one] | pointwise); simp [js]
  | 0, 2 => show (Ideal.ofBits .f32 0x3F800000#32 : EReal) = _; (first | rw [ofBits_neg_one] | pointwise); simp [js]
  | 1, 0 => show (Ideal.ofBits .f32 0x00000000#32 : EReal) = _; (first | rw [ofBits_neg_one] | pointwise); simp [js]
  | 1, 1 => show (Ideal.ofBits .f32 0x00000000#32 : EReal) = _; (first | rw [ofBits_neg_one] | pointwise); simp [js]
  | 1, 2 => show (Ideal.ofBits .f32 0x00000000#32 : EReal) = _; (first | rw [ofBits_neg_one] | pointwise); simp [js]
  | 2, 0 => show (Ideal.ofBits .f32 0xBF800000#32 : EReal) = _; (first | rw [ofBits_neg_one] | pointwise); simp [js]
  | 2, 1 => show (Ideal.ofBits .f32 0x00000000#32 : EReal) = _; (first | rw [ofBits_neg_one] | pointwise); simp [js]
  | 2, 2 => show (Ideal.ofBits .f32 0x00000000#32 : EReal) = _; (first | rw [ofBits_neg_one] | pointwise); simp [js]
/-- The entries of the program's literal matrix 3. -/
theorem lit3_apply (k i : Fin 3) : (FloatOps.ofBits (F := Ideal) .f32 (lit3 (S3x3.rowMajor (ix2 k i))) : EReal) = jr 0 2 k i := by
  match k, i with
  | 0, 0 => show (Ideal.ofBits .f32 0x00000000#32 : EReal) = _; pointwise; simp [jr]
  | 0, 1 => show (Ideal.ofBits .f32 0x00000000#32 : EReal) = _; pointwise; simp [jr]
  | 0, 2 => show (Ideal.ofBits .f32 0x00000000#32 : EReal) = _; pointwise; simp [jr]
  | 1, 0 => show (Ideal.ofBits .f32 0x00000000#32 : EReal) = _; pointwise; simp [jr]
  | 1, 1 => show (Ideal.ofBits .f32 0x3F800000#32 : EReal) = _; pointwise; simp [jr]
  | 1, 2 => show (Ideal.ofBits .f32 0x00000000#32 : EReal) = _; pointwise; simp [jr]
  | 2, 0 => show (Ideal.ofBits .f32 0x00000000#32 : EReal) = _; pointwise; simp [jr]
  | 2, 1 => show (Ideal.ofBits .f32 0x00000000#32 : EReal) = _; pointwise; simp [jr]
  | 2, 2 => show (Ideal.ofBits .f32 0x00000000#32 : EReal) = _; pointwise; simp [jr]
/-- The entries of the program's literal matrix 4. -/
theorem lit4_apply (k i : Fin 3) : (FloatOps.ofBits (F := Ideal) .f32 (lit4 (S3x3.rowMajor (ix2 k i))) : EReal) = jc 1 2 k i := by
  match k, i with
  | 0, 0 => show (Ideal.ofBits .f32 0x00000000#32 : EReal) = _; pointwise; simp [jc]
  | 0, 1 => show (Ideal.ofBits .f32 0x00000000#32 : EReal) = _; pointwise; simp [jc]
  | 0, 2 => show (Ideal.ofBits .f32 0x00000000#32 : EReal) = _; pointwise; simp [jc]
  | 1, 0 => show (Ideal.ofBits .f32 0x00000000#32 : EReal) = _; pointwise; simp [jc]
  | 1, 1 => show (Ideal.ofBits .f32 0x3F800000#32 : EReal) = _; pointwise; simp [jc]
  | 1, 2 => show (Ideal.ofBits .f32 0x00000000#32 : EReal) = _; pointwise; simp [jc]
  | 2, 0 => show (Ideal.ofBits .f32 0x00000000#32 : EReal) = _; pointwise; simp [jc]
  | 2, 1 => show (Ideal.ofBits .f32 0x00000000#32 : EReal) = _; pointwise; simp [jc]
  | 2, 2 => show (Ideal.ofBits .f32 0x3F800000#32 : EReal) = _; pointwise; simp [jc]
/-- The entries of the program's literal matrix 5. -/
theorem lit5_apply (k i : Fin 3) : (FloatOps.ofBits (F := Ideal) .f32 (lit5 (S3x3.rowMajor (ix2 k i))) : EReal) = js 1 2 k i := by
  match k, i with
  | 0, 0 => show (Ideal.ofBits .f32 0x00000000#32 : EReal) = _; (first | rw [ofBits_neg_one] | pointwise); simp [js]
  | 0, 1 => show (Ideal.ofBits .f32 0x00000000#32 : EReal) = _; (first | rw [ofBits_neg_one] | pointwise); simp [js]
  | 0, 2 => show (Ideal.ofBits .f32 0x00000000#32 : EReal) = _; (first | rw [ofBits_neg_one] | pointwise); simp [js]
  | 1, 0 => show (Ideal.ofBits .f32 0x00000000#32 : EReal) = _; (first | rw [ofBits_neg_one] | pointwise); simp [js]
  | 1, 1 => show (Ideal.ofBits .f32 0x00000000#32 : EReal) = _; (first | rw [ofBits_neg_one] | pointwise); simp [js]
  | 1, 2 => show (Ideal.ofBits .f32 0x3F800000#32 : EReal) = _; (first | rw [ofBits_neg_one] | pointwise); simp [js]
  | 2, 0 => show (Ideal.ofBits .f32 0x00000000#32 : EReal) = _; (first | rw [ofBits_neg_one] | pointwise); simp [js]
  | 2, 1 => show (Ideal.ofBits .f32 0xBF800000#32 : EReal) = _; (first | rw [ofBits_neg_one] | pointwise); simp [js]
  | 2, 2 => show (Ideal.ofBits .f32 0x00000000#32 : EReal) = _; (first | rw [ofBits_neg_one] | pointwise); simp [js]
/-- The entries of the program's literal matrix 6. -/
theorem lit6_apply (k i : Fin 3) : (FloatOps.ofBits (F := Ideal) .f32 (lit6 (S3x3.rowMajor (ix2 k i))) : EReal) = jr 1 2 k i := by
  match k, i with
  | 0, 0 => show (Ideal.ofBits .f32 0x3F800000#32 : EReal) = _; pointwise; simp [jr]
  | 0, 1 => show (Ideal.ofBits .f32 0x00000000#32 : EReal) = _; pointwise; simp [jr]
  | 0, 2 => show (Ideal.ofBits .f32 0x00000000#32 : EReal) = _; pointwise; simp [jr]
  | 1, 0 => show (Ideal.ofBits .f32 0x00000000#32 : EReal) = _; pointwise; simp [jr]
  | 1, 1 => show (Ideal.ofBits .f32 0x00000000#32 : EReal) = _; pointwise; simp [jr]
  | 1, 2 => show (Ideal.ofBits .f32 0x00000000#32 : EReal) = _; pointwise; simp [jr]
  | 2, 0 => show (Ideal.ofBits .f32 0x00000000#32 : EReal) = _; pointwise; simp [jr]
  | 2, 1 => show (Ideal.ofBits .f32 0x00000000#32 : EReal) = _; pointwise; simp [jr]
  | 2, 2 => show (Ideal.ofBits .f32 0x00000000#32 : EReal) = _; pointwise; simp [jr]
/-- The entries of the program's literal matrix 7. -/
theorem lit7_apply (k i : Fin 3) : (FloatOps.ofBits (F := Ideal) .f32 (lit7 (S3x3.rowMajor (ix2 k i))) : EReal) = jc 0 1 k i := by
  match k, i with
  | 0, 0 => show (Ideal.ofBits .f32 0x3F800000#32 : EReal) = _; pointwise; simp [jc]
  | 0, 1 => show (Ideal.ofBits .f32 0x00000000#32 : EReal) = _; pointwise; simp [jc]
  | 0, 2 => show (Ideal.ofBits .f32 0x00000000#32 : EReal) = _; pointwise; simp [jc]
  | 1, 0 => show (Ideal.ofBits .f32 0x00000000#32 : EReal) = _; pointwise; simp [jc]
  | 1, 1 => show (Ideal.ofBits .f32 0x3F800000#32 : EReal) = _; pointwise; simp [jc]
  | 1, 2 => show (Ideal.ofBits .f32 0x00000000#32 : EReal) = _; pointwise; simp [jc]
  | 2, 0 => show (Ideal.ofBits .f32 0x00000000#32 : EReal) = _; pointwise; simp [jc]
  | 2, 1 => show (Ideal.ofBits .f32 0x00000000#32 : EReal) = _; pointwise; simp [jc]
  | 2, 2 => show (Ideal.ofBits .f32 0x00000000#32 : EReal) = _; pointwise; simp [jc]
/-- The entries of the program's literal matrix 8. -/
theorem lit8_apply (k i : Fin 3) : (FloatOps.ofBits (F := Ideal) .f32 (lit8 (S3x3.rowMajor (ix2 k i))) : EReal) = js 0 1 k i := by
  match k, i with
  | 0, 0 => show (Ideal.ofBits .f32 0x00000000#32 : EReal) = _; (first | rw [ofBits_neg_one] | pointwise); simp [js]
  | 0, 1 => show (Ideal.ofBits .f32 0x3F800000#32 : EReal) = _; (first | rw [ofBits_neg_one] | pointwise); simp [js]
  | 0, 2 => show (Ideal.ofBits .f32 0x00000000#32 : EReal) = _; (first | rw [ofBits_neg_one] | pointwise); simp [js]
  | 1, 0 => show (Ideal.ofBits .f32 0xBF800000#32 : EReal) = _; (first | rw [ofBits_neg_one] | pointwise); simp [js]
  | 1, 1 => show (Ideal.ofBits .f32 0x00000000#32 : EReal) = _; (first | rw [ofBits_neg_one] | pointwise); simp [js]
  | 1, 2 => show (Ideal.ofBits .f32 0x00000000#32 : EReal) = _; (first | rw [ofBits_neg_one] | pointwise); simp [js]
  | 2, 0 => show (Ideal.ofBits .f32 0x00000000#32 : EReal) = _; (first | rw [ofBits_neg_one] | pointwise); simp [js]
  | 2, 1 => show (Ideal.ofBits .f32 0x00000000#32 : EReal) = _; (first | rw [ofBits_neg_one] | pointwise); simp [js]
  | 2, 2 => show (Ideal.ofBits .f32 0x00000000#32 : EReal) = _; (first | rw [ofBits_neg_one] | pointwise); simp [js]
/-- The entries of the program's literal matrix 9. -/
theorem lit9_apply (k i : Fin 3) : (FloatOps.ofBits (F := Ideal) .f32 (lit9 (S3x3.rowMajor (ix2 k i))) : EReal) = jr 0 1 k i := by
  match k, i with
  | 0, 0 => show (Ideal.ofBits .f32 0x00000000#32 : EReal) = _; pointwise; simp [jr]
  | 0, 1 => show (Ideal.ofBits .f32 0x00000000#32 : EReal) = _; pointwise; simp [jr]
  | 0, 2 => show (Ideal.ofBits .f32 0x00000000#32 : EReal) = _; pointwise; simp [jr]
  | 1, 0 => show (Ideal.ofBits .f32 0x00000000#32 : EReal) = _; pointwise; simp [jr]
  | 1, 1 => show (Ideal.ofBits .f32 0x00000000#32 : EReal) = _; pointwise; simp [jr]
  | 1, 2 => show (Ideal.ofBits .f32 0x00000000#32 : EReal) = _; pointwise; simp [jr]
  | 2, 0 => show (Ideal.ofBits .f32 0x00000000#32 : EReal) = _; pointwise; simp [jr]
  | 2, 1 => show (Ideal.ofBits .f32 0x00000000#32 : EReal) = _; pointwise; simp [jr]
  | 2, 2 => show (Ideal.ofBits .f32 0x3F800000#32 : EReal) = _; pointwise; simp [jr]

/-- The constants at the loop's entry. -/
theorem consts_entry (X : Valuation τ sig (Elt Ideal)) : Consts (after preB (after preA X)) := by
  constructor <;> intro k i
  · have e : after preB (after preA X) main_v49_1 = fun i => FloatOps.ofBits (F := Ideal) .f32 (lit1 (S3x3.rowMajor i)) := by
      after_reads_simp
      rfl
    exact (congrFun e _).trans (lit1_apply k i)
  · have e : after preB (after preA X) main_v49_2 = fun i => FloatOps.ofBits (F := Ideal) .f32 (lit2 (S3x3.rowMajor i)) := by
      after_reads_simp
      rfl
    exact (congrFun e _).trans (lit2_apply k i)
  · have e : after preB (after preA X) main_v49_3 = fun i => FloatOps.ofBits (F := Ideal) .f32 (lit3 (S3x3.rowMajor i)) := by
      after_reads_simp
      rfl
    exact (congrFun e _).trans (lit3_apply k i)
  · have e : after preB (after preA X) main_v49_4 = fun i => FloatOps.ofBits (F := Ideal) .f32 (lit4 (S3x3.rowMajor i)) := by
      after_reads_simp
      rfl
    exact (congrFun e _).trans (lit4_apply k i)
  · have e : after preB (after preA X) main_v49_5 = fun i => FloatOps.ofBits (F := Ideal) .f32 (lit5 (S3x3.rowMajor i)) := by
      after_reads_simp
      rfl
    exact (congrFun e _).trans (lit5_apply k i)
  · have e : after preB (after preA X) main_v49_6 = fun i => FloatOps.ofBits (F := Ideal) .f32 (lit6 (S3x3.rowMajor i)) := by
      after_reads_simp
      rfl
    exact (congrFun e _).trans (lit6_apply k i)
  · have e : after preB (after preA X) main_v49_7 = fun i => FloatOps.ofBits (F := Ideal) .f32 (lit7 (S3x3.rowMajor i)) := by
      after_reads_simp
      rfl
    exact (congrFun e _).trans (lit7_apply k i)
  · have e : after preB (after preA X) main_v49_8 = fun i => FloatOps.ofBits (F := Ideal) .f32 (lit8 (S3x3.rowMajor i)) := by
      after_reads_simp
      rfl
    exact (congrFun e _).trans (lit8_apply k i)
  · have e : after preB (after preA X) main_v49_9 = fun i => FloatOps.ofBits (F := Ideal) .f32 (lit9 (S3x3.rowMajor i)) := by
      after_reads_simp
      rfl
    exact (congrFun e _).trans (lit9_apply k i)

/-- The vectors at the loop's entry. -/
theorem ident_entry (X : Valuation τ sig (Elt Ideal)) (m : Fin 16384) : mat (after preB (after preA X) main_v49_13) m = ident := by
  funext i j
  have e : after preB (after preA X) main_v49_13
      = broadcastInDim S16384x3x3 ![1, 2] bcast_S3x3_S16384x3x3_1_2 (fun i => FloatOps.ofBits (F := Ideal) .f32 (lit0 (S3x3.rowMajor i))) := by
    after_reads_simp
    rfl
  refine (congrFun e _).trans ?_
  match i, j with
  | 0, 0 => rfl
  | 0, 1 => rfl
  | 0, 2 => rfl
  | 1, 0 => rfl
  | 1, 1 => rfl
  | 1, 2 => rfl
  | 2, 0 => rfl
  | 2, 1 => rfl
  | 2, 2 => rfl

/-- The matrices at the loop's entry are the covariances. -/
theorem mat_entry (X : Valuation τ sig (Elt Ideal)) : after preB (after preA X) main_v49_12 = after preB (after preA X) main_v42 := by
  after_reads_simp
  rfl

/-- The tolerance at the loop's entry. -/
theorem tol_entry (X : Valuation τ sig (Elt Ideal)) (m : Fin 16384) :
    after preB (after preA X) main_v49_0 (ix1 m) = tolOf (mat (after preB (after preA X) main_v42) m) := by
  have e : after preB (after preA X) main_v49_0 = mulf (broadcastInDim S16384 ![] bcast_S_S16384 (constant (F := Ideal) S_ .f32 0x3727C5AC#32))
      (Host.sqrt (Host.reduceAdd (mulf (after preB (after preA X) main_v42) (after preB (after preA X) main_v42)) (constant (F := Ideal) S_ .f32 0x00000000#32) reducesTo_S16384x3x3_S16384_d1_2 h_S_)) := by
    after_reads_simp
    rfl
  refine (congrFun e _).trans ?_
  generalize after preB (after preA X) main_v42 = A
  pointwise
  simp only [tolOf, mat]
  pointwise
  simp only [Fin.sum_univ_three]
  simp only [← add_assoc]
  rfl

/-! ## After the loop -/

/-- The matrix's number from the cloud and the point. -/
def row (b : Fin 8) (n : Fin 2048) : Fin 16384 := ⟨b.val * 2048 + n.val, by omega⟩

/-- The sort's test. -/
theorem comparator_apply (x y v w : EReal) :
    (comparator_f32_f32_d2 (F := Ideal) (x, v) (y, w) == 1#1) = decide (x < y) := by
  have h0 : (Ideal.ofBits .f32 0x00000000#32 : EReal) = 0 := by pointwise
  have hs : ∀ z : EReal, Scalar.select (Ideal.cmp .une z z) (Ideal.ofBits .f32 0x7FC00000#32) (Scalar.select (Ideal.cmp .oeq z (Ideal.ofBits .f32 0x00000000#32)) (Ideal.ofBits .f32 0x00000000#32) z) = z := by
    intro z
    rw [h0]
    by_cases hz : z = 0 <;> simp [Scalar.select, Ideal.cmp, hz]
  show (Ideal.cmp .olt _ _ == 1#1) = _
  refine (congrArg₂ (fun a b => (Ideal.cmp .olt a b == 1#1)) (hs x) (hs y)).trans ?_
  by_cases h : x < y <;> simp [Ideal.cmp, h]

/-- The sort along the last axis by keys that are the same in every row. -/
theorem sort2_apply (x y : FVec Ideal S16384x3x3 .f32) (m : Fin 16384) (i j : Fin 3) (A : M3 Ideal)
    (hx : ∀ j, x (ix3 m i j) = A j j) :
    (Host.sort2 S16384x3x3 2 (comparator_f32_f32_d2 (F := Ideal)) x y).1 (ix3 m i j) = eigVals A j
    ∧ (Host.sort2 S16384x3x3 2 (comparator_f32_f32_d2 (F := Ideal)) x y).2 (ix3 m i j)
        = eigVecs A (fun i j => y (ix3 m i j)) i j := by
  have ha : ∀ k : Fin 3, (ix3 m i j : S16384x3x3.Idx).along 2 k = ix3 m i k := by
    intro k
    funext a
    match a with
    | 0 => rfl
    | 1 => rfl
    | 2 => rfl
  have hp : sortedFrom (fun k k' : Fin 3 => comparator_f32_f32_d2 (F := Ideal) (x ((ix3 m i j : S16384x3x3.Idx).along 2 k), y ((ix3 m i j : S16384x3x3.Idx).along 2 k))
        (x ((ix3 m i j : S16384x3x3.Idx).along 2 k'), y ((ix3 m i j : S16384x3x3.Idx).along 2 k')) == 1#1) j
      = sortedFrom (fun a b : Fin 3 => decide (A a a < A b b)) j := by
    refine congrArg (fun f => sortedFrom f j) ?_
    funext a b
    rw [ha, ha, hx, hx]
    exact comparator_apply _ _ _ _
  unfold Host.sort2
  rw [dif_pos (by decide : 2 < S16384x3x3.rank)]
  constructor
  · show x ((ix3 m i j : S16384x3x3.Idx).along 2 _) = _
    refine (congrArg (fun k => x ((ix3 m i j : S16384x3x3.Idx).along 2 k)) hp).trans ?_
    rw [ha, hx]
    exact sorted_values A j
  · show y ((ix3 m i j : S16384x3x3.Idx).along 2 _) = _
    refine (congrArg (fun k => y ((ix3 m i j : S16384x3x3.Idx).along 2 k)) hp).trans ?_
    rw [ha]
    exact sorted_followers A (fun i j => y (ix3 m i j)) i j

/-- The sorted vectors. -/
theorem sorted_vec (X : Valuation τ sig (Elt Ideal)) (m : Fin 16384) (i j : Fin 3) :
    after postA X main_v62_1 (ix3 m i j) = eigVecs (mat (X main_v49_12) m) (mat (X main_v49_13) m) i j := by
  have e : ∀ j, after postA X main_v61 (ix3 m i j) = X main_v49_12 (ix3 m j j) := by
    intro j
    match j with
    | 0 =>
      after_reads_at
      simp only [StableHlo.upto, postA, List.take_succ_cons, List.take_zero]
      after_reads_at
      rfl
    | 1 =>
      after_reads_at
      simp only [StableHlo.upto, postA, List.take_succ_cons, List.take_zero]
      after_reads_at
      rfl
    | 2 =>
      after_reads_at
      simp only [StableHlo.upto, postA, List.take_succ_cons, List.take_zero]
      after_reads_at
      rfl
  have e2 : after postA X main_v62_1 = (Host.sort2 S16384x3x3 2 (comparator_f32_f32_d2 (F := Ideal)) (after postA X main_v61) (X main_v49_13)).2 := by
    after_reads_simp
  rw [e2]
  exact (sort2_apply _ _ m i j (mat (X main_v49_12) m) e).2

/-- The sorted eigenvalues, in any row. -/
theorem sorted_val (X : Valuation τ sig (Elt Ideal)) (m : Fin 16384) (i j : Fin 3) :
    after postA X main_v62_0 (ix3 m i j) = eigVals (mat (X main_v49_12) m) j := by
  have e : ∀ j, after postA X main_v61 (ix3 m i j) = X main_v49_12 (ix3 m j j) := by
    intro j
    match j with
    | 0 =>
      after_reads_at
      simp only [StableHlo.upto, postA, List.take_succ_cons, List.take_zero]
      after_reads_at
      rfl
    | 1 =>
      after_reads_at
      simp only [StableHlo.upto, postA, List.take_succ_cons, List.take_zero]
      after_reads_at
      rfl
    | 2 =>
      after_reads_at
      simp only [StableHlo.upto, postA, List.take_succ_cons, List.take_zero]
      after_reads_at
      rfl
  have e2 : after postA X main_v62_0 = (Host.sort2 S16384x3x3 2 (comparator_f32_f32_d2 (F := Ideal)) (after postA X main_v61) (X main_v49_13)).1 := by
    after_reads_simp
  rw [e2]
  exact (sort2_apply _ _ m i j (mat (X main_v49_12) m) e).1

/-- The results after the loop. -/
theorem eig_post (X : Valuation τ sig (Elt Ideal)) (b : Fin 8) (n : Fin 2048) (k : Fin 3) :
    after postA X main_v65 (ix3 b n k) = eigVals (mat (X main_v49_12) (row b n)) k := by
  rw [← sorted_val X (row b n) 0 k]
  after_reads_at
  rfl
/-- The eigenvectors after the loop, in the order of the eigenvalues. -/
theorem vec_post (X : Valuation τ sig (Elt Ideal)) (b : Fin 8) (n : Fin 2048) (i j : Fin 3) :
    after postA X main_v66 (ix4 b n i j) = eigVecs (mat (X main_v49_12) (row b n)) (mat (X main_v49_13) (row b n)) i j := by
  rw [← sorted_vec X (row b n) i j]
  after_reads_at
  rfl

end Cert.ReferenceIdeal.Jacobi
end
-- ==== Proof.RefFin.lean ====
/-
  What the reference leaves in its results: the nearest points' numbers, the ordered eigenvalues and vectors of the
  covariance matrices, and the nearest of the eigenvalues.
-/
module

public import proofs.«01_k».proof.Proof.RefEnd
public import proofs.«01_k».proof.Proof.Cov

@[expose] public section

set_option maxRecDepth 16384

noncomputable section

namespace Cert.ReferenceIdeal.Jacobi

open Cert.ReferenceIdeal.Gen Cert.Jacobi
open Idealize.ShloMosaic.TcCoe
open Idealize.ShloMosaic hiding ix1 ix2 ix3 ix4
open Idealize.ShloMosaic.ValueIdx
open Idealize.ShloMosaic.StableHlo (after afterL entryContents finalContents atTrip)

variable (m : (ℓ : Loc nD τ sig) → Buf (Elt Ideal) ℓ) (c : Dev nD)

/-- The contents at launch, at the loop's entry, after the loop, and after the first list behind it. -/
abbrev atLaunch : Valuation τ sig (Elt Ideal) := fun b => m (c, b)
abbrev atEntry : Valuation τ sig (Elt Ideal) := after preB (after preA (atLaunch m c))
abbrev atK (k : ℕ) : Valuation τ sig (Elt Ideal) := atTrip condOps bodyI (entryContents preI m) k c
abbrev atExit : Valuation τ sig (Elt Ideal) := after condOps (atK m c 8)

/-- The final contents are those of the two lists behind the loop. -/
theorem fin_eq : fin m c = after postB (after postA (atExit m c)) := rfl
/-- The contents at the loop's entry are those of the two lists before it. -/
theorem entry_eq : entryContents preI m c = atEntry m c := rfl
/-- One trip more is one trip of the contents so far. -/
theorem at_succ (k : ℕ) : atK m c (k + 1) = trip (atK m c k) := rfl

/-- The matrix and the vectors of a point after the sweeps. -/
theorem loop_val (k : ℕ) (r : Fin 16384) : Consts (atK m c k) ∧ atK m c k main_v49_0 = atEntry m c main_v49_0
    ∧ (mat (atK m c k main_v49_12) r, mat (atK m c k main_v49_13) r)
      = (sweepS (tolOf (mat (atEntry m c main_v42) r)))^[k] (mat (atEntry m c main_v42) r, ident) := by
  induction k with
  | zero =>
    refine ⟨consts_entry _, rfl, ?_⟩
    show (mat (atEntry m c main_v49_12) r, mat (atEntry m c main_v49_13) r) = _
    rw [show atEntry m c main_v49_12 = atEntry m c main_v42 from mat_entry _, show mat (atEntry m c main_v49_13) r = ident from ident_entry _ r]
    rfl
  | succ k ih =>
    obtain ⟨h₁, h₂, h₃⟩ := ih
    rw [at_succ]
    refine ⟨consts_trip _ h₁, (trip_keep _ _ (by decide)).trans h₂, ?_⟩
    rw [trip_sweep _ h₁, h₃, h₂, show atEntry m c main_v49_0 (ix1 r) = tolOf (mat (atEntry m c main_v42) r) from tol_entry _ r, Function.iterate_succ_apply']

/-- The matrix and the vectors behind the loop are those of the eight sweeps. -/
theorem exit_val (r : Fin 16384) : (mat (atExit m c main_v49_12) r, mat (atExit m c main_v49_13) r)
      = jacobi (mat (atEntry m c main_v42) r) := by
  rw [atExit, condOps_unwritten _ _ (by decide), condOps_unwritten _ _ (by decide)]
  exact (loop_val m c 8 r).2.2

/-- The covariance matrices as the program names them. -/
theorem cov_entry : (atEntry m c main_v41 : FVec Ideal S8x2048x3x3 .f32)
    = Cert.KernelIdeal.Whole.covOf (m ((c.tc : Thread nD τ).loc main_arg0)) (atEntry m c main_v21 : IVec S262144 32) := by
  rw [atEntry, preB_keep _ main_v21 (by decide)]
  after_reads_simp
  rfl

/-- A point's matrix is its covariance matrix. -/
theorem mat_cov (b : Fin 8) (n : Fin 2048) : mat (atEntry m c main_v42) (row b n)
    = fun i j => (atEntry m c main_v41 : FVec Ideal S8x2048x3x3 .f32) (ix4 b n i j) := by
  have e : (atEntry m c main_v42 : FVec Ideal S16384x3x3 .f32)
      = shapeCast S16384x3x3 (atEntry m c main_v41 : FVec Ideal S8x2048x3x3 .f32) shapeCasts_S8x2048x3x3_S16384x3x3 := by
    unfold atEntry
    generalize after preA (atLaunch m c) = X
    after_reads_simp
    rfl
  funext i j
  show (atEntry m c main_v42 : FVec Ideal S16384x3x3 .f32) (ix3 (row b n) i j) = _
  rw [e]
  generalize (atEntry m c main_v41 : FVec Ideal S8x2048x3x3 .f32) = C
  pointwise
  refine congrArg C (funext fun a => Fin.ext ?_)
  have hb := b.isLt
  have hn := n.isLt
  match a with
  | ⟨0, _⟩ => show (b.val * 2048 + n.val) / 2048 = b.val; omega
  | ⟨1, _⟩ => show (b.val * 2048 + n.val) % 2048 = n.val; omega
  | ⟨2, _⟩ => rfl
  | ⟨3, _⟩ => rfl

/-- The reference's eigenvalues and vectors. -/
theorem fin_eig (b : Fin 8) (n : Fin 2048) (k : Fin 3) :
    fin m c main_v65 (ix3 b n k) = eigVals (jacobi (mat (atEntry m c main_v42) (row b n))).1 k := by
  rw [fin_eq, postB_keep _ _ (by decide), eig_post, ← exit_val]
/-- The reference's eigenvectors. -/
theorem fin_vec (b : Fin 8) (n : Fin 2048) (i j : Fin 3) :
    fin m c main_v66 (ix4 b n i j) = eigVecs (jacobi (mat (atEntry m c main_v42) (row b n))).1
      (jacobi (mat (atEntry m c main_v42) (row b n))).2 i j := by
  rw [fin_eq, postB_keep _ _ (by decide), vec_post, ← exit_val]

/-- The neighbours' numbers and the points' own, through the loop. -/
theorem trip_v21 (X : Valuation τ sig (Elt Ideal)) : trip X main_v21 = X main_v21 := by
  dsimp only [trip, afterL]
  rw [tailOps_keep _ _ (by decide), mul3_keep _ _ (by decide), sin3_keep _ _ (by decide), ang3_keep _ _ (by decide),
    mul2_keep _ _ (by decide), sin2_keep _ _ (by decide), ang2_keep _ _ (by decide), mul1_keep _ _ (by decide),
    sin1_keep _ _ (by decide), ang1_keep _ _ (by decide), ctrOp_keep _ _ (by decide), condOps_unwritten _ _ (by decide)]
/-- The points' own numbers are carried through a trip unchanged. -/
theorem trip_v24 (X : Valuation τ sig (Elt Ideal)) : trip X main_v24 = X main_v24 := by
  dsimp only [trip, afterL]
  rw [tailOps_keep _ _ (by decide), mul3_keep _ _ (by decide), sin3_keep _ _ (by decide), ang3_keep _ _ (by decide),
    mul2_keep _ _ (by decide), sin2_keep _ _ (by decide), ang2_keep _ _ (by decide), mul1_keep _ _ (by decide),
    sin1_keep _ _ (by decide), ang1_keep _ _ (by decide), ctrOp_keep _ _ (by decide), condOps_unwritten _ _ (by decide)]
/-- The numbers of the nearest points when the program ends. -/
theorem fin_v21 : fin m c main_v21 = after preA (atLaunch m c) main_v21 := by
  rw [fin_eq, postB_keep _ _ (by decide), postA_keep _ _ (by decide), atExit, condOps_unwritten _ _ (by decide)]
  have h : ∀ k, atK m c k main_v21 = atEntry m c main_v21 := fun k => by
    induction k with
    | zero => rfl
    | succ k ih => exact (trip_v21 _).trans ih
  rw [h, atEntry, preB_keep _ _ (by decide)]
/-- The points' own numbers when the program ends. -/
theorem fin_v24 : fin m c main_v24 = Cert.KernelIdeal.Whole.own := by
  rw [fin_eq, postB_keep _ _ (by decide), postA_keep _ _ (by decide), atExit, condOps_unwritten _ _ (by decide)]
  have h : ∀ k, atK m c k main_v24 = atEntry m c main_v24 := fun k => by
    induction k with
    | zero => rfl
    | succ k ih => exact (trip_v24 _).trans ih
  rw [h, atEntry, preB_keep _ _ (by decide)]
  after_reads_simp
  rfl
/-- The points' own numbers of the second search when the program ends. -/
theorem fin_v90 : fin m c main_v90 = Cert.KernelIdeal.Whole.own := by
  rw [fin_eq]
  generalize after postA (atExit m c) = X
  after_reads_simp
  rfl

/-- The first search: the nearest of the points, in one row. -/
theorem near_first (X : Valuation τ sig (Elt Ideal)) : (after preA X main_v21 : IVec S262144 32)
    = shapeCast S262144 (Knn.nearest (X main_arg0)) shapeCasts_S8x2048x16_S262144 := by
  have e : (after preA X main_v21 : IVec S262144 32)
      = shapeCast S262144 (after preA X main_v20 : IVec S8x2048x16 32) shapeCasts_S8x2048x16_S262144 := by
    after_reads_simp
    rfl
  rw [e]
  refine congrArg (fun v => shapeCast S262144 v shapeCasts_S8x2048x16_S262144) ?_
  after_reads_simp
  generalize X main_arg0 = P
  refine Knn.topK_nearest P _ (fun b i j => ?_) _ (fun n => ?_) _
  · pointwise
    rfl
  · obtain ⟨b, i, k, rfl⟩ : ∃ (b : Fin 8) (i : Fin 2048) (k : Fin 16), n = ix3 b i k := ⟨_, _, _, ValueIdx.eq_ix3 n⟩
    pointwise

/-- The second search's squared distances, of the eigenvalues. -/
theorem dist_second (X : Valuation τ sig (Elt Ideal)) (b : Fin 8) (i j : Fin 2048) :
    (maximumf (after postA X main_v77 : FVec Ideal S8x2048x2048 .f32)
      (broadcastInDim S8x2048x2048 ![] bcast_S_S8x2048x2048 (after postA X main_cst_22 : FVec Ideal S_ .f32)) : FVec Ideal S8x2048x2048 .f32) (ix3 b i j)
      = Knn.sqd (after postA X main_v65) b i j := by
  have e₁ : (after postA X main_v77 : FVec Ideal S8x2048x2048 .f32) = subf (addf
      (broadcastInDim S8x2048x2048 ![0, 1, 2] bcast_S8x2048x1_S8x2048x2048_0_1_2 (broadcastInDim S8x2048x1 ![0, 1] bcast_S8x2048_S8x2048x1_0_1
        (Host.reduceAdd (mulf (after postA X main_v65 : FVec Ideal S8x2048x3 .f32) (after postA X main_v65 : FVec Ideal S8x2048x3 .f32))
          (constant (F := Ideal) S_ .f32 0x00000000#32) reducesTo_S8x2048x3_S8x2048_d2 h_S_)))
      (broadcastInDim S8x2048x2048 ![0, 1, 2] bcast_S8x1x2048_S8x2048x2048_0_1_2 (broadcastInDim S8x1x2048 ![0, 2] bcast_S8x2048_S8x1x2048_0_2
        (Host.reduceAdd (mulf (after postA X main_v65 : FVec Ideal S8x2048x3 .f32) (after postA X main_v65 : FVec Ideal S8x2048x3 .f32))
          (constant (F := Ideal) S_ .f32 0x00000000#32) reducesTo_S8x2048x3_S8x2048_d2 h_S_))))
      (mulf (broadcastInDim S8x2048x2048 ![] bcast_S_S8x2048x2048 (constant (F := Ideal) S_ .f32 0x40000000#32))
        (Host.dotGeneral (F := Ideal) (φ₁ := .f32) (φ₂ := .f32) dot_S8x2048x3_S8x2048x3_S8x2048x2048_2_2_1_1_0_0 none (after postA X main_v65 : FVec Ideal S8x2048x3 .f32)
          (after postA X main_v65 : FVec Ideal S8x2048x3 .f32))) := by
    after_reads_simp
  have e₂ : (after postA X main_cst_22 : FVec Ideal S_ .f32) = constant (F := Ideal) S_ .f32 0x00000000#32 := by
    after_reads_simp
  rw [e₁, e₂]
  generalize (after postA X main_v65 : FVec Ideal S8x2048x3 .f32) = E
  pointwise
  rfl

/-- The second search: the nearest of the eigenvalues, in one row. -/
theorem near_second (X : Valuation τ sig (Elt Ideal)) : (after postB (after postA X) main_v87 : IVec S262144 32)
    = shapeCast S262144 (Knn.nearest (after postA X main_v65)) shapeCasts_S8x2048x16_S262144 := by
  have hd := dist_second X
  generalize after postA X = Y at hd ⊢
  have e : (after postB Y main_v87 : IVec S262144 32)
      = shapeCast S262144 (after postB Y main_v86 : IVec S8x2048x16 32) shapeCasts_S8x2048x16_S262144 := by
    after_reads_simp
    rfl
  rw [e]
  refine congrArg (fun v => shapeCast S262144 v shapeCasts_S8x2048x16_S262144) ?_
  after_reads_simp
  refine Knn.topK_nearest (Y main_v65) _ (fun b i j => ?_) _ (fun n => ?_) _
  · rw [← hd]
    generalize (Y main_v77) = P
    generalize (Y main_cst_22) = Q
    rfl
  · obtain ⟨b, i, k, rfl⟩ : ∃ (b : Fin 8) (i : Fin 2048) (k : Fin 16), n = ix3 b i k := ⟨_, _, _, ValueIdx.eq_ix3 n⟩
    pointwise

/-- The numbers of the nearest eigenvalues when the program ends. -/
theorem fin_v87 : (fin m c main_v87 : IVec S262144 32)
    = shapeCast S262144 (Knn.nearest (fin m c main_v65)) shapeCasts_S8x2048x16_S262144 := by
  rw [fin_eq, near_second, postB_keep _ main_v65 (by decide)]

end Cert.ReferenceIdeal.Jacobi
end
-- ==== Proof.lean ====
/-
  The proof of `Cert.Claim`: the frames of the kernel, its ideal reading and the reference, that the ideal reading keeps
  the kernel's meaning, and that kernel and reference leave the same six results over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.KernelRun
public import proofs.«01_k».proof.Proof.KerFin
public import proofs.«01_k».proof.Proof.RefFin
public import Idealize.ShloMosaic.Lib.ReduceAll
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Kernel

/-- A value whose absolute value lies below infinity is a real number. -/
theorem real_of_abs_lt (x : EReal) (h : BitVec.ofBool (decide (max x (-x) < Ideal.ofBits .f32 0x7F800000#32)) = 1#1) :
    ∃ r : ℝ, x = (r : EReal) := by
  have htop : Ideal.ofBits .f32 0x7F800000#32 = (⊤ : EReal) := by simp [Ideal.ofBits, Ideal.ieee]
  rw [htop] at h
  induction x using EReal.rec with
  | bot => simp at h
  | top => simp at h
  | coe r => exact ⟨r, rfl⟩

/-- The precondition read: when every coordinate is below infinity in absolute value, every coordinate is a real
    number. -/
theorem real_of_finite (X : FVec Ideal Knn.Pts .f32) (h : Cert.Pre_finite.fn (F := Ideal) X = fun _ => 1#1) : Knn.Real X := by
  intro i
  have e := congrFun h (fun a => a.elim0)
  dsimp only [Cert.Pre_finite.fn] at e
  have := Host.reduce_andi_all _ _ _ _ _ e i
  revert this
  pointwise
  intro this
  exact real_of_abs_lt (X i) this

/-- The reference runs, leaves its argument as it was, and declares no semaphore. -/
theorem frame_reference : Cert.quiescent_ReferenceIdeal := fun m ρ _ =>
  (θ_run Cert.ReferenceIdeal.defs _ _).mono (fun r h => ⟨fun c => (h c Cert.ReferenceIdeal.main_arg0 rfl).trans
      (Cert.ReferenceIdeal.Jacobi.fin_unwritten m c), sem_eq_zero_of_no_sems (by decide) r.2⟩)
    (Cert.ReferenceIdeal.Jacobi.run (F := Ideal) m ρ)

/-- The one rewrite of the ideal pass: the mask constant of the kernel reads as infinity there. -/
theorem preserves : Cert.preserves_Kernel_KernelIdeal :=
  IdealRules.named_const.statement Cert.KernelIdeal.κ "far" .f32 0x7F61B1E6#32 ⊤ rfl

section Reference
open Cert.ReferenceIdeal.Jacobi Cert.KernelIdeal.Whole Cert.Jacobi Idealize.ShloMosaic.TcCoe

variable (m : (ℓ : Loc Cert.ReferenceIdeal.nD Cert.ReferenceIdeal.τ Cert.ReferenceIdeal.sig) → Buf (Elt Ideal) ℓ)
  (c : Dev Cert.ReferenceIdeal.nD)

/-- The reference's points. -/
abbrev refPts : FVec Ideal Knn.Pts .f32 := m ((c.tc : Thread Cert.ReferenceIdeal.nD Cert.ReferenceIdeal.τ).loc Cert.ReferenceIdeal.main_arg0)

/-- The reference's neighbours' numbers. -/
theorem ref_sid : (fin m c Cert.ReferenceIdeal.main_v21 : IVec Cert.KernelIdeal.S262144 32) = sidOf (refPts m c) :=
  (fin_v21 m c).trans (near_first (atLaunch m c))

/-- The reference's covariance matrices. -/
theorem ref_cov (b : Fin 8) (n : Fin 2048) : mat (atEntry m c Cert.ReferenceIdeal.main_v42) (row b n) = covM (refPts m c) b n := by
  rw [mat_cov, cov_entry, show (atEntry m c Cert.ReferenceIdeal.main_v21 : IVec Cert.KernelIdeal.S262144 32) = sidOf (refPts m c) from
    (preB_keep _ _ (by decide)).trans (near_first (atLaunch m c))]
  rfl

/-- The reference's eigenvalues. -/
theorem ref_eig : (fin m c Cert.ReferenceIdeal.main_v65 : FVec Ideal Knn.Pts .f32) = eigOf (refPts m c) := by
  funext y
  obtain ⟨b, n, k, rfl⟩ : ∃ (b : Fin 8) (n : Fin 2048) (k : Fin 3), y = ValueIdx.ix3 b n k := ⟨_, _, _, ValueIdx.eq_ix3 y⟩
  refine (fin_eig m c b n k).trans ?_
  rw [ref_cov]
  rfl

/-- The reference's eigenvectors. -/
theorem ref_vec : (fin m c Cert.ReferenceIdeal.main_v66 : FVec Ideal Cert.KernelIdeal.S8x2048x3x3 .f32) = vecOf (refPts m c) := by
  funext y
  obtain ⟨b, n, i, j, rfl⟩ : ∃ (b : Fin 8) (n : Fin 2048) (i j : Fin 3), y = ValueIdx.ix4 b n i j := ⟨_, _, _, _, ValueIdx.eq_ix4 y⟩
  refine (fin_vec m c b n i j).trans ?_
  rw [ref_cov]
  rfl

/-- The reference's numbers of the nearest eigenvalues. -/
theorem ref_sid_eig : (fin m c Cert.ReferenceIdeal.main_v87 : IVec Cert.KernelIdeal.S262144 32) = sidOf (eigOf (refPts m c)) := by
  rw [fin_v87, ref_eig]
  rfl

end Reference

/-- Over the extended reals the kernel and the reference leave the same six results: of real points the sixteen nearest
    of each, the ordered eigenvalues and vectors of the covariance matrices of those, and the sixteen nearest of the
    eigenvalues. -/
theorem algebraic : Cert.algebraic_KernelIdeal_ReferenceIdeal_pre_finite := by
  intro m g m' g' hpre hag
  refine ⟨fun c => Cert.KernelIdeal.Whole.sidOf (Cert.KernelIdeal.Whole.pts m c), fun _ => Cert.KernelIdeal.Whole.own,
    fun c => Cert.KernelIdeal.Whole.sidOf (Cert.KernelIdeal.Whole.eigOf (Cert.KernelIdeal.Whole.pts m c)), fun _ => Cert.KernelIdeal.Whole.own,
    fun c => Cert.KernelIdeal.Whole.eigOf (Cert.KernelIdeal.Whole.pts m c), fun c => Cert.KernelIdeal.Whole.vecOf (Cert.KernelIdeal.Whole.pts m c), ?_, ?_⟩
  · refine (θ_run Cert.KernelIdeal.defs _ _).mono (fun r h c => ?_) (Cert.KernelIdeal.Whole.run (F := Ideal) m g)
    have hX := real_of_finite _ (hpre c)
    have hb := fun (b : Ref Cert.KernelIdeal.sig .tc) hs => h.1 c _ (Cert.KernelIdeal.Whole.mem_uc b hs)
    exact ⟨(hb Cert.KernelIdeal.main_v2 (by decide)).trans (Cert.KernelIdeal.Whole.end_v2 m g c hX),
      (hb Cert.KernelIdeal.main_v5 (by decide)).trans (Cert.KernelIdeal.Whole.end_v5 m g c),
      (hb Cert.KernelIdeal.main_v37 (by decide)).trans (Cert.KernelIdeal.Whole.end_v37 m g c hX),
      (hb Cert.KernelIdeal.main_v5 (by decide)).trans (Cert.KernelIdeal.Whole.end_v5 m g c),
      (hb Cert.KernelIdeal.main_v33 (by decide)).trans (Cert.KernelIdeal.Whole.end_v33 m g c hX),
      (hb Cert.KernelIdeal.main_v34 (by decide)).trans (Cert.KernelIdeal.Whole.end_v34 m g c hX),
      (hb Cert.KernelIdeal.main_arg0 (by decide)).trans (Cert.KernelIdeal.Whole.W7_main_arg0 m g c)⟩
  · refine (θ_run Cert.ReferenceIdeal.defs _ _).mono (fun r h c => ?_) (Cert.ReferenceIdeal.Jacobi.run (F := Ideal) m' g')
    have hp : refPts m' c = Cert.KernelIdeal.Whole.pts m c := hag c
    exact ⟨(h c Cert.ReferenceIdeal.main_v21 rfl).trans ((ref_sid m' c).trans (by rw [hp])),
      (h c Cert.ReferenceIdeal.main_v24 rfl).trans (Cert.ReferenceIdeal.Jacobi.fin_v24 m' c),
      (h c Cert.ReferenceIdeal.main_v87 rfl).trans ((ref_sid_eig m' c).trans (by rw [hp])),
      (h c Cert.ReferenceIdeal.main_v90 rfl).trans (Cert.ReferenceIdeal.Jacobi.fin_v90 m' c),
      (h c Cert.ReferenceIdeal.main_v65 rfl).trans ((ref_eig m' c).trans (by rw [hp])),
      (h c Cert.ReferenceIdeal.main_v66 rfl).trans ((ref_vec m' c).trans (by rw [hp])),
      (h c Cert.ReferenceIdeal.main_arg0 rfl).trans (Cert.ReferenceIdeal.Jacobi.fin_unwritten m' c)⟩

/-- Everything claimed, in the order `Cert.Claim` states it. -/
theorem claim : Cert.Claim := ⟨Cert.Kernel.Gen.facts, Cert.KernelIdeal.Gen.facts, Cert.ReferenceIdeal.Gen.facts, Cert.Pre_finite.Gen.facts,
  fun m g _ => Cert.Kernel.Whole.frame m g, fun m g _ => Cert.KernelIdeal.Whole.frame m g, fun m g _ => Cert.KernelIdeal.Whole.frame m g,
  frame_reference, fun m g _ => frame_reference m g trivial, preserves, algebraic⟩

end Cert.Proof

end
